-- ==== Defs.lean ====
def Pre_Kernel [hPre_mid_in_range : Cert.Pre_mid_in_range.Facts] (m : (ℓ : Loc Cert.Kernel.nD Cert.Kernel.τ Cert.Kernel.sig) → Buf (Elt Bits) ℓ) : Prop :=
  ∀ c : Dev Cert.Kernel.nD,
    (Cert.Pre_mid_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_mid_in_range : Cert.Pre_mid_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_mid_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_mid_in_range : Cert.Pre_mid_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mid_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_mid_in_range : Cert.Pre_mid_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_mid_in_range : Cert.Pre_mid_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] [hPre_mid_in_range : Cert.Pre_mid_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] [hPre_mid_in_range : Cert.Pre_mid_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v172) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_mid_in_range : Cert.Pre_mid_in_range.Facts),
    quiescent_Kernel (hKernel := hKernel) (hPre_mid_in_range := hPre_mid_in_range)
    ∧ quiescent_KernelIdeal (hKernelIdeal := hKernelIdeal) (hPre_mid_in_range := hPre_mid_in_range)
    ∧ quiescent_ReferenceIdeal (hReferenceIdeal := hReferenceIdeal) (hPre_mid_in_range := hPre_mid_in_range)
    ∧ preserves_Kernel_KernelIdeal
    ∧ algebraic_KernelIdeal_ReferenceIdeal (hKernelIdeal := hKernelIdeal) (hReferenceIdeal := hReferenceIdeal) (hPre_mid_in_range := hPre_mid_in_range)
-- ==== Pre_mid_in_range.lean ====
abbrev S24x1024x28x128 : Shape := ⟨4, ![24, 1024, 28, 128]⟩
abbrev S24x1024x28 : Shape := ⟨3, ![24, 1024, 28]⟩
abbrev S28672x4x128 : Shape := ⟨3, ![28672, 4, 128]⟩
abbrev S28672x4 : Shape := ⟨2, ![28672, 4]⟩
abbrev S24x1024x4x128 : Shape := ⟨4, ![24, 1024, 4, 128]⟩
abbrev S24x1024x4 : Shape := ⟨3, ![24, 1024, 4]⟩
abbrev S3x384x4x128 : Shape := ⟨4, ![3, 384, 4, 128]⟩
abbrev S3x384x4 : Shape := ⟨3, ![3, 384, 4]⟩
abbrev S24 : Shape := ⟨1, ![24]⟩
abbrev S_ : Shape := ⟨0, ![]⟩

class Facts : Prop where
  bcast_S_S24 : S_.BroadcastsInDim S24 (![] : Fin 0 → Fin S24.rank)

variable [Facts]

def fn {F : FTy → Type} [FloatOps F] (main_arg0 : FVec F S24x1024x28x128 .fp8e4m3) (main_arg1 : FVec F S24x1024x28 .f32) (main_arg2 : FVec F S28672x4x128 .fp8e4m3) (main_arg3 : FVec F S28672x4x128 .fp8e4m3) (main_arg4 : FVec F S28672x4 .f32) (main_arg5 : FVec F S28672x4 .f32) (main_arg6 : FVec F S24x1024x4x128 .fp8e4m3) (main_arg7 : FVec F S24x1024x4x128 .fp8e4m3) (main_arg8 : FVec F S24x1024x4 .f32) (main_arg9 : FVec F S24x1024x4 .f32) (main_arg10 : FVec F S3x384x4x128 .fp8e4m3) (main_arg11 : FVec F S3x384x4x128 .fp8e4m3) (main_arg12 : FVec F S3x384x4 .f32) (main_arg13 : FVec F S3x384x4 .f32) (main_arg14 : IVec S24 32) : IVec S24 1 :=
  let main_c : IVec S_ 32 := constantI S_ 32 0#32
  let main_v0 : IVec S24 32 := broadcastInDim S24 ![] bcast_S_S24 main_c
  let main_v1 : IVec S24 1 := cmpi .sge main_arg14 main_v0
  let main_c_0 : IVec S_ 32 := constantI S_ 32 3#32
  let main_v2 : IVec S24 32 := broadcastInDim S24 ![] bcast_S_S24 main_c_0
  let main_v3 : IVec S24 1 := cmpi .slt main_arg14 main_v2
  let main_v4 : IVec S24 1 := andi main_v1 main_v3
  main_v4
-- ==== Kernel.lean ====
abbrev S24x1024x28x128 : Shape := ⟨4, ![24, 1024, 28, 128]⟩
abbrev S24x1024x28 : Shape := ⟨3, ![24, 1024, 28]⟩
abbrev S28672x4x128 : Shape := ⟨3, ![28672, 4, 128]⟩
abbrev S28672x4 : Shape := ⟨2, ![28672, 4]⟩
abbrev S24x1024x4x128 : Shape := ⟨4, ![24, 1024, 4, 128]⟩
abbrev S24x1024x4 : Shape := ⟨3, ![24, 1024, 4]⟩
abbrev S3x384x4x128 : Shape := ⟨4, ![3, 384, 4, 128]⟩
abbrev S3x384x4 : Shape := ⟨3, ![3, 384, 4]⟩
abbrev S24 : Shape := ⟨1, ![24]⟩
abbrev S24x1024x3584 : Shape := ⟨3, ![24, 1024, 3584]⟩
abbrev S24x28x1024 : Shape := ⟨3, ![24, 28, 1024]⟩
abbrev S24x28x1x1024 : Shape := ⟨4, ![24, 28, 1, 1024]⟩
abbrev S4x28672x128 : Shape := ⟨3, ![4, 28672, 128]⟩
abbrev S4x28672 : Shape := ⟨2, ![4, 28672]⟩
abbrev S4x28672x1 : Shape := ⟨3, ![4, 28672, 1]⟩
abbrev S4x128x28672 : Shape := ⟨3, ![4, 128, 28672]⟩
abbrev S4x1x28672 : Shape := ⟨3, ![4, 1, 28672]⟩
abbrev S24x4x1024x128 : Shape := ⟨4, ![24, 4, 1024, 128]⟩
abbrev S24x4x1024 : Shape := ⟨3, ![24, 4, 1024]⟩
abbrev S24x4x1024x1 : Shape := ⟨4, ![24, 4, 1024, 1]⟩
abbrev S24x4x128x1024 : Shape := ⟨4, ![24, 4, 128, 1024]⟩
abbrev S24x4x1x1024 : Shape := ⟨4, ![24, 4, 1, 1024]⟩
abbrev S3x4x384x128 : Shape := ⟨4, ![3, 4, 384, 128]⟩
abbrev S3x4x384 : Shape := ⟨3, ![3, 4, 384]⟩
abbrev S3x4x384x1 : Shape := ⟨4, ![3, 4, 384, 1]⟩
abbrev S3x4x128x384 : Shape := ⟨4, ![3, 4, 128, 384]⟩
abbrev S3x4x1x384 : Shape := ⟨4, ![3, 4, 1, 384]⟩
abbrev S1x1024x128 : Shape := ⟨3, ![1, 1024, 128]⟩
abbrev S1x28672x128 : Shape := ⟨3, ![1, 28672, 128]⟩
abbrev S1x128x28672 : Shape := ⟨3, ![1, 128, 28672]⟩
abbrev S1x1x28672 : Shape := ⟨3, ![1, 1, 28672]⟩
abbrev S1x1x1x1024 : Shape := ⟨4, ![1, 1, 1, 1024]⟩
abbrev S1x1x1024x128 : Shape := ⟨4, ![1, 1, 1024, 128]⟩
abbrev S1x1x128x1024 : Shape := ⟨4, ![1, 1, 128, 1024]⟩
abbrev S1x1x384x128 : Shape := ⟨4, ![1, 1, 384, 128]⟩
abbrev S1 : Shape := ⟨1, ![1]⟩
abbrev S1x1x128x384 : Shape := ⟨4, ![1, 1, 128, 384]⟩
abbrev S1x1x1x384 : Shape := ⟨4, ![1, 1, 1, 384]⟩
abbrev S1x256x128 : Shape := ⟨3, ![1, 256, 128]⟩
abbrev S256x128 : Shape := ⟨2, ![256, 128]⟩
abbrev S1x1x1x256 : Shape := ⟨4, ![1, 1, 1, 256]⟩
abbrev S1x256 : Shape := ⟨2, ![1, 256]⟩
abbrev S128x256 : Shape := ⟨2, ![128, 256]⟩
abbrev S1x512x128 : Shape := ⟨3, ![1, 512, 128]⟩
abbrev S512x128 : Shape := ⟨2, ![512, 128]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩
abbrev S512x256 : Shape := ⟨2, ![512, 256]⟩
abbrev S256 : Shape := ⟨1, ![256]⟩
abbrev S1x1x256x128 : Shape := ⟨4, ![1, 1, 256, 128]⟩
abbrev S1x1x128x256 : Shape := ⟨4, ![1, 1, 128, 256]⟩
abbrev S256x256 : Shape := ⟨2, ![256, 256]⟩
abbrev S384x128 : Shape := ⟨2, ![384, 128]⟩
abbrev S128x384 : Shape := ⟨2, ![128, 384]⟩
abbrev S1x384 : Shape := ⟨2, ![1, 384]⟩
abbrev S384x256 : Shape := ⟨2, ![384, 256]⟩

abbrev nBuf : Space → Nat
  | .hbm => 48
  | .vmem => 32
  | .smem => 1
  | _ => 0

abbrev bufTy : (tb : Table) → Fin (tcTables nBuf tb) → BufTy
  | .hbm, ⟨0, _⟩ => ⟨S24x1024x28x128, .fp8e4m3⟩
  | .hbm, ⟨1, _⟩ => ⟨S24x1024x28, .f32⟩
  | .hbm, ⟨2, _⟩ => ⟨S28672x4x128, .fp8e4m3⟩
  | .hbm, ⟨3, _⟩ => ⟨S28672x4x128, .fp8e4m3⟩
  | .hbm, ⟨4, _⟩ => ⟨S28672x4, .f32⟩
  | .hbm, ⟨5, _⟩ => ⟨S28672x4, .f32⟩
  | .hbm, ⟨6, _⟩ => ⟨S24x1024x4x128, .fp8e4m3⟩
  | .hbm, ⟨7, _⟩ => ⟨S24x1024x4x128, .fp8e4m3⟩
  | .hbm, ⟨8, _⟩ => ⟨S24x1024x4, .f32⟩
  | .hbm, ⟨9, _⟩ => ⟨S24x1024x4, .f32⟩
  | .hbm, ⟨10, _⟩ => ⟨S3x384x4x128, .fp8e4m3⟩
  | .hbm, ⟨11, _⟩ => ⟨S3x384x4x128, .fp8e4m3⟩
  | .hbm, ⟨12, _⟩ => ⟨S3x384x4, .f32⟩
  | .hbm, ⟨13, _⟩ => ⟨S3x384x4, .f32⟩
  | .hbm, ⟨14, _⟩ => ⟨S24x1024x3584, .fp8e4m3⟩
  | .hbm, ⟨15, _⟩ => ⟨S24x28x1024, .f32⟩
  | .hbm, ⟨16, _⟩ => ⟨S24x28x1x1024, .f32⟩
  | .hbm, ⟨17, _⟩ => ⟨S4x28672x128, .fp8e4m3⟩
  | .hbm, ⟨18, _⟩ => ⟨S4x28672, .f32⟩
  | .hbm, ⟨19, _⟩ => ⟨S4x28672x1, .f32⟩
  | .hbm, ⟨20, _⟩ => ⟨S4x28672x128, .f32⟩
  | .hbm, ⟨21, _⟩ => ⟨S4x128x28672, .fp8e4m3⟩
  | .hbm, ⟨22, _⟩ => ⟨S4x28672, .f32⟩
  | .hbm, ⟨23, _⟩ => ⟨S4x1x28672, .f32⟩
  | .hbm, ⟨24, _⟩ => ⟨S24x4x1024x128, .fp8e4m3⟩
  | .hbm, ⟨25, _⟩ => ⟨S24x4x1024, .f32⟩
  | .hbm, ⟨26, _⟩ => ⟨S24x4x1024x1, .f32⟩
  | .hbm, ⟨27, _⟩ => ⟨S24x4x1024x128, .f32⟩
  | .hbm, ⟨28, _⟩ => ⟨S24x4x128x1024, .fp8e4m3⟩
  | .hbm, ⟨29, _⟩ => ⟨S24x4x1024, .f32⟩
  | .hbm, ⟨30, _⟩ => ⟨S24x4x1x1024, .f32⟩
  | .hbm, ⟨31, _⟩ => ⟨S3x4x384x128, .fp8e4m3⟩
  | .hbm, ⟨32, _⟩ => ⟨S3x4x384, .f32⟩
  | .hbm, ⟨33, _⟩ => ⟨S3x4x384x1, .f32⟩
  | .hbm, ⟨34, _⟩ => ⟨S3x4x384x128, .f32⟩
  | .hbm, ⟨35, _⟩ => ⟨S3x4x128x384, .fp8e4m3⟩
  | .hbm, ⟨36, _⟩ => ⟨S3x4x384, .f32⟩
  | .hbm, ⟨37, _⟩ => ⟨S3x4x1x384, .f32⟩
  | .hbm, ⟨38, _⟩ => ⟨S24x1024x3584, .bf16⟩
  | .hbm, ⟨39, _⟩ => ⟨S24x28x1x1024, .f32⟩
  | .hbm, ⟨40, _⟩ => ⟨S24x28x1x1024, .f32⟩
  | .hbm, ⟨41, _⟩ => ⟨S24x28x1x1024, .f32⟩
  | .hbm, ⟨42, _⟩ => ⟨S24x28x1024, .f32⟩
  | .hbm, ⟨43, _⟩ => ⟨S24x1024x28, .f32⟩
  | .hbm, ⟨44, _⟩ => ⟨S24x28x1024, .f32⟩
  | .hbm, ⟨45, _⟩ => ⟨S24x1024x28, .f32⟩
  | .hbm, ⟨46, _⟩ => ⟨S24x28x1024, .f32⟩
  | .hbm, ⟨47, _⟩ => ⟨S24x1024x28, .f32⟩
  | .local _ .vmem, ⟨0, _⟩ => ⟨S1x1024x128, .fp8e4m3⟩
  | .local _ .vmem, ⟨1, _⟩ => ⟨S1x1024x128, .fp8e4m3⟩
  | .local _ .vmem, ⟨2, _⟩ => ⟨S1x28672x128, .fp8e4m3⟩
  | .local _ .vmem, ⟨3, _⟩ => ⟨S1x28672x128, .f32⟩
  | .local _ .vmem, ⟨4, _⟩ => ⟨S1x128x28672, .fp8e4m3⟩
  | .local _ .vmem, ⟨5, _⟩ => ⟨S1x1x28672, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1024x128, .fp8e4m3⟩
  | .local _ .vmem, ⟨9, _⟩ => ⟨S1x1x1024x128, .fp8e4m3⟩
  | .local _ .vmem, ⟨10, _⟩ => ⟨S1x1x1024x128, .f32⟩
  | .local _ .vmem, ⟨11, _⟩ => ⟨S1x1x1024x128, .f32⟩
  | .local _ .vmem, ⟨12, _⟩ => ⟨S1x1x128x1024, .fp8e4m3⟩
  | .local _ .vmem, ⟨13, _⟩ => ⟨S1x1x128x1024, .fp8e4m3⟩
  | .local _ .vmem, ⟨14, _⟩ => ⟨S1x1x1x1024, .f32⟩
  | .local _ .vmem, ⟨15, _⟩ => ⟨S1x1x1x1024, .f32⟩
  | .local _ .vmem, ⟨16, _⟩ => ⟨S1x1x384x128, .fp8e4m3⟩
  | .local _ .vmem, ⟨17, _⟩ => ⟨S1x1x384x128, .fp8e4m3⟩
  | .local _ .vmem, ⟨18, _⟩ => ⟨S1x1x384x128, .f32⟩
  | .local _ .vmem, ⟨19, _⟩ => ⟨S1x1x384x128, .f32⟩
  | .local _ .vmem, ⟨20, _⟩ => ⟨S1x1x128x384, .fp8e4m3⟩
  | .local _ .vmem, ⟨21, _⟩ => ⟨S1x1x128x384, .fp8e4m3⟩
  | .local _ .vmem, ⟨22, _⟩ => ⟨S1x1x1x384, .f32⟩
  | .local _ .vmem, ⟨23, _⟩ => ⟨S1x1x1x384, .f32⟩
  | .local _ .vmem, ⟨24, _⟩ => ⟨S1x1024x128, .bf16⟩
  | .local _ .vmem, ⟨25, _⟩ => ⟨S1x1024x128, .bf16⟩
  | .local _ .vmem, ⟨26, _⟩ => ⟨S1x1x1x1024, .f32⟩
  | .local _ .vmem, ⟨27, _⟩ => ⟨S1x1x1x1024, .f32⟩
  | .local _ .vmem, ⟨28, _⟩ => ⟨S1x1x1x1024, .f32⟩
  | .local _ .vmem, ⟨29, _⟩ => ⟨S1x1x1x1024, .f32⟩
  | .local _ .vmem, ⟨30, _⟩ => ⟨S1x1x1x1024, .f32⟩
  | .local _ .vmem, ⟨31, _⟩ => ⟨S1x1x1x1024, .f32⟩
  | .local _ .smem, ⟨0, _⟩ => ⟨S24, .i32⟩
  | _, _ => ⟨S24x1024x28x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_arg14 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨3, ![4, 24, 7], ![false, false, false]⟩

abbrev pre0 : Pipeline.Prefetch sig := ⟨1, ![main_arg14.idx], fun | 0 => main_arg14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32 : BitVec 32 := 0#32
  let c56_i32 : BitVec 32 := 56#32
  let v9 : BitVec 32 := Scalar.addi c0_i32 c56_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg22 : BitVec 32 := Scf.iv c0_i32 c1_i32 k0_t1
  let c512_i32 : BitVec 32 := 512#32
  let v524 : BitVec 32 := Scalar.muli arg22 c512_i32
  v524
def k0_off2 (k0_t1 : Fin k0_t1_loop.trips) : Fin 3 → Nat :=
  let c0_283 : Index := 0#32
  let c0_i32 : BitVec 32 := 0#32
  let c1_i32 : BitVec 32 := 1#32
  let arg22 : BitVec 32 := Scf.iv c0_i32 c1_i32 k0_t1
  let c512_i32 : BitVec 32 := 512#32
  let v524 : BitVec 32 := Scalar.muli arg22 c512_i32
  let v525 : BitVec 32 := v524
  let v526 : Index := Scalar.indexCast v525
  let c0_284 : Index := 0#32
  ![0, v526.toNat, 0]
def k0_off3 (k0_t1 : Fin k0_t1_loop.trips) : Fin 3 → Nat :=
  let c0_287 : Index := 0#32
  let c0_288 : Index := 0#32
  let c0_i32 : BitVec 32 := 0#32
  let c1_i32 : BitVec 32 := 1#32
  let arg22 : BitVec 32 := Scf.iv c0_i32 c1_i32 k0_t1
  let c512_i32 : BitVec 32 := 512#32
  let v524 : BitVec 32 := Scalar.muli arg22 c512_i32
  let v525 : BitVec 32 := v524
  let v532 : Index := Scalar.indexCast v525
  ![0, 0, v532.toNat]
def k0_off4 (k0_t1 : Fin k0_t1_loop.trips) : Fin 3 → Nat :=
  let c0_289 : Index := 0#32
  let c0_290 : Index := 0#32
  let c0_i32 : BitVec 32 := 0#32
  let c1_i32 : BitVec 32 := 1#32
  let arg22 : BitVec 32 := Scf.iv c0_i32 c1_i32 k0_t1
  let c512_i32 : BitVec 32 := 512#32
  let v524 : BitVec 32 := Scalar.muli arg22 c512_i32
  let v525 : BitVec 32 := v524
  let v535 : Index := Scalar.indexCast v525
  ![0, 0, v535.toNat]
def k0_mult2 : BitVec 32 :=
  let c0_i32_13 : BitVec 32 := 0#32
  let c256_i32 : BitVec 32 := 256#32
  let v14 : BitVec 32 := Scalar.muli c0_i32_13 c256_i32
  v14
def k0_off5 : Fin 4 → Nat :=
  let c0_14 : Index := 0#32
  let c0_15 : Index := 0#32
  let c0_i32_13 : BitVec 32 := 0#32
  let c256_i32 : BitVec 32 := 256#32
  let v14 : BitVec 32 := Scalar.muli c0_i32_13 c256_i32
  let v15 : BitVec 32 := v14
  let v16 : Index := Scalar.indexCast v15
  let c0_16 : Index := 0#32
  ![0, 0, v16.toNat, 0]
def k0_off6 : Fin 4 → Nat :=
  let c0_20 : Index := 0#32
  let c0_21 : Index := 0#32
  let c0_22 : Index := 0#32
  let c0_i32_13 : BitVec 32 := 0#32
  let c256_i32 : BitVec 32 := 256#32
  let v14 : BitVec 32 := Scalar.muli c0_i32_13 c256_i32
  let v15 : BitVec 32 := v14
  let v22 : Index := Scalar.indexCast v15
  ![0, 0, 0, v22.toNat]
def k0_off7 : Fin 4 → Nat :=
  let c0_23 : Index := 0#32
  let c0_24 : Index := 0#32
  let c0_25 : Index := 0#32
  let c0_i32_13 : BitVec 32 := 0#32
  let c256_i32 : BitVec 32 := 256#32
  let v14 : BitVec 32 := Scalar.muli c0_i32_13 c256_i32
  let v15 : BitVec 32 := v14
  let v25 : Index := Scalar.indexCast v15
  ![0, 0, 0, v25.toNat]
@[reducible] def k0_t2_loop : Scf.Loop 32 :=
  let c0_i32_92 : BitVec 32 := 0#32
  let c56_i32_93 : BitVec 32 := 56#32
  let v176 : BitVec 32 := Scalar.addi c0_i32_92 c56_i32_93
  let c1_i32_94 : BitVec 32 := 1#32
  ⟨c0_i32_92, v176, c1_i32_94⟩
def k0_mult3 (k0_t2 : Fin k0_t2_loop.trips) : BitVec 32 :=
  let c0_i32_92 : BitVec 32 := 0#32
  let c1_i32_94 : BitVec 32 := 1#32
  let arg22 : BitVec 32 := Scf.iv c0_i32_92 c1_i32_94 k0_t2
  let c512_i32 : BitVec 32 := 512#32
  let v524 : BitVec 32 := Scalar.muli arg22 c512_i32
  v524
def k0_off8 (k0_t2 : Fin k0_t2_loop.trips) : Fin 3 → Nat :=
  let c0_283 : Index := 0#32
  let c0_i32_92 : BitVec 32 := 0#32
  let c1_i32_94 : BitVec 32 := 1#32
  let arg22 : BitVec 32 := Scf.iv c0_i32_92 c1_i32_94 k0_t2
  let c512_i32 : BitVec 32 := 512#32
  let v524 : BitVec 32 := Scalar.muli arg22 c512_i32
  let v525 : BitVec 32 := v524
  let v526 : Index := Scalar.indexCast v525
  let c0_284 : Index := 0#32
  ![0, v526.toNat, 0]
def k0_off9 (k0_t2 : Fin k0_t2_loop.trips) : Fin 3 → Nat :=
  let c0_287 : Index := 0#32
  let c0_288 : Index := 0#32
  let c0_i32_92 : BitVec 32 := 0#32
  let c1_i32_94 : BitVec 32 := 1#32
  let arg22 : BitVec 32 := Scf.iv c0_i32_92 c1_i32_94 k0_t2
  let c512_i32 : BitVec 32 := 512#32
  let v524 : BitVec 32 := Scalar.muli arg22 c512_i32
  let v525 : BitVec 32 := v524
  let v532 : Index := Scalar.indexCast v525
  ![0, 0, v532.toNat]
def k0_off10 (k0_t2 : Fin k0_t2_loop.trips) : Fin 3 → Nat :=
  let c0_289 : Index := 0#32
  let c0_290 : Index := 0#32
  let c0_i32_92 : BitVec 32 := 0#32
  let c1_i32_94 : BitVec 32 := 1#32
  let arg22 : BitVec 32 := Scf.iv c0_i32_92 c1_i32_94 k0_t2
  let c512_i32 : BitVec 32 := 512#32
  let v524 : BitVec 32 := Scalar.muli arg22 c512_i32
  let v525 : BitVec 32 := v524
  let v535 : Index := Scalar.indexCast v525
  ![0, 0, v535.toNat]
@[reducible] def k0_t3_loop : Scf.Loop 32 :=
  let c0_i32_99 : BitVec 32 := 0#32
  let c2_i32 : BitVec 32 := 2#32
  let v181 : BitVec 32 := Scalar.addi c0_i32_99 c2_i32
  let c1_i32_100 : BitVec 32 := 1#32
  ⟨c0_i32_99, v181, c1_i32_100⟩
def k0_mult4 (k0_t3 : Fin k0_t3_loop.trips) : BitVec 32 :=
  let c0_i32_99 : BitVec 32 := 0#32
  let c1_i32_100 : BitVec 32 := 1#32
  let arg22 : BitVec 32 := Scf.iv c0_i32_99 c1_i32_100 k0_t3
  let c256_i32_283 : BitVec 32 := 256#32
  let v524 : BitVec 32 := Scalar.muli arg22 c256_i32_283
  v524
def k0_off11 (k0_t3 : Fin k0_t3_loop.trips) : Fin 4 → Nat :=
  let c0_284 : Index := 0#32
  let c0_285 : Index := 0#32
  let c0_i32_99 : BitVec 32 := 0#32
  let c1_i32_100 : BitVec 32 := 1#32
  let arg22 : BitVec 32 := Scf.iv c0_i32_99 c1_i32_100 k0_t3
  let c256_i32_283 : BitVec 32 := 256#32
  let v524 : BitVec 32 := Scalar.muli arg22 c256_i32_283
  let v525 : BitVec 32 := v524
  let v526 : Index := Scalar.indexCast v525
  let c0_286 : Index := 0#32
  ![0, 0, v526.toNat, 0]
def k0_off12 (k0_t3 : Fin k0_t3_loop.trips) : Fin 4 → Nat :=
  let c0_290 : Index := 0#32
  let c0_291 : Index := 0#32
  let c0_292 : Index := 0#32
  let c0_i32_99 : BitVec 32 := 0#32
  let c1_i32_100 : BitVec 32 := 1#32
  let arg22 : BitVec 32 := Scf.iv c0_i32_99 c1_i32_100 k0_t3
  let c256_i32_283 : BitVec 32 := 256#32
  let v524 : BitVec 32 := Scalar.muli arg22 c256_i32_283
  let v525 : BitVec 32 := v524
  let v532 : Index := Scalar.indexCast v525
  ![0, 0, 0, v532.toNat]
def k0_off13 (k0_t3 : Fin k0_t3_loop.trips) : Fin 4 → Nat :=
  let c0_293 : Index := 0#32
  let c0_294 : Index := 0#32
  let c0_295 : Index := 0#32
  let c0_i32_99 : BitVec 32 := 0#32
  let c1_i32_100 : BitVec 32 := 1#32
  let arg22 : BitVec 32 := Scf.iv c0_i32_99 c1_i32_100 k0_t3
  let c256_i32_283 : BitVec 32 := 256#32
  let v524 : BitVec 32 := Scalar.muli arg22 c256_i32_283
  let v525 : BitVec 32 := v524
  let v535 : Index := Scalar.indexCast v525
  ![0, 0, 0, v535.toNat]
@[reducible] def k0_t4_loop : Scf.Loop 32 :=
  let c0_i32_159 : BitVec 32 := 0#32
  let c56_i32_160 : BitVec 32 := 56#32
  let v295 : BitVec 32 := Scalar.addi c0_i32_159 c56_i32_160
  let c1_i32_161 : BitVec 32 := 1#32
  ⟨c0_i32_159, v295, c1_i32_161⟩
def k0_mult5 (k0_t4 : Fin k0_t4_loop.trips) : BitVec 32 :=
  let c0_i32_159 : BitVec 32 := 0#32
  let c1_i32_161 : BitVec 32 := 1#32
  let arg22 : BitVec 32 := Scf.iv c0_i32_159 c1_i32_161 k0_t4
  let c512_i32 : BitVec 32 := 512#32
  let v524 : BitVec 32 := Scalar.muli arg22 c512_i32
  v524
def k0_off14 (k0_t4 : Fin k0_t4_loop.trips) : Fin 3 → Nat :=
  let c0_283 : Index := 0#32
  let c0_i32_159 : BitVec 32 := 0#32
  let c1_i32_161 : BitVec 32 := 1#32
  let arg22 : BitVec 32 := Scf.iv c0_i32_159 c1_i32_161 k0_t4
  let c512_i32 : BitVec 32 := 512#32
  let v524 : BitVec 32 := Scalar.muli arg22 c512_i32
  let v525 : BitVec 32 := v524
  let v526 : Index := Scalar.indexCast v525
  let c0_284 : Index := 0#32
  ![0, v526.toNat, 0]
def k0_off15 (k0_t4 : Fin k0_t4_loop.trips) : Fin 3 → Nat :=
  let c0_287 : Index := 0#32
  let c0_288 : Index := 0#32
  let c0_i32_159 : BitVec 32 := 0#32
  let c1_i32_161 : BitVec 32 := 1#32
  let arg22 : BitVec 32 := Scf.iv c0_i32_159 c1_i32_161 k0_t4
  let c512_i32 : BitVec 32 := 512#32
  let v524 : BitVec 32 := Scalar.muli arg22 c512_i32
  let v525 : BitVec 32 := v524
  let v532 : Index := Scalar.indexCast v525
  ![0, 0, v532.toNat]
def k0_off16 (k0_t4 : Fin k0_t4_loop.trips) : Fin 3 → Nat :=
  let c0_289 : Index := 0#32
  let c0_290 : Index := 0#32
  let c0_i32_159 : BitVec 32 := 0#32
  let c1_i32_161 : BitVec 32 := 1#32
  let arg22 : BitVec 32 := Scf.iv c0_i32_159 c1_i32_161 k0_t4
  let c512_i32 : BitVec 32 := 512#32
  let v524 : BitVec 32 := Scalar.muli arg22 c512_i32
  let v525 : BitVec 32 := v524
  let v535 : Index := Scalar.indexCast v525
  ![0, 0, v535.toNat]
@[reducible] def k0_t5_loop : Scf.Loop 32 :=
  let c0_i32_166 : BitVec 32 := 0#32
  let c3_i32 : BitVec 32 := 3#32
  let v300 : BitVec 32 := Scalar.addi c0_i32_166 c3_i32
  let c1_i32_167 : BitVec 32 := 1#32
  ⟨c0_i32_166, v300, c1_i32_167⟩
def k0_mult6 (k0_t5 : Fin k0_t5_loop.trips) : BitVec 32 :=
  let c0_i32_166 : BitVec 32 := 0#32
  let c1_i32_167 : BitVec 32 := 1#32
  let arg22 : BitVec 32 := Scf.iv c0_i32_166 c1_i32_167 k0_t5
  let c256_i32_283 : BitVec 32 := 256#32
  let v524 : BitVec 32 := Scalar.muli arg22 c256_i32_283
  v524
def k0_off17 (k0_t5 : Fin k0_t5_loop.trips) : Fin 4 → Nat :=
  let c0_284 : Index := 0#32
  let c0_285 : Index := 0#32
  let c0_i32_166 : BitVec 32 := 0#32
  let c1_i32_167 : BitVec 32 := 1#32
  let arg22 : BitVec 32 := Scf.iv c0_i32_166 c1_i32_167 k0_t5
  let c256_i32_283 : BitVec 32 := 256#32
  let v524 : BitVec 32 := Scalar.muli arg22 c256_i32_283
  let v525 : BitVec 32 := v524
  let v526 : Index := Scalar.indexCast v525
  let c0_286 : Index := 0#32
  ![0, 0, v526.toNat, 0]
def k0_off18 (k0_t5 : Fin k0_t5_loop.trips) : Fin 4 → Nat :=
  let c0_290 : Index := 0#32
  let c0_291 : Index := 0#32
  let c0_292 : Index := 0#32
  let c0_i32_166 : BitVec 32 := 0#32
  let c1_i32_167 : BitVec 32 := 1#32
  let arg22 : BitVec 32 := Scf.iv c0_i32_166 c1_i32_167 k0_t5
  let c256_i32_283 : BitVec 32 := 256#32
  let v524 : BitVec 32 := Scalar.muli arg22 c256_i32_283
  let v525 : BitVec 32 := v524
  let v532 : Index := Scalar.indexCast v525
  ![0, 0, 0, v532.toNat]
def k0_off19 (k0_t5 : Fin k0_t5_loop.trips) : Fin 4 → Nat :=
  let c0_293 : Index := 0#32
  let c0_294 : Index := 0#32
  let c0_295 : Index := 0#32
  let c0_i32_166 : BitVec 32 := 0#32
  let c1_i32_167 : BitVec 32 := 1#32
  let arg22 : BitVec 32 := Scf.iv c0_i32_166 c1_i32_167 k0_t5
  let c256_i32_283 : BitVec 32 := 256#32
  let v524 : BitVec 32 := Scalar.muli arg22 c256_i32_283
  let v525 : BitVec 32 := v524
  let v535 : Index := Scalar.indexCast v525
  ![0, 0, 0, v535.toNat]
@[reducible] def k0_t6_loop : Scf.Loop 32 :=
  let c0_i32_226 : BitVec 32 := 0#32
  let c56_i32_227 : BitVec 32 := 56#32
  let v414 : BitVec 32 := Scalar.addi c0_i32_226 c56_i32_227
  let c1_i32_228 : BitVec 32 := 1#32
  ⟨c0_i32_226, v414, c1_i32_228⟩
def k0_mult7 (k0_t6 : Fin k0_t6_loop.trips) : BitVec 32 :=
  let c0_i32_226 : BitVec 32 := 0#32
  let c1_i32_228 : BitVec 32 := 1#32
  let arg22 : BitVec 32 := Scf.iv c0_i32_226 c1_i32_228 k0_t6
  let c512_i32 : BitVec 32 := 512#32
  let v524 : BitVec 32 := Scalar.muli arg22 c512_i32
  v524
def k0_off20 (k0_t6 : Fin k0_t6_loop.trips) : Fin 3 → Nat :=
  let c0_283 : Index := 0#32
  let c0_i32_226 : BitVec 32 := 0#32
  let c1_i32_228 : BitVec 32 := 1#32
  let arg22 : BitVec 32 := Scf.iv c0_i32_226 c1_i32_228 k0_t6
  let c512_i32 : BitVec 32 := 512#32
  let v524 : BitVec 32 := Scalar.muli arg22 c512_i32
  let v525 : BitVec 32 := v524
  let v526 : Index := Scalar.indexCast v525
  let c0_284 : Index := 0#32
  ![0, v526.toNat, 0]
def k0_off21 (k0_t6 : Fin k0_t6_loop.trips) : Fin 3 → Nat :=
  let c0_287 : Index := 0#32
  let c0_288 : Index := 0#32
  let c0_i32_226 : BitVec 32 := 0#32
  let c1_i32_228 : BitVec 32 := 1#32
  let arg22 : BitVec 32 := Scf.iv c0_i32_226 c1_i32_228 k0_t6
  let c512_i32 : BitVec 32 := 512#32
  let v524 : BitVec 32 := Scalar.muli arg22 c512_i32
  let v525 : BitVec 32 := v524
  let v532 : Index := Scalar.indexCast v525
  ![0, 0, v532.toNat]
def k0_off22 (k0_t6 : Fin k0_t6_loop.trips) : Fin 3 → Nat :=
  let c0_289 : Index := 0#32
  let c0_290 : Index := 0#32
  let c0_i32_226 : BitVec 32 := 0#32
  let c1_i32_228 : BitVec 32 := 1#32
  let arg22 : BitVec 32 := Scf.iv c0_i32_226 c1_i32_228 k0_t6
  let c512_i32 : BitVec 32 := 512#32
  let v524 : BitVec 32 := Scalar.muli arg22 c512_i32
  let v525 : BitVec 32 := v524
  let v535 : Index := Scalar.indexCast v525
  ![0, 0, v535.toNat]
@[reducible] def k0_t7_loop : Scf.Loop 32 :=
  let c0_i32_233 : BitVec 32 := 0#32
  let c4_i32 : BitVec 32 := 4#32
  let v419 : BitVec 32 := Scalar.addi c0_i32_233 c4_i32
  let c1_i32_234 : BitVec 32 := 1#32
  ⟨c0_i32_233, v419, c1_i32_234⟩
def k0_mult8 (k0_t7 : Fin k0_t7_loop.trips) : BitVec 32 :=
  let c0_i32_233 : BitVec 32 := 0#32
  let c1_i32_234 : BitVec 32 := 1#32
  let arg22 : BitVec 32 := Scf.iv c0_i32_233 c1_i32_234 k0_t7
  let c256_i32_283 : BitVec 32 := 256#32
  let v524 : BitVec 32 := Scalar.muli arg22 c256_i32_283
  v524
def k0_off23 (k0_t7 : Fin k0_t7_loop.trips) : Fin 4 → Nat :=
  let c0_284 : Index := 0#32
  let c0_285 : Index := 0#32
  let c0_i32_233 : BitVec 32 := 0#32
  let c1_i32_234 : BitVec 32 := 1#32
  let arg22 : BitVec 32 := Scf.iv c0_i32_233 c1_i32_234 k0_t7
  let c256_i32_283 : BitVec 32 := 256#32
  let v524 : BitVec 32 := Scalar.muli arg22 c256_i32_283
  let v525 : BitVec 32 := v524
  let v526 : Index := Scalar.indexCast v525
  let c0_286 : Index := 0#32
  ![0, 0, v526.toNat, 0]
def k0_off24 (k0_t7 : Fin k0_t7_loop.trips) : Fin 4 → Nat :=
  let c0_290 : Index := 0#32
  let c0_291 : Index := 0#32
  let c0_292 : Index := 0#32
  let c0_i32_233 : BitVec 32 := 0#32
  let c1_i32_234 : BitVec 32 := 1#32
  let arg22 : BitVec 32 := Scf.iv c0_i32_233 c1_i32_234 k0_t7
  let c256_i32_283 : BitVec 32 := 256#32
  let v524 : BitVec 32 := Scalar.muli arg22 c256_i32_283
  let v525 : BitVec 32 := v524
  let v532 : Index := Scalar.indexCast v525
  ![0, 0, 0, v532.toNat]
def k0_off25 (k0_t7 : Fin k0_t7_loop.trips) : Fin 4 → Nat :=
  let c0_293 : Index := 0#32
  let c0_294 : Index := 0#32
  let c0_295 : Index := 0#32
  let c0_i32_233 : BitVec 32 := 0#32
  let c1_i32_234 : BitVec 32 := 1#32
  let arg22 : BitVec 32 := Scf.iv c0_i32_233 c1_i32_234 k0_t7
  let c256_i32_283 : BitVec 32 := 256#32
  let v524 : BitVec 32 := Scalar.muli arg22 c256_i32_283
  let v525 : BitVec 32 := v524
  let v535 : Index := Scalar.indexCast v525
  ![0, 0, 0, v535.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg2
  let c0_i32 : BitVec 32 := 0#32
  let c0_i32_0 : BitVec 32 := 0#32
  ![arg1.toNat, c0_i32.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_10 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_11 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_12 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_13 (k0_off1_inb : ∀ i : grid0.Coords, ∀ a, (k0_off1 i) a + S1.size a ≤ S24.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg1
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg2
  let c0_i32 : BitVec 32 := 0#32
  let c0_i32_0 : BitVec 32 := 0#32
  ![arg1.toNat, c0_i32.toNat, v1.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

abbrev stage0_0 : Fin 2 → Memref sig .tc .vmem S1x1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x28672x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x28672x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 1 → Memref sig .tc .vmem S1x128x28672 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x1x28672 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x128x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x384x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x1x128x384 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x1x1x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "scale_log2e" => some (((11863283 / 134217728) * (Real.log 2)⁻¹ : ℝ) : EReal)
  | _ => none
-- ==== ReferenceIdeal.lean ====
abbrev S24x1024x28x128 : Shape := ⟨4, ![24, 1024, 28, 128]⟩
abbrev S24x1024x28 : Shape := ⟨3, ![24, 1024, 28]⟩
abbrev S28672x4x128 : Shape := ⟨3, ![28672, 4, 128]⟩
abbrev S28672x4 : Shape := ⟨2, ![28672, 4]⟩
abbrev S24x1024x4x128 : Shape := ⟨4, ![24, 1024, 4, 128]⟩
abbrev S24x1024x4 : Shape := ⟨3, ![24, 1024, 4]⟩
abbrev S3x384x4x128 : Shape := ⟨4, ![3, 384, 4, 128]⟩
abbrev S3x384x4 : Shape := ⟨3, ![3, 384, 4]⟩
abbrev S24 : Shape := ⟨1, ![24]⟩
abbrev S24x1024x4x7x128 : Shape := ⟨5, ![24, 1024, 4, 7, 128]⟩
abbrev S24x1024x4x7 : Shape := ⟨4, ![24, 1024, 4, 7]⟩
abbrev S24x4x1024x7 : Shape := ⟨4, ![24, 4, 1024, 7]⟩
abbrev S24x4x1024x7x1 : Shape := ⟨5, ![24, 4, 1024, 7, 1]⟩
abbrev S4x28672x24x1024x7 : Shape := ⟨5, ![4, 28672, 24, 1024, 7]⟩
abbrev S24x4x1024x7x28672 : Shape := ⟨5, ![24, 4, 1024, 7, 28672]⟩
abbrev S4x28672 : Shape := ⟨2, ![4, 28672]⟩
abbrev S1x4x1x1x28672 : Shape := ⟨5, ![1, 4, 1, 1, 28672]⟩
abbrev S_ : Shape := ⟨0, ![]⟩
abbrev S4x128x24x1024x7 : Shape := ⟨5, ![4, 128, 24, 1024, 7]⟩
abbrev S24x4x1024x7x128 : Shape := ⟨5, ![24, 4, 1024, 7, 128]⟩
abbrev S24x1 : Shape := ⟨2, ![24, 1]⟩
abbrev S24x384x4x128 : Shape := ⟨4, ![24, 384, 4, 128]⟩
abbrev S24x4x1024x7x384 : Shape := ⟨5, ![24, 4, 1024, 7, 384]⟩
abbrev S24x384x4 : Shape := ⟨3, ![24, 384, 4]⟩
abbrev S24x4x384 : Shape := ⟨3, ![24, 4, 384]⟩
abbrev S24x4x1x1x384 : Shape := ⟨5, ![24, 4, 1, 1, 384]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1x1x1024x1x1024 : Shape := ⟨5, ![1, 1, 1024, 1, 1024]⟩
abbrev S24x4x1024x7x1024 : Shape := ⟨5, ![24, 4, 1024, 7, 1024]⟩
abbrev S24x4x1024 : Shape := ⟨3, ![24, 4, 1024]⟩
abbrev S24x4x1x1x1024 : Shape := ⟨5, ![24, 4, 1, 1, 1024]⟩
abbrev S24x1024x3584 : Shape := ⟨3, ![24, 1024, 3584]⟩
abbrev S1x1024x1 : Shape := ⟨3, ![1, 1024, 1]⟩

abbrev nBuf : Space → Nat
  | .hbm => 218
  | .vmem => 14
  | .smem => 0
  | _ => 0

abbrev hbmTy0_0 (i : Nat) : BufTy := match i % 128 with
  | 0 => ⟨S24x1024x28x128, .fp8e4m3⟩
  | 1 => ⟨S24x1024x28, .f32⟩
  | 2 => ⟨S28672x4x128, .fp8e4m3⟩
  | 3 => ⟨S28672x4x128, .fp8e4m3⟩
  | 4 => ⟨S28672x4, .f32⟩
  | 5 => ⟨S28672x4, .f32⟩
  | 6 => ⟨S24x1024x4x128, .fp8e4m3⟩
  | 7 => ⟨S24x1024x4x128, .fp8e4m3⟩
  | 8 => ⟨S24x1024x4, .f32⟩
  | 9 => ⟨S24x1024x4, .f32⟩
  | 10 => ⟨S3x384x4x128, .fp8e4m3⟩
  | 11 => ⟨S3x384x4x128, .fp8e4m3⟩
  | 12 => ⟨S3x384x4, .f32⟩
  | 13 => ⟨S3x384x4, .f32⟩
  | 14 => ⟨S24, .i32⟩
  | 15 => ⟨S24x1024x28x128, .f32⟩
  | 16 => ⟨S28672x4x128, .f32⟩
  | 17 => ⟨S28672x4x128, .bf16⟩
  | 18 => ⟨S24x1024x4x128, .f32⟩
  | 19 => ⟨S24x1024x4x128, .bf16⟩
  | 20 => ⟨S3x384x4x128, .f32⟩
  | 21 => ⟨S3x384x4x128, .bf16⟩
  | 22 => ⟨S24x1024x4x7x128, .f32⟩
  | 23 => ⟨S24x1024x4x7, .f32⟩
  | 24 => ⟨S24x4x1024x7, .f32⟩
  | 25 => ⟨S24x4x1024x7x1, .f32⟩
  | 26 => ⟨S4x28672x24x1024x7, .f32⟩
  | 27 => ⟨S24x4x1024x7x28672, .f32⟩
  | 28 => ⟨S4x28672, .f32⟩
  | 29 => ⟨S1x4x1x1x28672, .f32⟩
  | 30 => ⟨S4x28672, .f32⟩
  | 31 => ⟨S1x4x1x1x28672, .f32⟩
  | 32 => ⟨S24x4x1024x7x28672, .f32⟩
  | 33 => ⟨S24x4x1024x7x28672, .f32⟩
  | 34 => ⟨S24x4x1024x7x28672, .f32⟩
  | 35 => ⟨S24x4x1024x7x28672, .f32⟩
  | 36 => ⟨S_, .f32⟩
  | 37 => ⟨S24x4x1024x7x28672, .f32⟩
  | 38 => ⟨S24x4x1024x7x28672, .f32⟩
  | 39 => ⟨S_, .f32⟩
  | 40 => ⟨S24x4x1024x7, .f32⟩
  | 41 => ⟨S24x4x1024x7x1, .f32⟩
  | 42 => ⟨S24x4x1024x7x28672, .f32⟩
  | 43 => ⟨S24x4x1024x7x28672, .f32⟩
  | 44 => ⟨S24x4x1024x7x28672, .f32⟩
  | 45 => ⟨S_, .f32⟩
  | 46 => ⟨S24x4x1024x7, .f32⟩
  | 47 => ⟨S24x4x1024x7x28672, .f32⟩
  | 48 => ⟨S24x4x1024x7x28672, .f32⟩
  | 49 => ⟨S24x4x1024x7x28672, .bf16⟩
  | 50 => ⟨S4x128x24x1024x7, .f32⟩
  | 51 => ⟨S24x4x1024x7x128, .f32⟩
  | 52 => ⟨S24x4x1024x7x1, .f32⟩
  | 53 => ⟨S24x4x1024x7x128, .f32⟩
  | 54 => ⟨S24x4x1024x7x128, .f32⟩
  | 55 => ⟨S24x4x1024x7, .f32⟩
  | 56 => ⟨S24x4x1024x7, .f32⟩
  | 57 => ⟨S24x4x1024x7, .f32⟩
  | 58 => ⟨S_, .i32⟩
  | 59 => ⟨S24, .i32⟩
  | 60 => ⟨S24, .i1⟩
  | 61 => ⟨S_, .i32⟩
  | 62 => ⟨S24, .i32⟩
  | 63 => ⟨S24, .i32⟩
  | 64 => ⟨S24, .i32⟩
  | 65 => ⟨S24x1, .i32⟩
  | 66 => ⟨S24x384x4x128, .f32⟩
  | 67 => ⟨S24x4x1024x7x384, .f32⟩
  | 68 => ⟨S_, .i32⟩
  | 69 => ⟨S24, .i32⟩
  | 70 => ⟨S24, .i1⟩
  | 71 => ⟨S_, .i32⟩
  | 72 => ⟨S24, .i32⟩
  | 73 => ⟨S24, .i32⟩
  | 74 => ⟨S24, .i32⟩
  | 75 => ⟨S24x1, .i32⟩
  | 76 => ⟨S24x384x4, .f32⟩
  | 77 => ⟨S24x4x384, .f32⟩
  | 78 => ⟨S24x4x1x1x384, .f32⟩
  | 79 => ⟨S_, .i32⟩
  | 80 => ⟨S24, .i32⟩
  | 81 => ⟨S24, .i1⟩
  | 82 => ⟨S_, .i32⟩
  | 83 => ⟨S24, .i32⟩
  | 84 => ⟨S24, .i32⟩
  | 85 => ⟨S24, .i32⟩
  | 86 => ⟨S24x1, .i32⟩
  | 87 => ⟨S24x384x4, .f32⟩
  | 88 => ⟨S24x4x384, .f32⟩
  | 89 => ⟨S24x4x1x1x384, .f32⟩
  | 90 => ⟨S_, .i32⟩
  | 91 => ⟨S24, .i32⟩
  | 92 => ⟨S24, .i1⟩
  | 93 => ⟨S_, .i32⟩
  | 94 => ⟨S24, .i32⟩
  | 95 => ⟨S24, .i32⟩
  | 96 => ⟨S24, .i32⟩
  | 97 => ⟨S24x1, .i32⟩
  | 98 => ⟨S24x384x4x128, .bf16⟩
  | 99 => ⟨S24x4x1024x7x384, .f32⟩
  | 100 => ⟨S24x4x1024x7x384, .f32⟩
  | 101 => ⟨S24x4x1024x7x384, .f32⟩
  | 102 => ⟨S24x4x1024x7x384, .f32⟩
  | 103 => ⟨S_, .f32⟩
  | 104 => ⟨S24x4x1024x7x384, .f32⟩
  | 105 => ⟨S24x4x1024x7x384, .f32⟩
  | 106 => ⟨S_, .f32⟩
  | 107 => ⟨S24x4x1024x7, .f32⟩
  | 108 => ⟨S24x4x1024x7x1, .f32⟩
  | 109 => ⟨S24x4x1024x7x384, .f32⟩
  | 110 => ⟨S24x4x1024x7x384, .f32⟩
  | 111 => ⟨S24x4x1024x7x384, .f32⟩
  | 112 => ⟨S_, .f32⟩
  | 113 => ⟨S24x4x1024x7, .f32⟩
  | 114 => ⟨S24x4x1024x7x384, .f32⟩
  | 115 => ⟨S24x4x1024x7x384, .f32⟩
  | 116 => ⟨S24x4x1024x7x384, .bf16⟩
  | 117 => ⟨S24x4x1024x7x128, .f32⟩
  | 118 => ⟨S24x4x1024x7x1, .f32⟩
  | 119 => ⟨S24x4x1024x7x128, .f32⟩
  | 120 => ⟨S24x4x1024x7x128, .f32⟩
  | 121 => ⟨S24x4x1024x7, .f32⟩
  | 122 => ⟨S24x4x1024x7, .f32⟩
  | 123 => ⟨S24x4x1024x7, .f32⟩
  | 124 => ⟨S1024, .i32⟩
  | 125 => ⟨S1x1024, .i32⟩
  | 126 => ⟨S1024x1, .i32⟩
  | 127 => ⟨S1024x1024, .i32⟩
  | _ => ⟨S24x1024x28x128, .fp8e4m3⟩

abbrev hbmTy0_1 (i : Nat) : BufTy := match i % 128 with
  | 0 => ⟨S1024x1024, .i32⟩
  | 1 => ⟨S1024x1024, .i1⟩
  | 2 => ⟨S1x1x1024x1x1024, .i1⟩
  | 3 => ⟨S24x4x1024x7x1024, .f32⟩
  | 4 => ⟨S24x4x1024, .f32⟩
  | 5 => ⟨S24x4x1x1x1024, .f32⟩
  | 6 => ⟨S24x4x1024, .f32⟩
  | 7 => ⟨S24x4x1x1x1024, .f32⟩
  | 8 => ⟨S24x4x1024x7x1024, .f32⟩
  | 9 => ⟨S24x4x1024x7x1024, .f32⟩
  | 10 => ⟨S24x4x1024x7x1024, .f32⟩
  | 11 => ⟨S24x4x1024x7x1024, .f32⟩
  | 12 => ⟨S_, .f32⟩
  | 13 => ⟨S24x4x1024x7x1024, .f32⟩
  | 14 => ⟨S24x4x1024x7x1024, .f32⟩
  | 15 => ⟨S_, .f32⟩
  | 16 => ⟨S_, .f32⟩
  | 17 => ⟨S24x4x1024x7x1024, .i1⟩
  | 18 => ⟨S24x4x1024x7x1024, .f32⟩
  | 19 => ⟨S24x4x1024x7x1024, .f32⟩
  | 20 => ⟨S_, .f32⟩
  | 21 => ⟨S24x4x1024x7, .f32⟩
  | 22 => ⟨S24x4x1024x7x1, .f32⟩
  | 23 => ⟨S24x4x1024x7x1024, .f32⟩
  | 24 => ⟨S24x4x1024x7x1024, .f32⟩
  | 25 => ⟨S24x4x1024x7x1024, .f32⟩
  | 26 => ⟨S_, .f32⟩
  | 27 => ⟨S24x4x1024x7, .f32⟩
  | 28 => ⟨S24x4x1024x7x1024, .f32⟩
  | 29 => ⟨S24x4x1024x7x1024, .f32⟩
  | 30 => ⟨S24x4x1024x7x1024, .bf16⟩
  | 31 => ⟨S24x4x1024x7x128, .f32⟩
  | 32 => ⟨S24x4x1024x7x1, .f32⟩
  | 33 => ⟨S24x4x1024x7x128, .f32⟩
  | 34 => ⟨S24x4x1024x7x128, .f32⟩
  | 35 => ⟨S24x4x1024x7, .f32⟩
  | 36 => ⟨S24x4x1024x7, .f32⟩
  | 37 => ⟨S24x4x1024x7, .f32⟩
  | 38 => ⟨S24x4x1024x7, .f32⟩
  | 39 => ⟨S24x4x1024x7, .f32⟩
  | 40 => ⟨S24x4x1024x7, .f32⟩
  | 41 => ⟨S24x4x1024x7, .f32⟩
  | 42 => ⟨S24x4x1024x7, .f32⟩
  | 43 => ⟨S24x4x1024x7, .f32⟩
  | 44 => ⟨S24x4x1024x7, .f32⟩
  | 45 => ⟨S24x4x1024x7, .f32⟩
  | 46 => ⟨S24x4x1024x7, .f32⟩
  | 47 => ⟨S24x4x1024x7, .f32⟩
  | 48 => ⟨S24x4x1024x7, .f32⟩
  | 49 => ⟨S24x4x1024x7, .f32⟩
  | 50 => ⟨S24x4x1024x7, .f32⟩
  | 51 => ⟨S24x4x1024x7, .f32⟩
  | 52 => ⟨S24x4x1024x7x1, .f32⟩
  | 53 => ⟨S24x4x1024x7x128, .f32⟩
  | 54 => ⟨S24x4x1024x7x128, .f32⟩
  | 55 => ⟨S24x4x1024x7, .f32⟩
  | 56 => ⟨S24x4x1024x7, .f32⟩
  | 57 => ⟨S24x4x1024x7x1, .f32⟩
  | 58 => ⟨S24x4x1024x7x128, .f32⟩
  | 59 => ⟨S24x4x1024x7x128, .f32⟩
  | 60 => ⟨S24x4x1024x7x128, .f32⟩
  | 61 => ⟨S24x4x1024x7, .f32⟩
  | 62 => ⟨S24x4x1024x7, .f32⟩
  | 63 => ⟨S24x4x1024x7x1, .f32⟩
  | 64 => ⟨S24x4x1024x7x128, .f32⟩
  | 65 => ⟨S24x4x1024x7x128, .f32⟩
  | 66 => ⟨S24x4x1024x7x128, .f32⟩
  | 67 => ⟨S24x1024x4x7x128, .f32⟩
  | 68 => ⟨S24x1024x3584, .f32⟩
  | 69 => ⟨S24x1024x3584, .bf16⟩
  | 70 => ⟨S24x1024x4x7, .f32⟩
  | 71 => ⟨S24x1024x28, .f32⟩
  | 72 => ⟨S_, .f32⟩
  | 73 => ⟨S24x1024x28, .f32⟩
  | 74 => ⟨S24x1024x28, .f32⟩
  | 75 => ⟨S24x1024x4x7, .f32⟩
  | 76 => ⟨S24x1024x28, .f32⟩
  | 77 => ⟨S1024, .f32⟩
  | 78 => ⟨S_, .f32⟩
  | 79 => ⟨S1024, .f32⟩
  | 80 => ⟨S1024, .f32⟩
  | 81 => ⟨S1024, .f32⟩
  | 82 => ⟨S1x1024x1, .f32⟩
  | 83 => ⟨S24x1024x28, .f32⟩
  | 84 => ⟨S24x1024x28, .f32⟩
  | 85 => ⟨S24x1024x4x7, .f32⟩
  | 86 => ⟨S24x1024x28, .f32⟩
  | 87 => ⟨S_, .f32⟩
  | 88 => ⟨S24x1024x28, .f32⟩
  | 89 => ⟨S24x1024x28, .f32⟩
  | _ => ⟨S24x1024x28x128, .fp8e4m3⟩

abbrev hbmTy (i : Nat) : BufTy := match i / 128 with
  | 0 => hbmTy0_0 i
  | 1 => hbmTy0_1 i
  | _ => ⟨S24x1024x28x128, .fp8e4m3⟩

abbrev bufTy : (tb : Table) → Fin (tcTables nBuf tb) → BufTy
  | .hbm, ⟨i, _⟩ => hbmTy i
  | .local _ .vmem, ⟨0, _⟩ => ⟨S24x1024x28x128, .fp8e4m3⟩
  | .local _ .vmem, ⟨1, _⟩ => ⟨S28672x4x128, .fp8e4m3⟩
  | .local _ .vmem, ⟨2, _⟩ => ⟨S28672x4x128, .fp8e4m3⟩
  | .local _ .vmem, ⟨3, _⟩ => ⟨S24x1024x4x128, .fp8e4m3⟩
  | .local _ .vmem, ⟨4, _⟩ => ⟨S24x1024x4x128, .fp8e4m3⟩
  | .local _ .vmem, ⟨5, _⟩ => ⟨S3x384x4x128, .fp8e4m3⟩
  | .local _ .vmem, ⟨6, _⟩ => ⟨S3x384x4x128, .fp8e4m3⟩
  | .local _ .vmem, ⟨7, _⟩ => ⟨S24x1024x28x128, .f32⟩
  | .local _ .vmem, ⟨8, _⟩ => ⟨S28672x4x128, .f32⟩
  | .local _ .vmem, ⟨9, _⟩ => ⟨S28672x4x128, .bf16⟩
  | .local _ .vmem, ⟨10, _⟩ => ⟨S24x1024x4x128, .f32⟩
  | .local _ .vmem, ⟨11, _⟩ => ⟨S24x1024x4x128, .bf16⟩
  | .local _ .vmem, ⟨12, _⟩ => ⟨S3x384x4x128, .f32⟩
  | .local _ .vmem, ⟨13, _⟩ => ⟨S3x384x4x128, .bf16⟩
  | _, _ => ⟨S24x1024x28x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c : Ref sig .tc := ⟨.hbm, 58, rfl⟩
abbrev main_v34 : Ref sig .tc := ⟨.hbm, 59, rfl⟩
abbrev main_v35 : Ref sig .tc := ⟨.hbm, 60, rfl⟩
abbrev main_c_2 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_3 : Ref sig .tc := ⟨.hbm, 68, rfl⟩
abbrev main_v42 : Ref sig .tc := ⟨.hbm, 69, rfl⟩
abbrev main_v43 : Ref sig .tc := ⟨.hbm, 70, rfl⟩
abbrev main_c_4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_5 : Ref sig .tc := ⟨.hbm, 79, rfl⟩
abbrev main_v51 : Ref sig .tc := ⟨.hbm, 80, rfl⟩
abbrev main_v52 : Ref sig .tc := ⟨.hbm, 81, rfl⟩
abbrev main_c_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_7 : Ref sig .tc := ⟨.hbm, 90, rfl⟩
abbrev main_v60 : Ref sig .tc := ⟨.hbm, 91, rfl⟩
abbrev main_v61 : Ref sig .tc := ⟨.hbm, 92, rfl⟩
abbrev main_c_8 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_cst_10 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_11 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_12 : Ref sig .tc := ⟨.hbm, 140, rfl⟩
abbrev main_v105 : Ref sig .tc := ⟨.hbm, 141, rfl⟩
abbrev main_v106 : Ref sig .tc := ⟨.hbm, 142, rfl⟩
abbrev main_cst_13 : Ref sig .tc := ⟨.hbm, 143, rfl⟩
abbrev main_call0_v0 : Ref sig .tc := ⟨.hbm, 144, rfl⟩
abbrev main_call0_v1 : Ref sig .tc := ⟨.hbm, 145, rfl⟩
abbrev main_call0_v2 : Ref sig .tc := ⟨.hbm, 146, rfl⟩
abbrev main_v107 : Ref sig .tc := ⟨.hbm, 147, rfl⟩
abbrev main_cst_14 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_15 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_16 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_17 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_18 : Ref sig .tc := ⟨.hbm, 215, rfl⟩
abbrev main_v171 : Ref sig .tc := ⟨.hbm, 216, rfl⟩
abbrev main_v172 : Ref sig .tc := ⟨.hbm, 217, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S24x1024x28x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S28672x4x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S28672x4x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024x4x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024x4x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x384x4x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x384x4x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1024x28x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S28672x4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S28672x4x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x1024x4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24x1024x4x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x384x4x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x384x4x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Table.lean ====
/- The table of the kernel's blocks: the precondition bounds its words, so every block it names lies in its array. -/
module

public import proofs.«01_k».proof.Defs
public import Idealize.ShloMosaic.Lib.Pointwise
public import proofs.«01_k».proof.Proof.Gen.Kernel.Frame
public import proofs.«01_k».proof.Proof.Gen.KernelIdeal.Frame
public import proofs.«01_k».proof.Proof.Gen.Pre_mid_in_range

@[expose] public section

set_option maxRecDepth 16384

noncomputable section

open Idealize.ShloMosaic Idealize.ShloMosaic.TcCoe

theorem Cert.toNat_lt_three {t : BitVec 32} (h : IntOp.cmpi .sge t 0#32 = 1#1 ∧ IntOp.cmpi .slt t 3#32 = 1#1) : t.toNat < 3 := by
  obtain ⟨h0, h1⟩ := h
  have ofBool_one (p : Bool) : BitVec.ofBool p = 1#1 ↔ p = true := by cases p <;> decide
  simp only [IntOp.cmpi, ofBool_one, BitVec.sle, BitVec.slt, decide_eq_true_eq] at h0 h1
  have e := t.toInt_eq_toNat_cond
  simp at h0 h1
  split at e <;> omega

namespace Cert.Kernel.Gen

local instance : Cert.Kernel.Facts := Gen.facts

theorem word_ix (i : grid0.Coords) (hb : ∀ a, (![(Scalar.indexCast (BitVec.ofNat 32 (i 1).val)).toNat] : Fin 1 → ℕ) a + S1.size a ≤ S24.size a)
    (h1 : (Rect.unit (s := S24) ![(Scalar.indexCast (BitVec.ofNat 32 (i 1).val)).toNat] S1.size hb).shape.numel = 1) :
    (Rect.unit (s := S24) ![(Scalar.indexCast (BitVec.ofNat 32 (i 1).val)).toNat] S1.size hb).emb (Shape.Idx.first (h1.symm ▸ Nat.one_pos)) = ix1 (i 1) := by
  have h : (i 1).val < 24 := (i 1).isLt
  funext a
  obtain rfl : a = 0 := Subsingleton.elim _ _
  refine Fin.ext ?_
  rw [Rect.emb_apply]
  show (BitVec.ofNat 32 (i 1).val).toNat + 1 * _ = (i 1).val
  have z : (Shape.Idx.first (h1.symm ▸ Nat.one_pos) (0 : Fin 1) : ℕ) = 0 := Nat.lt_one_iff.mp (Shape.Idx.first (h1.symm ▸ Nat.one_pos) (0 : Fin 1)).isLt
  refine (congrArg (fun z => (BitVec.ofNat 32 (i 1).val).toNat + 1 * z) z).trans ?_
  show (BitVec.ofNat 32 (i 1).val).toNat + 1 * 0 = _
  rw [BitVec.toNat_ofNat, Nat.mod_eq_of_lt (by omega)]; rfl

theorem block10 : ∀ (T : Fin 3) (g : Fin 4), ∃ h : (∀ a, ((![T.val, g.val, 0, 0] : Fin 4 → ℕ) a + 1) * S1x1x384x128.size a ≤ S3x4x384x128.size a),
    EltTy.bits .fp8e4m3 = 32 ∨ (Rect.block (s := S3x4x384x128) S1x1x384x128.size ![T.val, g.val, 0, 0] h).WholeWords (EltTy.packing .fp8e4m3) := by decide

theorem transform10 (pf : pre0.Contents (Elt Bits)) (i : grid0.Coords) :
    cc0_transform_10 Gen.facts.k0_off1_inb Gen.facts.numel1_S1 pf i = ![(pf 0 (ix1 (i 1))).toNat, (i 0).val, 0, 0] := by
  have h0 : (i 0).val < 4 := (i 0).isLt
  funext a
  unfold cc0_transform_10
  fin_cases a
  · exact congrArg (fun x => (pf 0 x : BitVec 32).toNat) (word_ix i _ Gen.facts.numel1_S1)
  · show (BitVec.ofNat 32 (i 0).val).toNat = (i 0).val
    rw [BitVec.toNat_ofNat]; exact Nat.mod_eq_of_lt (by omega)
  · rfl
  · rfl

theorem block11 : ∀ (T : Fin 3) (g : Fin 4), ∃ h : (∀ a, ((![T.val, g.val, 0, 0] : Fin 4 → ℕ) a + 1) * S1x1x384x128.size a ≤ S3x4x384x128.size a),
    EltTy.bits .f32 = 32 ∨ (Rect.block (s := S3x4x384x128) S1x1x384x128.size ![T.val, g.val, 0, 0] h).WholeWords (EltTy.packing .f32) :=
  fun T g => ⟨by revert T g; decide, .inl rfl⟩

theorem transform11 (pf : pre0.Contents (Elt Bits)) (i : grid0.Coords) :
    cc0_transform_11 Gen.facts.k0_off1_inb Gen.facts.numel1_S1 pf i = ![(pf 0 (ix1 (i 1))).toNat, (i 0).val, 0, 0] := by
  have h0 : (i 0).val < 4 := (i 0).isLt
  funext a
  unfold cc0_transform_11
  fin_cases a
  · exact congrArg (fun x => (pf 0 x : BitVec 32).toNat) (word_ix i _ Gen.facts.numel1_S1)
  · show (BitVec.ofNat 32 (i 0).val).toNat = (i 0).val
    rw [BitVec.toNat_ofNat]; exact Nat.mod_eq_of_lt (by omega)
  · rfl
  · rfl

theorem block12 : ∀ (T : Fin 3) (g : Fin 4), ∃ h : (∀ a, ((![T.val, g.val, 0, 0] : Fin 4 → ℕ) a + 1) * S1x1x128x384.size a ≤ S3x4x128x384.size a),
    EltTy.bits .fp8e4m3 = 32 ∨ (Rect.block (s := S3x4x128x384) S1x1x128x384.size ![T.val, g.val, 0, 0] h).WholeWords (EltTy.packing .fp8e4m3) := by decide

theorem transform12 (pf : pre0.Contents (Elt Bits)) (i : grid0.Coords) :
    cc0_transform_12 Gen.facts.k0_off1_inb Gen.facts.numel1_S1 pf i = ![(pf 0 (ix1 (i 1))).toNat, (i 0).val, 0, 0] := by
  have h0 : (i 0).val < 4 := (i 0).isLt
  funext a
  unfold cc0_transform_12
  fin_cases a
  · exact congrArg (fun x => (pf 0 x : BitVec 32).toNat) (word_ix i _ Gen.facts.numel1_S1)
  · show (BitVec.ofNat 32 (i 0).val).toNat = (i 0).val
    rw [BitVec.toNat_ofNat]; exact Nat.mod_eq_of_lt (by omega)
  · rfl
  · rfl

theorem block13 : ∀ (T : Fin 3) (g : Fin 4), ∃ h : (∀ a, ((![T.val, g.val, 0, 0] : Fin 4 → ℕ) a + 1) * S1x1x1x384.size a ≤ S3x4x1x384.size a),
    EltTy.bits .f32 = 32 ∨ (Rect.block (s := S3x4x1x384) S1x1x1x384.size ![T.val, g.val, 0, 0] h).WholeWords (EltTy.packing .f32) :=
  fun T g => ⟨by revert T g; decide, .inl rfl⟩

theorem transform13 (pf : pre0.Contents (Elt Bits)) (i : grid0.Coords) :
    cc0_transform_13 Gen.facts.k0_off1_inb Gen.facts.numel1_S1 pf i = ![(pf 0 (ix1 (i 1))).toNat, (i 0).val, 0, 0] := by
  have h0 : (i 0).val < 4 := (i 0).isLt
  funext a
  unfold cc0_transform_13
  fin_cases a
  · exact congrArg (fun x => (pf 0 x : BitVec 32).toNat) (word_ix i _ Gen.facts.numel1_S1)
  · show (BitVec.ofNat 32 (i 0).val).toNat = (i 0).val
    rw [BitVec.toNat_ofNat]; exact Nat.mod_eq_of_lt (by omega)
  · rfl
  · rfl

theorem tbl_lt (m : (ℓ : Loc nD τ sig) → Buf (Elt Bits) ℓ) (h : Cert.Pre_Kernel (hPre_mid_in_range := Cert.Pre_mid_in_range.Gen.facts) m) (b : Fin 24) : (tbl m 0 (ix1 b) : BitVec 32).toNat < 3 := by
  have e := congrFun (h 0) (ix1 b)
  have andi_one (a b : BitVec 1) : IntOp.andi a b = 1#1 ↔ a = 1#1 ∧ b = 1#1 := by revert a b; decide
  simp only [Cert.Pre_mid_in_range.fn, andi, cmpi, andi_one, broadcastInDim, constantI] at e
  exact Cert.toNat_lt_three e

theorem ok_of_pre (m : (ℓ : Loc nD τ sig) → Buf (Elt Bits) ℓ) (h : Cert.Pre_Kernel (hPre_mid_in_range := Cert.Pre_mid_in_range.Gen.facts) m) : Ok (F := Bits) m := by
  refine ⟨fun i => ?_, fun i => ?_, fun i => ?_, fun i => ?_⟩
  · rw [transform10]; exact block10 ⟨_, tbl_lt m h (i 1)⟩ (i 0)
  · rw [transform11]; exact block11 ⟨_, tbl_lt m h (i 1)⟩ (i 0)
  · rw [transform12]; exact block12 ⟨_, tbl_lt m h (i 1)⟩ (i 0)
  · rw [transform13]; exact block13 ⟨_, tbl_lt m h (i 1)⟩ (i 0)

end Cert.Kernel.Gen

namespace Cert.KernelIdeal.Gen

local instance : Cert.KernelIdeal.Facts := Gen.facts

theorem word_ix (i : grid0.Coords) (hb : ∀ a, (![(Scalar.indexCast (BitVec.ofNat 32 (i 1).val)).toNat] : Fin 1 → ℕ) a + S1.size a ≤ S24.size a)
    (h1 : (Rect.unit (s := S24) ![(Scalar.indexCast (BitVec.ofNat 32 (i 1).val)).toNat] S1.size hb).shape.numel = 1) :
    (Rect.unit (s := S24) ![(Scalar.indexCast (BitVec.ofNat 32 (i 1).val)).toNat] S1.size hb).emb (Shape.Idx.first (h1.symm ▸ Nat.one_pos)) = ix1 (i 1) := by
  have h : (i 1).val < 24 := (i 1).isLt
  funext a
  obtain rfl : a = 0 := Subsingleton.elim _ _
  refine Fin.ext ?_
  rw [Rect.emb_apply]
  show (BitVec.ofNat 32 (i 1).val).toNat + 1 * _ = (i 1).val
  have z : (Shape.Idx.first (h1.symm ▸ Nat.one_pos) (0 : Fin 1) : ℕ) = 0 := Nat.lt_one_iff.mp (Shape.Idx.first (h1.symm ▸ Nat.one_pos) (0 : Fin 1)).isLt
  refine (congrArg (fun z => (BitVec.ofNat 32 (i 1).val).toNat + 1 * z) z).trans ?_
  show (BitVec.ofNat 32 (i 1).val).toNat + 1 * 0 = _
  rw [BitVec.toNat_ofNat, Nat.mod_eq_of_lt (by omega)]; rfl

theorem block10 : ∀ (T : Fin 3) (g : Fin 4), ∃ h : (∀ a, ((![T.val, g.val, 0, 0] : Fin 4 → ℕ) a + 1) * S1x1x384x128.size a ≤ S3x4x384x128.size a),
    EltTy.bits .fp8e4m3 = 32 ∨ (Rect.block (s := S3x4x384x128) S1x1x384x128.size ![T.val, g.val, 0, 0] h).WholeWords (EltTy.packing .fp8e4m3) := by decide

theorem transform10 (pf : pre0.Contents (Elt Ideal)) (i : grid0.Coords) :
    cc0_transform_10 Gen.facts.k0_off1_inb Gen.facts.numel1_S1 pf i = ![(pf 0 (ix1 (i 1))).toNat, (i 0).val, 0, 0] := by
  have h0 : (i 0).val < 4 := (i 0).isLt
  funext a
  unfold cc0_transform_10
  fin_cases a
  · exact congrArg (fun x => (pf 0 x : BitVec 32).toNat) (word_ix i _ Gen.facts.numel1_S1)
  · show (BitVec.ofNat 32 (i 0).val).toNat = (i 0).val
    rw [BitVec.toNat_ofNat]; exact Nat.mod_eq_of_lt (by omega)
  · rfl
  · rfl

theorem block11 : ∀ (T : Fin 3) (g : Fin 4), ∃ h : (∀ a, ((![T.val, g.val, 0, 0] : Fin 4 → ℕ) a + 1) * S1x1x384x128.size a ≤ S3x4x384x128.size a),
    EltTy.bits .f32 = 32 ∨ (Rect.block (s := S3x4x384x128) S1x1x384x128.size ![T.val, g.val, 0, 0] h).WholeWords (EltTy.packing .f32) :=
  fun T g => ⟨by revert T g; decide, .inl rfl⟩

theorem transform11 (pf : pre0.Contents (Elt Ideal)) (i : grid0.Coords) :
    cc0_transform_11 Gen.facts.k0_off1_inb Gen.facts.numel1_S1 pf i = ![(pf 0 (ix1 (i 1))).toNat, (i 0).val, 0, 0] := by
  have h0 : (i 0).val < 4 := (i 0).isLt
  funext a
  unfold cc0_transform_11
  fin_cases a
  · exact congrArg (fun x => (pf 0 x : BitVec 32).toNat) (word_ix i _ Gen.facts.numel1_S1)
  · show (BitVec.ofNat 32 (i 0).val).toNat = (i 0).val
    rw [BitVec.toNat_ofNat]; exact Nat.mod_eq_of_lt (by omega)
  · rfl
  · rfl

theorem block12 : ∀ (T : Fin 3) (g : Fin 4), ∃ h : (∀ a, ((![T.val, g.val, 0, 0] : Fin 4 → ℕ) a + 1) * S1x1x128x384.size a ≤ S3x4x128x384.size a),
    EltTy.bits .fp8e4m3 = 32 ∨ (Rect.block (s := S3x4x128x384) S1x1x128x384.size ![T.val, g.val, 0, 0] h).WholeWords (EltTy.packing .fp8e4m3) := by decide

theorem transform12 (pf : pre0.Contents (Elt Ideal)) (i : grid0.Coords) :
    cc0_transform_12 Gen.facts.k0_off1_inb Gen.facts.numel1_S1 pf i = ![(pf 0 (ix1 (i 1))).toNat, (i 0).val, 0, 0] := by
  have h0 : (i 0).val < 4 := (i 0).isLt
  funext a
  unfold cc0_transform_12
  fin_cases a
  · exact congrArg (fun x => (pf 0 x : BitVec 32).toNat) (word_ix i _ Gen.facts.numel1_S1)
  · show (BitVec.ofNat 32 (i 0).val).toNat = (i 0).val
    rw [BitVec.toNat_ofNat]; exact Nat.mod_eq_of_lt (by omega)
  · rfl
  · rfl

theorem block13 : ∀ (T : Fin 3) (g : Fin 4), ∃ h : (∀ a, ((![T.val, g.val, 0, 0] : Fin 4 → ℕ) a + 1) * S1x1x1x384.size a ≤ S3x4x1x384.size a),
    EltTy.bits .f32 = 32 ∨ (Rect.block (s := S3x4x1x384) S1x1x1x384.size ![T.val, g.val, 0, 0] h).WholeWords (EltTy.packing .f32) :=
  fun T g => ⟨by revert T g; decide, .inl rfl⟩

theorem transform13 (pf : pre0.Contents (Elt Ideal)) (i : grid0.Coords) :
    cc0_transform_13 Gen.facts.k0_off1_inb Gen.facts.numel1_S1 pf i = ![(pf 0 (ix1 (i 1))).toNat, (i 0).val, 0, 0] := by
  have h0 : (i 0).val < 4 := (i 0).isLt
  funext a
  unfold cc0_transform_13
  fin_cases a
  · exact congrArg (fun x => (pf 0 x : BitVec 32).toNat) (word_ix i _ Gen.facts.numel1_S1)
  · show (BitVec.ofNat 32 (i 0).val).toNat = (i 0).val
    rw [BitVec.toNat_ofNat]; exact Nat.mod_eq_of_lt (by omega)
  · rfl
  · rfl

theorem tbl_lt (m : (ℓ : Loc nD τ sig) → Buf (Elt Ideal) ℓ) (h : Cert.Pre_KernelIdeal (hPre_mid_in_range := Cert.Pre_mid_in_range.Gen.facts) m) (b : Fin 24) : (tbl m 0 (ix1 b) : BitVec 32).toNat < 3 := by
  have e := congrFun (h 0) (ix1 b)
  have andi_one (a b : BitVec 1) : IntOp.andi a b = 1#1 ↔ a = 1#1 ∧ b = 1#1 := by revert a b; decide
  simp only [Cert.Pre_mid_in_range.fn, andi, cmpi, andi_one, broadcastInDim, constantI] at e
  exact Cert.toNat_lt_three e

theorem ok_of_pre (m : (ℓ : Loc nD τ sig) → Buf (Elt Ideal) ℓ) (h : Cert.Pre_KernelIdeal (hPre_mid_in_range := Cert.Pre_mid_in_range.Gen.facts) m) : Ok (F := Ideal) m := by
  refine ⟨fun i => ?_, fun i => ?_, fun i => ?_, fun i => ?_⟩
  · rw [transform10]; exact block10 ⟨_, tbl_lt m h (i 1)⟩ (i 0)
  · rw [transform11]; exact block11 ⟨_, tbl_lt m h (i 1)⟩ (i 0)
  · rw [transform12]; exact block12 ⟨_, tbl_lt m h (i 1)⟩ (i 0)
  · rw [transform13]; exact block13 ⟨_, tbl_lt m h (i 1)⟩ (i 0)

end Cert.KernelIdeal.Gen

end
-- ==== Proof.Softmax.lean ====
/- The arithmetic of the softmax over the extended reals, free of any program: the running maximum, the
   running sums of one attention taken a tile of keys at a time, and the joining of three attentions. -/
module

public import Idealize.ShloMosaic.Lib.Pointwise
public import Idealize.ShloMosaic.PureOps.Ideal

@[expose] public section

noncomputable section

namespace Cert.Softmax

open Idealize.ShloMosaic Finset

/-- `1 / log 2`: a score times it is the exponent of two the kernel works with. -/
def c2 : EReal := (((Real.log 2)⁻¹ : ℝ) : EReal)

/-- `log 2`. -/
def ln2 : EReal := ((Real.log 2 : ℝ) : EReal)

/-- The greatest of the first `n` scores. -/
def M (x : ℕ → EReal) (n : ℕ) : EReal := (range n).sup x

/-- The first `n` values `u` weighed by the base-two softmax of the scores, not yet divided. -/
def W2 (x u : ℕ → EReal) (n : ℕ) : EReal := ∑ k ∈ range n, Ideal.exp2 (x k - M x n) * u k

/-- The same to the base `e`. -/
def W (s u : ℕ → EReal) (n : ℕ) : EReal := ∑ k ∈ range n, Ideal.exp (s k - M s n) * u k

theorem log_two_pos : 0 < (Real.log 2)⁻¹ := inv_pos.mpr (Real.log_pos (by norm_num))

theorem sub_mul_c2 (a b : EReal) : a * c2 - b * c2 = (a - b) * c2 := by
  unfold c2
  rw [sub_eq_add_neg, sub_eq_add_neg, ← EReal.neg_mul, EReal.right_distrib_of_nonneg_of_ne_top
    (by exact_mod_cast log_two_pos.le) (EReal.coe_ne_top _)]

theorem add_mul_c2 (a b : EReal) : (a + b) * c2 = a * c2 + b * c2 := by
  unfold c2
  rw [EReal.right_distrib_of_nonneg_of_ne_top (by exact_mod_cast log_two_pos.le) (EReal.coe_ne_top _)]

theorem c2_mul_ln2 : c2 * ln2 = 1 := by
  unfold c2 ln2
  rw [← EReal.coe_mul, inv_mul_cancel₀ (Real.log_pos (by norm_num)).ne', EReal.coe_one]

theorem exp2_mul_c2 (a : EReal) : Ideal.exp2 (a * c2) = Ideal.exp a := by
  unfold c2
  induction a with
  | bot => rw [EReal.bot_mul_coe_of_pos log_two_pos]; rfl
  | top => rw [EReal.top_mul_coe_of_pos log_two_pos]; rfl
  | coe a =>
    rw [← EReal.coe_mul, Ideal.exp2_coe, Ideal.exp_coe]
    congr 1
    show (2 : ℝ) ^ (a * (Real.log 2)⁻¹) = _
    rw [Real.rpow_def_of_pos (by norm_num)]
    congr 1
    have := (Real.log_pos (by norm_num : (1 : ℝ) < 2)).ne'
    field_simp

theorem mono_mul_c2 : Monotone fun a : EReal => a * c2 := fun a b h =>
  mul_le_mul_of_nonneg_right h (by unfold c2; exact_mod_cast log_two_pos.le)

theorem max_mul_c2 (a b : EReal) : max (a * c2) (b * c2) = max a b * c2 :=
  (mono_mul_c2.map_max).symm

theorem M_mul_c2 (s : ℕ → EReal) (n : ℕ) : M (fun k => s k * c2) n = M s n * c2 := by
  unfold M
  induction n with
  | zero => simp [c2, EReal.bot_mul_coe_of_pos log_two_pos]
  | succ n ih => rw [range_add_one, sup_insert, sup_insert, ih]; exact max_mul_c2 _ _

theorem W2_mul_c2 (s u : ℕ → EReal) (n : ℕ) : W2 (fun k => s k * c2) u n = W s u n := by
  unfold W2 W
  simp only [M_mul_c2, sub_mul_c2, exp2_mul_c2]

/-! ### One tile of keys -/

theorem exp2_nonneg (a : EReal) : 0 ≤ Ideal.exp2 a := by
  induction a with
  | bot => exact le_refl _
  | top => exact le_top
  | coe a => exact EReal.coe_nonneg.mpr (Real.rpow_nonneg (by norm_num) a)

theorem exp2_ne_top {a : EReal} (h : a ≠ ⊤) : Ideal.exp2 a ≠ ⊤ := by
  induction a with
  | bot => exact EReal.zero_ne_top
  | top => exact absurd rfl h
  | coe a => exact EReal.coe_ne_top _

/-- Lowering the maximum a weight is taken against. -/
theorem exp2_sub_mul {x m m' : EReal} (hx : x ≤ m) (hm : m ≤ m') :
    Ideal.exp2 (x - m) * Ideal.exp2 (m - m') = Ideal.exp2 (x - m') := by
  induction m' with
  | top => simp
  | bot =>
    obtain rfl := le_bot_iff.mp hm
    obtain rfl := le_bot_iff.mp hx
    simp
  | coe m' =>
    induction m with
    | top => exact absurd hm (by simp)
    | bot => obtain rfl := le_bot_iff.mp hx; simp
    | coe m =>
      induction x with
      | top => exact absurd hx (by simp)
      | bot => simp
      | coe x =>
        simp only [← EReal.coe_sub, Ideal.exp2_coe, ← EReal.coe_mul]
        congr 1
        show (2 : ℝ) ^ (x - m) * (2 : ℝ) ^ (m - m') = (2 : ℝ) ^ (x - m')
        rw [← Real.rpow_add (by norm_num)]; congr 1; ring

theorem sub_ne_top_of_le {m m' : EReal} (hm : m ≤ m') : m - m' ≠ ⊤ := by
  induction m' with
  | top => simp
  | bot => obtain rfl := le_bot_iff.mp hm; simp
  | coe m' =>
    induction m with
    | top => exact absurd hm (by simp)
    | bot => simp
    | coe m => rw [← EReal.coe_sub]; exact EReal.coe_ne_top _

theorem sum_mul {ι : Type} (S : Finset ι) (f : ι → EReal) {c : EReal} (h0 : 0 ≤ c) (ht : c ≠ ⊤) :
    (∑ k ∈ S, f k) * c = ∑ k ∈ S, f k * c := by
  classical
  induction S using Finset.induction_on with
  | empty => simp
  | insert a S ha ih =>
    rw [sum_insert ha, sum_insert ha, EReal.right_distrib_of_nonneg_of_ne_top h0 ht, ih]

theorem fold_max_eq_sup {T : ℕ} (f : Fin T → EReal) : univ.fold max ⊥ f = univ.sup f := rfl

theorem M_add (x : ℕ → EReal) (n T : ℕ) :
    max (M x n) (univ.sup fun k : Fin T => x (n + k)) = M x (n + T) := by
  unfold M
  apply le_antisymm
  · refine max_le (sup_mono (range_mono (Nat.le_add_right _ _))) (Finset.sup_le fun k _ => ?_)
    exact le_sup (f := x) (mem_range.mpr (by omega))
  · refine Finset.sup_le fun k hk => ?_
    have hk := mem_range.mp hk
    by_cases h : k < n
    · exact le_max_of_le_left (le_sup (f := x) (mem_range.mpr h))
    · refine le_max_of_le_right ?_
      have := le_sup (f := fun k : Fin T => x (n + k)) (mem_univ ⟨k - n, by omega⟩)
      simpa [Nat.add_sub_cancel' (not_lt.mp h)] using this

theorem le_M {x : ℕ → EReal} {n k : ℕ} (h : k < n) : x k ≤ M x n := le_sup (f := x) (mem_range.mpr h)

theorem M_mono (x : ℕ → EReal) (n T : ℕ) : M x n ≤ M x (n + T) := sup_mono (range_mono (Nat.le_add_right _ _))

theorem W2_add (x u : ℕ → EReal) (n T : ℕ) :
    W2 x u n * Ideal.exp2 (M x n - M x (n + T))
        + ∑ k : Fin T, Ideal.exp2 (x (n + k) - M x (n + T)) * u (n + k) = W2 x u (n + T) := by
  unfold W2
  rw [sum_mul _ _ (exp2_nonneg _) (exp2_ne_top (sub_ne_top_of_le (M_mono x n T))), Finset.sum_range_add,
    Finset.sum_range (fun k => Ideal.exp2 (x (n + k) - M x (n + T)) * u (n + k))]
  congr 1
  refine sum_congr rfl fun k hk => ?_
  rw [mul_right_comm, exp2_sub_mul (le_M (mem_range.mp hk)) (M_mono x n T)]

/-- Keys whose score is `⊥` weigh nothing. -/
theorem M_pad (s : ℕ → EReal) (n T : ℕ) (h : ∀ k, n ≤ k → s k = ⊥) : M s (n + T) = M s n := by
  rw [← M_add s n T]
  refine max_eq_left (Finset.sup_le fun k _ => ?_)
  rw [h _ (Nat.le_add_right _ _)]; exact bot_le

theorem W_pad (s u : ℕ → EReal) (n T : ℕ) (h : ∀ k, n ≤ k → s k = ⊥) : W s u (n + T) = W s u n := by
  unfold W
  rw [M_pad s n T h, Finset.sum_range_add]
  refine (congrArg _ (sum_eq_zero fun k _ => ?_)).trans (add_zero _)
  rw [h _ (Nat.le_add_right _ _), EReal.bot_sub, Ideal.exp_bot, zero_mul]

/-! ### One attention, and three joined -/

/-- The log of the sum of the weights. -/
def lse (s : ℕ → EReal) (n : ℕ) : EReal := M s n + Ideal.log (W s (fun _ => 1) n)

theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [sum_insert ha, sum_insert ha, EReal.coe_add, ih]

/-- Either no key weighs anything, or the weights' sum is a positive number. -/
theorem part_cases (s u : ℕ → EReal) (n : ℕ) :
    (W s (fun _ => 1) n = 0 ∧ W s u n = 0 ∧ lse s n = ⊥) ∨
      ∃ l z : ℝ, 0 < l ∧ W s (fun _ => 1) n = (l : EReal) ∧ lse s n = (z : EReal) := by
  have hzero (h : ∀ k < n, Ideal.exp (s k - M s n) = 0) (u : ℕ → EReal) : W s u n = 0 :=
    sum_eq_zero fun k hk => by rw [h k (mem_range.mp hk), zero_mul]
  have hlog : Ideal.log (0 : EReal) = ⊥ := by
    rw [← EReal.coe_zero, Ideal.log_coe, if_pos le_rfl]
  induction hM : M s n with
  | bot =>
    left
    have h : ∀ k < n, Ideal.exp (s k - M s n) = 0 := fun k hk => by
      have : s k = ⊥ := le_bot_iff.mp (hM ▸ le_M hk)
      rw [this, EReal.bot_sub]; rfl
    refine ⟨hzero h _, hzero h _, ?_⟩
    unfold lse; rw [hzero h, hlog, EReal.add_bot]
  | coe μ =>
    right
    have hreal : ∀ k < n, ∃ r : ℝ, 0 ≤ r ∧ Ideal.exp (s k - M s n) = (r : EReal) := fun k hk => by
      have hle : s k ≤ M s n := le_M hk
      have hM' : M s n = (μ : EReal) := hM
      rw [hM'] at hle ⊢
      induction hs : s k with
      | bot => exact ⟨0, le_rfl, by simp⟩
      | top => rw [hs] at hle; exact absurd hle (by simp)
      | coe r => exact ⟨Real.exp (r - μ), (Real.exp_pos _).le, by rw [← EReal.coe_sub, Ideal.exp_coe]⟩
    choose! r hr0 hr using hreal
    have hsum : W s (fun _ => 1) n = ((∑ k ∈ range n, r k : ℝ) : EReal) := by
      unfold W
      rw [coe_sum]
      exact sum_congr rfl fun k hk => by rw [hr k (mem_range.mp hk), mul_one]
    have hne : (range n).Nonempty := by
      rw [Finset.nonempty_iff_ne_empty]; rintro h
      have : M s n = ⊥ := by unfold M; rw [h]; rfl
      rw [this] at hM; exact EReal.bot_ne_coe μ hM
    obtain ⟨k, hk, hkM⟩ := exists_mem_eq_sup (range n) hne s
    have hk1 : r k = 1 := by
      have h1 := hr k (mem_range.mp hk)
      have h2 : s k = M s n := hkM.symm
      have hM' : M s n = (μ : EReal) := hM
      rw [h2, hM', ← EReal.coe_sub, sub_self, Ideal.exp_coe, Real.exp_zero] at h1
      exact_mod_cast h1.symm
    have hpos : 0 < ∑ k ∈ range n, r k := by
      refine lt_of_lt_of_le zero_lt_one (hk1 ▸ ?_)
      exact single_le_sum (f := r) (fun i hi => hr0 i (mem_range.mp hi)) hk
    refine ⟨_, μ + Real.log (∑ k ∈ range n, r k), hpos, hsum, ?_⟩
    unfold lse
    have hM' : M s n = (μ : EReal) := hM
    rw [hsum, hM', Ideal.log_coe, if_neg (not_le.mpr hpos), EReal.coe_add]
  | top =>
    left
    have h : ∀ k < n, Ideal.exp (s k - M s n) = 0 := fun k hk => by
      have hM' : M s n = ⊤ := hM
      rw [hM', EReal.sub_top]; rfl
    refine ⟨hzero h _, hzero h _, ?_⟩
    unfold lse; rw [hzero h, hlog, EReal.add_bot]

/-- What `part_cases` says of one attention's sum of weights `l`, weighed values `o` and log `z`. -/
def Part (l o z : EReal) : Prop :=
  (l = 0 ∧ o = 0 ∧ z = ⊥) ∨ ∃ l' z' : ℝ, 0 < l' ∧ l = (l' : EReal) ∧ z = (z' : EReal)

theorem term_eq {l o z : EReal} (h : Part l o z) (mx tot : ℝ) (ht : 0 < tot) :
    o * Ideal.div (Ideal.exp (z - mx)) (l * tot)
      = Ideal.exp (z - ((mx : EReal) + Ideal.log tot)) * Ideal.div o l := by
  rw [Ideal.log_coe, if_neg (not_le.mpr ht), ← EReal.coe_add]
  rcases h with ⟨rfl, rfl, rfl⟩ | ⟨l', z', hl, rfl, rfl⟩
  · simp
  · rw [← EReal.coe_mul, Ideal.div_coe (mul_pos hl ht).ne', Ideal.div_coe hl.ne', ← EReal.coe_sub, ← EReal.coe_sub,
      Ideal.exp_coe, Ideal.exp_coe, ← EReal.coe_mul, mul_left_comm, ← EReal.coe_mul]
    congr 2
    rw [← sub_sub, Real.exp_sub (z' - mx), Real.exp_log ht]
    field_simp

theorem term_bot {l o z : EReal} (h : Part l o z) (hz : z = ⊥) (w w' y : EReal) :
    o * w = Ideal.exp (z - w') * y := by
  rcases h with ⟨rfl, rfl, rfl⟩ | ⟨l', z', hl, rfl, rfl⟩
  · simp
  · exact absurd hz (EReal.coe_ne_bot _)

theorem total_cases {a b c : EReal} (ha : a = ⊥ ∨ ∃ r : ℝ, a = r) (hb : b = ⊥ ∨ ∃ r : ℝ, b = r)
    (hc : c = ⊥ ∨ ∃ r : ℝ, c = r) :
    (a = ⊥ ∧ b = ⊥ ∧ c = ⊥) ∨ ∃ mx tot : ℝ, 0 < tot ∧ max (max a b) c = (mx : EReal) ∧
      Ideal.exp (a - mx) + Ideal.exp (b - mx) + Ideal.exp (c - mx) = (tot : EReal) := by
  have key : ∀ x : EReal, (x = ⊥ ∨ ∃ r : ℝ, x = r) → ∀ mx : ℝ, ∃ e : ℝ, 0 ≤ e ∧
      Ideal.exp (x - mx) = (e : EReal) ∧ (x ≠ ⊥ → 0 < e) := by
    rintro x (rfl | ⟨r, rfl⟩) mx
    · exact ⟨0, le_rfl, by simp, fun h => absurd rfl h⟩
    · exact ⟨Real.exp (r - mx), (Real.exp_pos _).le, by rw [← EReal.coe_sub, Ideal.exp_coe],
        fun _ => Real.exp_pos _⟩
  by_cases h : a = ⊥ ∧ b = ⊥ ∧ c = ⊥
  · exact .inl h
  right
  have hmx : ∃ mx : ℝ, max (max a b) c = (mx : EReal) := by
    have hnt : max (max a b) c ≠ ⊤ := by
      intro h'
      rcases max_choice (max a b) c with h1 | h1 <;> rw [h1] at h'
      · rcases max_choice a b with h2 | h2 <;> rw [h2] at h'
        · rcases ha with rfl | ⟨r, rfl⟩ <;> simp at h'
        · rcases hb with rfl | ⟨r, rfl⟩ <;> simp at h'
      · rcases hc with rfl | ⟨r, rfl⟩ <;> simp at h'
    have hnb : max (max a b) c ≠ ⊥ := by
      intro h'
      rw [_root_.max_eq_bot, _root_.max_eq_bot] at h'
      exact h ⟨h'.1.1, h'.1.2, h'.2⟩
    exact ⟨_, (EReal.coe_toReal hnt hnb).symm⟩
  obtain ⟨mx, hmx⟩ := hmx
  obtain ⟨ea, ha0, hae, hap⟩ := key a ha mx
  obtain ⟨eb, hb0, hbe, hbp⟩ := key b hb mx
  obtain ⟨ec, hc0, hce, hcp⟩ := key c hc mx
  refine ⟨mx, ea + eb + ec, ?_, hmx, by rw [hae, hbe, hce, EReal.coe_add, EReal.coe_add]⟩
  by_cases h1 : a = ⊥
  · by_cases h2 : b = ⊥
    · have := hcp fun h3 => h ⟨h1, h2, h3⟩
      linarith
    · have := hbp h2; linarith
  · have := hap h1; linarith

theorem Part.cases {l o z : EReal} (h : Part l o z) : z = ⊥ ∨ ∃ r : ℝ, z = r := by
  rcases h with ⟨-, -, h⟩ | ⟨-, r, -, -, h⟩
  exacts [.inl h, .inr ⟨r, h⟩]

/-- The three attentions joined: the kernel divides once by each sum of weights times the total, the reference
    normalizes each attention and weighs it by its share. -/
theorem combine {la oa za lb ob zb lc oc zc : EReal} (ha : Part la oa za) (hb : Part lb ob zb) (hc : Part lc oc zc) :
    oa * Ideal.div (Ideal.exp (za - max (max za zb) zc)) (la * (Ideal.exp (za - max (max za zb) zc)
          + Ideal.exp (zb - max (max za zb) zc) + Ideal.exp (zc - max (max za zb) zc)))
      + ob * Ideal.div (Ideal.exp (zb - max (max za zb) zc)) (lb * (Ideal.exp (za - max (max za zb) zc)
          + Ideal.exp (zb - max (max za zb) zc) + Ideal.exp (zc - max (max za zb) zc)))
      + oc * Ideal.div (Ideal.exp (zc - max (max za zb) zc)) (lc * (Ideal.exp (za - max (max za zb) zc)
          + Ideal.exp (zb - max (max za zb) zc) + Ideal.exp (zc - max (max za zb) zc)))
    = Ideal.exp (za - (max (max za zb) zc + Ideal.log (Ideal.exp (za - max (max za zb) zc)
          + Ideal.exp (zb - max (max za zb) zc) + Ideal.exp (zc - max (max za zb) zc)))) * Ideal.div oa la
      + Ideal.exp (zb - (max (max za zb) zc + Ideal.log (Ideal.exp (za - max (max za zb) zc)
          + Ideal.exp (zb - max (max za zb) zc) + Ideal.exp (zc - max (max za zb) zc)))) * Ideal.div ob lb
      + Ideal.exp (zc - (max (max za zb) zc + Ideal.log (Ideal.exp (za - max (max za zb) zc)
          + Ideal.exp (zb - max (max za zb) zc) + Ideal.exp (zc - max (max za zb) zc)))) * Ideal.div oc lc := by
  rcases total_cases ha.cases hb.cases hc.cases with ⟨h1, h2, h3⟩ | ⟨mx, tot, ht, hmx, htot⟩
  · congr 1
    · congr 1
      · exact term_bot ha h1 _ _ _
      · exact term_bot hb h2 _ _ _
    · exact term_bot hc h3 _ _ _
  · rw [hmx, htot, term_eq ha mx tot ht, term_eq hb mx tot ht, term_eq hc mx tot ht]

end Cert.Softmax

end
-- ==== Proof.Tile.lean ====
/- One tile of keys in the kernel's body, as vectors and at an index: the scores of the tile, the step of the
   running maximum and sums, and the joining of the three attentions. Every piece of the printed body is one of
   these at its own shapes. -/
module

public import proofs.«01_k».proof.Proof.Softmax
public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Gen

open Idealize.ShloMosaic Idealize.ShloMosaic.TcCoe

/-- What a tile's step carries: the running maximum, the running sum of weights, the weighed values. -/
abbrev Acc : Type := FVec Ideal S1x256 .f32 × FVec Ideal S1x256 .f32 × FVec Ideal S128x256 .f32

/-- What every loop starts from. -/
def acc0 : Acc := (broadcast S1x256 (Scalar.ofBits .f32 0xFF800000#32), broadcast S1x256 (Scalar.ofBits .f32 0x00000000#32),
  broadcast S128x256 (Scalar.ofBits .f32 0x00000000#32))

/-- The scores of a tile of keys against the 256 rows: one column a row. -/
def scores {S L : Shape} (dot : DotDims L S256x128 S) (a : Fin S.rank) (cat : Shape.Concatenates [L, L] S a)
    (bc : S1x256.Broadcasts S) (q : FVec Ideal S256x128 .fp8e4m3) (qs : FVec Ideal S1x256 .f32)
    (k : FVec Ideal L .fp8e4m3) (ks : FVec Ideal L .f32) : FVec Ideal S .f32 :=
  mulf (mulf (matmul dot none k q (constant S .f32 0x00000000#32)) (concatenate S a [⟨L, ks⟩, ⟨L, ks⟩] cat))
    (broadcastTo S qs bc)

/-- The values of a tile: the codes times their scales. -/
def values {V R : Shape} (bc : R.Broadcasts V) (v : FVec Ideal V .fp8e4m3) (vs : FVec Ideal R .f32) : FVec Ideal V .bf16 :=
  truncf .bf16 (mulf (extf .f32 v bitsLt_fp8e4m3_f32) (broadcastTo V vs bc)) bitsLt_bf16_f32

/-- The causal mask of a tile whose keys begin at `a`, for rows that begin at `b`. -/
def masked (a b : BitVec 32) (x : FVec Ideal S256x256 .f32) : FVec Ideal S256x256 .f32 :=
  select (cmpi .sle (addi (iota .tc S256x256 32 [0] iota_S256x256_d0_w32) (broadcast S256x256 a))
    (addi (iota .tc S256x256 32 [1] iota_S256x256_d1_w32) (broadcast S256x256 b))) x
    (broadcast S256x256 (Scalar.ofBits .f32 0xFF800000#32))

/-- The running maximum after a tile. -/
def maxStep {S : Shape} (ax : Fin S.rank) (red : S.Reduces [ax] S256) (x : FVec Ideal S .f32) (m : FVec Ideal S1x256 .f32) :
    FVec Ideal S1x256 .f32 :=
  maximumf m (shapeCast S1x256 (multiReduction .maximumf [ax] S256 x 0xFF800000#32 red (.inl rfl) rfl) shapeCasts_S256_S1x256)

/-- A tile's weights against the maximum `m'`. -/
def weights {S : Shape} (bc : S1x256.Broadcasts S) (x : FVec Ideal S .f32) (m' : FVec Ideal S1x256 .f32) : FVec Ideal S .f32 :=
  exp2 (subf x (broadcastTo S m' bc))

/-- The running sum after a tile, its maximum moved from `m` to `m'`. -/
def sumStep {S : Shape} (ax : Fin S.rank) (red : S.Reduces [ax] S256) (bc : S1x256.Broadcasts S) (x : FVec Ideal S .f32)
    (m m' l : FVec Ideal S1x256 .f32) : FVec Ideal S1x256 .f32 :=
  addf (mulf l (exp2 (subf m m')))
    (shapeCast S1x256 (multiReduction .add [ax] S256 (weights bc x m') 0x00000000#32 red (.inl rfl) rfl) shapeCasts_S256_S1x256)

/-- The weighed values after a tile, its maximum moved from `m` to `m'`. -/
def valStep {S V : Shape} (dot : DotDims V S S128x256) (bc : S1x256.Broadcasts S) (x : FVec Ideal S .f32) (v : FVec Ideal V .bf16)
    (m m' : FVec Ideal S1x256 .f32) (o : FVec Ideal S128x256 .f32) : FVec Ideal S128x256 .f32 :=
  addf (mulf o (broadcastTo S128x256 (exp2 (subf m m')) broadcasts_S1x256_S128x256))
    (matmul dot none v (truncf .bf16 (weights bc x m') bitsLt_bf16_f32) (constant S128x256 .f32 0x00000000#32))

/-- One tile's step. -/
def tileStep {S V : Shape} (ax : Fin S.rank) (dot : DotDims V S S128x256) (red : S.Reduces [ax] S256) (bc : S1x256.Broadcasts S)
    (x : FVec Ideal S .f32) (v : FVec Ideal V .bf16) (acc : Acc) : Acc :=
  (maxStep ax red x acc.1, sumStep ax red bc x acc.1 (maxStep ax red x acc.1) acc.2.1,
    valStep dot bc x v acc.1 (maxStep ax red x acc.1) acc.2.2)

/-- The step of 512, of 256 and of 384 keys. -/
def step512 : FVec Ideal S512x256 .f32 → FVec Ideal S128x512 .bf16 → Acc → Acc :=
  tileStep 0 dot_S128x512_S512x256_S128x256_1_0_0_1_n_n reduces_S512x256_S256 broadcasts_S1x256_S512x256
def step256 : FVec Ideal S256x256 .f32 → FVec Ideal S128x256 .bf16 → Acc → Acc :=
  tileStep 0 dot_S128x256_S256x256_S128x256_1_0_0_1_n_n reduces_S256x256_S256 broadcasts_S1x256_S256x256
def step384 : FVec Ideal S384x256 .f32 → FVec Ideal S128x384 .bf16 → Acc → Acc :=
  tileStep 0 dot_S128x384_S384x256_S128x256_1_0_0_1_n_n reduces_S384x256_S256 broadcasts_S1x256_S384x256

/-- The scores of 512, of 256 and of 384 keys. -/
def scores512 := scores dot_S512x128_S256x128_S512x256_1_1_0_0_n_n 1 concatenates_S512x128_S512x128_S512x256_d1 broadcasts_S1x256_S512x256
def scores256 := scores dot_S256x128_S256x128_S256x256_1_1_0_0_n_n 1 concatenates_S256x128_S256x128_S256x256_d1 broadcasts_S1x256_S256x256
def scores384 := scores dot_S384x128_S256x128_S384x256_1_1_0_0_n_n 1 concatenates_S384x128_S384x128_S384x256_d1 broadcasts_S1x256_S384x256

/-- The attention of the columns `j` after the first `n` keys: `x` its scores in exponents of two, `u` its values. -/
def Inv (j : Fin 256) (x : ℕ → EReal) (u : Fin 128 → ℕ → EReal) (n : ℕ) (acc : Acc) : Prop :=
  acc.1 (ix2 0 j) = Softmax.M x n ∧ acc.2.1 (ix2 0 j) = Softmax.W2 x (fun _ => 1) n
    ∧ ∀ d, acc.2.2 (ix2 d j) = Softmax.W2 x (u d) n

theorem ofBits_neg_inf : Ideal.ofBits .f32 0xFF800000#32 = ⊥ := by
  simp [Ideal.ofBits, Ideal.ieee]

theorem Inv_acc0 (j : Fin 256) (x : ℕ → EReal) (u : Fin 128 → ℕ → EReal) : Inv j x u 0 acc0 := by
  refine ⟨?_, ?_, fun d => ?_⟩
  · show Ideal.ofBits .f32 0xFF800000#32 = _
    rw [ofBits_neg_inf]; rfl
  · show Ideal.ofBits .f32 0x00000000#32 = _
    rw [Ideal.ofBits_zero_f32]; rfl
  · show Ideal.ofBits .f32 0x00000000#32 = _
    rw [Ideal.ofBits_zero_f32]; rfl

/-- The step at an index carries the attention over the tile's keys. -/
theorem Inv_step {K : ℕ} {j : Fin 256} {x : ℕ → EReal} {u : Fin 128 → ℕ → EReal} {n : ℕ} {acc acc' : Acc} (h : Inv j x u n acc)
    (hm : acc'.1 (ix2 0 j) = max (acc.1 (ix2 0 j)) (Finset.univ.sup fun k : Fin K => x (n + k)))
    (hl : acc'.2.1 (ix2 0 j) = acc.2.1 (ix2 0 j) * Ideal.exp2 (acc.1 (ix2 0 j) - acc'.1 (ix2 0 j))
      + ∑ k : Fin K, Ideal.exp2 (x (n + k) - acc'.1 (ix2 0 j)))
    (ho : ∀ d, acc'.2.2 (ix2 d j) = acc.2.2 (ix2 d j) * Ideal.exp2 (acc.1 (ix2 0 j) - acc'.1 (ix2 0 j))
      + ∑ k : Fin K, Ideal.exp2 (x (n + k) - acc'.1 (ix2 0 j)) * u d (n + k)) : Inv j x u (n + K) acc' := by
  have hm' : acc'.1 (ix2 0 j) = Softmax.M x (n + K) := by rw [hm, h.1, Softmax.M_add]
  refine ⟨hm', ?_, fun d => ?_⟩
  · rw [hl, hm', h.1, h.2.1, ← Softmax.W2_add x _ n K]
    simp only [mul_one]
  · rw [ho, hm', h.1, h.2.2 d, Softmax.W2_add]

theorem max_fold {K : ℕ} (a : EReal) (f g : Fin K → EReal) (h : ∀ k, f k = g k) :
    max a (Finset.fold max (Ideal.ofBits .f32 0xFF800000#32) f Finset.univ) = max a (Finset.univ.sup g) := by
  rw [ofBits_neg_inf, funext h]; rfl

theorem Inv_step512 {j : Fin 256} {x : ℕ → EReal} {u : Fin 128 → ℕ → EReal} {n : ℕ} {acc : Acc} (h : Inv j x u n acc)
    {s : FVec Ideal S512x256 .f32} {v : FVec Ideal S128x512 .bf16} (hs : ∀ k : Fin 512, s (ix2 k j) = x (n + k))
    (hv : ∀ (d : Fin 128) (k : Fin 512), v (ix2 d k) = u d (n + k)) : Inv j x u (n + 512) (step512 s v acc) := by
  refine Inv_step h ?_ ?_ fun d => ?_ <;> unfold step512 tileStep <;> dsimp only
  · unfold maxStep; pointwise; exact max_fold _ _ _ hs
  · generalize maxStep _ _ s acc.1 = m'
    unfold sumStep weights; pointwise; simp only [hs]; rfl
  · generalize maxStep _ _ s acc.1 = m'
    unfold valStep weights; pointwise; simp only [hs, hv]
    exact Ideal.add_congr rfl (Finset.sum_congr rfl fun _ _ => mul_comm _ _)

theorem Inv_step256 {j : Fin 256} {x : ℕ → EReal} {u : Fin 128 → ℕ → EReal} {n : ℕ} {acc : Acc} (h : Inv j x u n acc)
    {s : FVec Ideal S256x256 .f32} {v : FVec Ideal S128x256 .bf16} (hs : ∀ k : Fin 256, s (ix2 k j) = x (n + k))
    (hv : ∀ (d : Fin 128) (k : Fin 256), v (ix2 d k) = u d (n + k)) : Inv j x u (n + 256) (step256 s v acc) := by
  refine Inv_step h ?_ ?_ fun d => ?_ <;> unfold step256 tileStep <;> dsimp only
  · unfold maxStep; pointwise; exact max_fold _ _ _ hs
  · generalize maxStep _ _ s acc.1 = m'
    unfold sumStep weights; pointwise; simp only [hs]; rfl
  · generalize maxStep _ _ s acc.1 = m'
    unfold valStep weights; pointwise; simp only [hs, hv]
    exact Ideal.add_congr rfl (Finset.sum_congr rfl fun _ _ => mul_comm _ _)

theorem Inv_step384 {j : Fin 256} {x : ℕ → EReal} {u : Fin 128 → ℕ → EReal} {n : ℕ} {acc : Acc} (h : Inv j x u n acc)
    {s : FVec Ideal S384x256 .f32} {v : FVec Ideal S128x384 .bf16} (hs : ∀ k : Fin 384, s (ix2 k j) = x (n + k))
    (hv : ∀ (d : Fin 128) (k : Fin 384), v (ix2 d k) = u d (n + k)) : Inv j x u (n + 384) (step384 s v acc) := by
  refine Inv_step h ?_ ?_ fun d => ?_ <;> unfold step384 tileStep <;> dsimp only
  · unfold maxStep; pointwise; exact max_fold _ _ _ hs
  · generalize maxStep _ _ s acc.1 = m'
    unfold sumStep weights; pointwise; simp only [hs]; rfl
  · generalize maxStep _ _ s acc.1 = m'
    unfold valStep weights; pointwise; simp only [hs, hv]
    exact Ideal.add_congr rfl (Finset.sum_congr rfl fun _ _ => mul_comm _ _)

/-! ### The scores and the values at an index, the keys' scales the same in every lane -/

theorem lanes {P : ℕ} {ks : (⟨2, ![P, 128]⟩ : Shape).Idx → EReal} {p : Fin P} {w : EReal} (h : ∀ l, ks (ix2 p l) = w) (j : Fin 256) :
    (if h : j.val < 128 then ks (ix2 p ⟨j.val, h⟩) else ks (ix2 p ⟨j.val - 128, by omega⟩)) = w := by
  split <;> exact h _

theorem scores512_apply (q : FVec Ideal S256x128 .fp8e4m3) (qs : FVec Ideal S1x256 .f32)
    (k : FVec Ideal S512x128 .fp8e4m3) (ks : FVec Ideal S512x128 .f32) (p : Fin 512) (j : Fin 256) {w : EReal}
    (h : ∀ l : Fin 128, ks (ix2 p l) = w) :
    scores512 q qs k ks (ix2 p j) = (∑ d : Fin 128, k (ix2 p d) * q (ix2 j d)) * w * qs (ix2 0 j) := by
  unfold scores512 scores; pointwise; rw [lanes h j]

theorem scores256_apply (q : FVec Ideal S256x128 .fp8e4m3) (qs : FVec Ideal S1x256 .f32)
    (k : FVec Ideal S256x128 .fp8e4m3) (ks : FVec Ideal S256x128 .f32) (p : Fin 256) (j : Fin 256) {w : EReal}
    (h : ∀ l : Fin 128, ks (ix2 p l) = w) :
    scores256 q qs k ks (ix2 p j) = (∑ d : Fin 128, k (ix2 p d) * q (ix2 j d)) * w * qs (ix2 0 j) := by
  unfold scores256 scores; pointwise; rw [lanes h j]

theorem scores384_apply (q : FVec Ideal S256x128 .fp8e4m3) (qs : FVec Ideal S1x256 .f32)
    (k : FVec Ideal S384x128 .fp8e4m3) (ks : FVec Ideal S384x128 .f32) (p : Fin 384) (j : Fin 256) {w : EReal}
    (h : ∀ l : Fin 128, ks (ix2 p l) = w) :
    scores384 q qs k ks (ix2 p j) = (∑ d : Fin 128, k (ix2 p d) * q (ix2 j d)) * w * qs (ix2 0 j) := by
  unfold scores384 scores; pointwise; rw [lanes h j]

/-- The causal mask at an index, the key and the row counted from the block's first. -/
theorem masked_apply (a b : ℕ) (ha : a < 1024) (hb : b < 1024) (x : FVec Ideal S256x256 .f32) (k j : Fin 256) :
    masked (BitVec.ofNat 32 a) (BitVec.ofNat 32 b) x (ix2 k j) = if a + k.val ≤ b + j.val then x (ix2 k j) else ⊥ := by
  unfold masked
  pointwise
  have e : ∀ n k : ℕ, IntOp.addi (BitVec.ofNat 32 k) (BitVec.ofNat 32 n) = BitVec.ofNat 32 (n + k) := fun n k => by
    unfold IntOp.addi; rw [← BitVec.ofNat_add, Nat.add_comm]
  rw [e, e, ofBits_neg_inf, Scalar.select]
  exact if_congr (WordCmp.cmpi_sle_ofNat_eq_one_iff (by omega) (by omega)) rfl rfl

theorem values512_apply (v : FVec Ideal S128x512 .fp8e4m3) (vs : FVec Ideal S1x512 .f32) (d : Fin 128) (k : Fin 512) :
    values broadcasts_S1x512_S128x512 v vs (ix2 d k) = v (ix2 d k) * vs (ix2 0 k) := by
  unfold values; pointwise

theorem values256_apply (v : FVec Ideal S128x256 .fp8e4m3) (vs : FVec Ideal S1x256 .f32) (d : Fin 128) (k : Fin 256) :
    values broadcasts_S1x256_S128x256 v vs (ix2 d k) = v (ix2 d k) * vs (ix2 0 k) := by
  unfold values; pointwise

theorem values384_apply (v : FVec Ideal S128x384 .fp8e4m3) (vs : FVec Ideal S1x384 .f32) (d : Fin 128) (k : Fin 384) :
    values broadcasts_S1x384_S128x384 v vs (ix2 d k) = v (ix2 d k) * vs (ix2 0 k) := by
  unfold values; pointwise

end Cert.KernelIdeal.Gen

end
-- ==== Proof.Attend.lean ====
/- The loops of the kernel's body: each carries one row's attention over the tiles of its keys. -/
module

public import proofs.«01_k».proof.Proof.Tile
public import Idealize.ShloMosaic.Lib.Pipeline.ValueKit

@[expose] public section

set_option maxRecDepth 16384

noncomputable section

namespace Cert.KernelIdeal.Gen

open Idealize.ShloMosaic Idealize.ShloMosaic.TcCoe

/-- One row's attention over `n` keys, read from the blocks: `x` its scores in exponents of two, `u` its values. -/
def Att (n : ℕ) (key : Fin n → Fin 128 → EReal) (ks : Fin n → Fin 128 → EReal) (val : Fin 128 → Fin n → EReal) (vs : Fin n → EReal)
    (q : Fin 128 → EReal) (qs : EReal) (x : ℕ → EReal) (u : Fin 128 → ℕ → EReal) : Prop :=
  (∀ p : Fin n, ∃ w, (∀ l, ks p l = w) ∧ (∑ d, key p d * q d) * w * qs = x p) ∧ ∀ d (p : Fin n), val d p * vs p = u d p

/-- A row's attention over a prompt block, over a completion's and over a table row's. -/
abbrev AttP (x1 : Vec Ideal S1x28672x128 .fp8e4m3) (x2 : Vec Ideal S1x28672x128 .f32) (x3 : Vec Ideal S1x128x28672 .fp8e4m3)
    (x4 : Vec Ideal S1x1x28672 .f32) :=
  Att 28672 (fun p d => x1 (ix3 0 p d)) (fun p l => x2 (ix3 0 p l)) (fun d p => x3 (ix3 0 d p)) (fun p => x4 (ix3 0 0 p))
abbrev AttC (x6 : Vec Ideal S1x1x1024x128 .fp8e4m3) (x7 : Vec Ideal S1x1x1024x128 .f32) (x8 : Vec Ideal S1x1x128x1024 .fp8e4m3)
    (x9 : Vec Ideal S1x1x1x1024 .f32) :=
  Att 1024 (fun p d => x6 (ix4 0 0 p d)) (fun p l => x7 (ix4 0 0 p l)) (fun d p => x8 (ix4 0 0 d p)) (fun p => x9 (ix4 0 0 0 p))
abbrev AttM (x10 : Vec Ideal S1x1x384x128 .fp8e4m3) (x11 : Vec Ideal S1x1x384x128 .f32) (x12 : Vec Ideal S1x1x128x384 .fp8e4m3)
    (x13 : Vec Ideal S1x1x1x384 .f32) :=
  Att 384 (fun p d => x10 (ix4 0 0 p d)) (fun p l => x11 (ix4 0 0 p l)) (fun d p => x12 (ix4 0 0 d p)) (fun p => x13 (ix4 0 0 0 p))

/-- The scores of row `J`, the keys after it masked. -/
def causal (J : ℕ) (x : ℕ → EReal) : ℕ → EReal := fun k => if k ≤ J then x k else ⊥

/-! ### A tile's loads at an index -/

theorem ld3_apply {A B a b p q : ℕ} {e : EltTy} (x : Vec Ideal ⟨3, ![1, A, B]⟩ e) (i) (h : Shape.ShapeCasts _ _) (k : Fin a) (d : Fin b)
    (hk : p + k < A) (hd : q + d < B) :
    shapeCast ⟨2, ![a, b]⟩ (View.ld x (Rect.unit ![0, p, q] ![1, a, b] i)) h (ix2 k d) = x (ix3 0 ⟨p + k, hk⟩ ⟨q + d, hd⟩) := by
  refine (shapeCast_apply _ h _ (ix3 0 k d) (by
    rw [Shape.rowMajor_val_three, Shape.rowMajor_val_two]
    show (0 * a + k.val) * b + d.val = k.val * b + d.val
    rw [Nat.zero_mul, Nat.zero_add])).trans (View.ld_unit_apply_of _ _ _ _ _ _ fun t => ?_)
  fin_cases t <;> rfl

theorem ld4_apply {A B a b p q : ℕ} {e : EltTy} (x : Vec Ideal ⟨4, ![1, 1, A, B]⟩ e) (i) (h : Shape.ShapeCasts _ _) (k : Fin a) (d : Fin b)
    (hk : p + k < A) (hd : q + d < B) :
    shapeCast ⟨2, ![a, b]⟩ (View.ld x (Rect.unit ![0, 0, p, q] ![1, 1, a, b] i)) h (ix2 k d) = x (ix4 0 0 ⟨p + k, hk⟩ ⟨q + d, hd⟩) := by
  refine (shapeCast_apply _ h _ (ix4 0 0 k d) (by
    rw [Shape.rowMajor_val_four, Shape.rowMajor_val_two]
    show ((0 * 1 + 0) * a + k.val) * b + d.val = k.val * b + d.val
    rw [Nat.zero_mul, Nat.zero_add])).trans (View.ld_unit_apply_of _ _ _ _ _ _ fun t => ?_)
  fin_cases t <;> rfl

section tiles
variable {j : Fin 256} {q : FVec Ideal S256x128 .fp8e4m3} {qs : FVec Ideal S1x256 .f32} {x : ℕ → EReal} {u : Fin 128 → ℕ → EReal}
  {n : ℕ} {acc : Acc}

theorem prompt_tile {x1 : Vec Ideal S1x28672x128 .fp8e4m3} {x2 : Vec Ideal S1x28672x128 .f32} {x3 : Vec Ideal S1x128x28672 .fp8e4m3}
    {x4 : Vec Ideal S1x1x28672 .f32} (H : AttP x1 x2 x3 x4 (fun d => q (ix2 j d)) (qs (ix2 0 j)) x u) (hn : n + 512 ≤ 28672)
    {o1 o3 o4 : Fin 3 → ℕ} (h1 : o1 = ![0, n, 0]) (h3 : o3 = ![0, 0, n]) (h4 : o4 = ![0, 0, n]) (i1 i2 i3 i4)
    (h : Inv j x u n acc) : Inv j x u (n + 512) (step512
      (scores512 q qs (shapeCast S512x128 (View.ld x1 (Rect.unit o1 ![1, 512, 128] i1))  shapeCasts_S1x512x128_S512x128)
        (shapeCast S512x128 (View.ld x2 (Rect.unit o1 ![1, 512, 128] i2))  shapeCasts_S1x512x128_S512x128))
      (values broadcasts_S1x512_S128x512
        (shapeCast S128x512 (View.ld x3 (Rect.unit o3 ![1, 128, 512] i3))  shapeCasts_S1x128x512_S128x512)
        (shapeCast S1x512 (View.ld x4 (Rect.unit o4 ![1, 1, 512] i4))  shapeCasts_S1x1x512_S1x512)) acc) := by
  subst h1 h3 h4
  refine Inv_step512 h (fun k => ?_) fun d k => ?_
  · obtain ⟨w, hw, hx⟩ := H.1 ⟨n + k, by omega⟩
    rw [scores512_apply (w := w), ← hx]
    · refine congrArg (· * w * _) (Finset.sum_congr rfl fun d _ => congrArg (· * _) ?_)
      exact (ld3_apply _ _ _ _ _ (by omega) (by omega)).trans (by simp only [Nat.zero_add])
    · intro l; rw [← hw l]
      exact (ld3_apply _ _ _ _ _ (by omega) (by omega)).trans (by simp only [Nat.zero_add])
  · rw [values512_apply, ← H.2 d ⟨n + k, by omega⟩]
    exact congrArg₂ (· * ·) ((ld3_apply _ _ _ _ _ (by omega) (by omega)).trans (by simp only [Nat.zero_add]))
      ((ld3_apply _ _ _ _ _ (by omega) (by omega)).trans (by simp only [Nat.zero_add]))

theorem completion_tile {x6 : Vec Ideal S1x1x1024x128 .fp8e4m3} {x7 : Vec Ideal S1x1x1024x128 .f32}
    {x8 : Vec Ideal S1x1x128x1024 .fp8e4m3} {x9 : Vec Ideal S1x1x1x1024 .f32} {b : ℕ} (hb : b < 1024)
    (H : AttC x6 x7 x8 x9 (fun d => q (ix2 j d)) (qs (ix2 0 j)) x u) (hn : n + 256 ≤ 1024)
    {o1 o3 o4 : Fin 4 → ℕ} (h1 : o1 = ![0, 0, n, 0]) (h3 : o3 = ![0, 0, 0, n]) (h4 : o4 = ![0, 0, 0, n]) (i1 i2 i3 i4)
    {A B : BitVec 32} (hA : A = BitVec.ofNat 32 n) (hB : B = BitVec.ofNat 32 b)
    (h : Inv j (causal (b + j) x) u n acc) : Inv j (causal (b + j) x) u (n + 256) (step256 (masked A B
      (scores256 q qs (shapeCast S256x128 (View.ld x6 (Rect.unit o1 ![1, 1, 256, 128] i1)) shapeCasts_S1x1x256x128_S256x128)
        (shapeCast S256x128 (View.ld x7 (Rect.unit o1 ![1, 1, 256, 128] i2)) shapeCasts_S1x1x256x128_S256x128)))
      (values broadcasts_S1x256_S128x256
        (shapeCast S128x256 (View.ld x8 (Rect.unit o3 ![1, 1, 128, 256] i3)) shapeCasts_S1x1x128x256_S128x256)
        (shapeCast S1x256 (View.ld x9 (Rect.unit o4 ![1, 1, 1, 256] i4)) shapeCasts_S1x1x1x256_S1x256)) acc) := by
  subst h1 h3 h4 hA hB
  refine Inv_step256 h (fun k => ?_) fun d k => ?_
  · obtain ⟨w, hw, hx⟩ := H.1 ⟨n + k, by omega⟩
    rw [masked_apply n b (by omega) hb]
    refine if_congr Iff.rfl ?_ rfl
    rw [scores256_apply (w := w), ← hx]
    · refine congrArg (· * w * _) (Finset.sum_congr rfl fun d _ => congrArg (· * _) ?_)
      exact (ld4_apply _ _ _ _ _ (by omega) (by omega)).trans (by simp only [Nat.zero_add])
    · intro l; rw [← hw l]
      exact (ld4_apply _ _ _ _ _ (by omega) (by omega)).trans (by simp only [Nat.zero_add])
  · rw [values256_apply, ← H.2 d ⟨n + k, by omega⟩]
    exact congrArg₂ (· * ·) ((ld4_apply _ _ _ _ _ (by omega) (by omega)).trans (by simp only [Nat.zero_add]))
      ((ld4_apply _ _ _ _ _ (by omega) (by omega)).trans (by simp only [Nat.zero_add]))

theorem mid_tile {x10 : Vec Ideal S1x1x384x128 .fp8e4m3} {x11 : Vec Ideal S1x1x384x128 .f32}
    {x12 : Vec Ideal S1x1x128x384 .fp8e4m3} {x13 : Vec Ideal S1x1x1x384 .f32}
    (H : AttM x10 x11 x12 x13 (fun d => q (ix2 j d)) (qs (ix2 0 j)) x u) {o : Fin 4 → ℕ} (ho : o = ![0, 0, 0, 0]) (i1 i2 i3 i4) :
    Inv j x u 384 (step384
      (scores384 q qs (shapeCast S384x128 (View.ld x10 (Rect.unit o ![1, 1, 384, 128] i1)) shapeCasts_S1x1x384x128_S384x128)
        (shapeCast S384x128 (View.ld x11 (Rect.unit o ![1, 1, 384, 128] i2)) shapeCasts_S1x1x384x128_S384x128))
      (values broadcasts_S1x384_S128x384
        (shapeCast S128x384 (View.ld x12 (Rect.unit o ![1, 1, 128, 384] i3)) shapeCasts_S1x1x128x384_S128x384)
        (shapeCast S1x384 (View.ld x13 (Rect.unit o ![1, 1, 1, 384] i4)) shapeCasts_S1x1x1x384_S1x384)) acc0) := by
  subst ho
  refine cast (congrArg (fun n => Inv j x u n _) (Nat.zero_add 384)) (Inv_step384 (Inv_acc0 j x u) (fun k => ?_) fun d k => ?_)
  · obtain ⟨w, hw, hx⟩ := H.1 k
    rw [scores384_apply (w := w), Nat.zero_add, ← hx]
    · refine congrArg (· * w * _) (Finset.sum_congr rfl fun d _ => congrArg (· * _) ?_)
      exact (ld4_apply _ _ _ _ _ (by omega) (by omega)).trans (by simp only [Nat.zero_add])
    · intro l; rw [← hw l]
      exact (ld4_apply _ _ _ _ _ (by omega) (by omega)).trans (by simp only [Nat.zero_add])
  · rw [values384_apply, Nat.zero_add, ← H.2 d k]
    exact congrArg₂ (· * ·) ((ld4_apply _ _ _ _ _ (by omega) (by omega)).trans (by simp only [Nat.zero_add]))
      ((ld4_apply _ _ _ _ _ (by omega) (by omega)).trans (by simp only [Nat.zero_add]))

end tiles

end Cert.KernelIdeal.Gen

end
-- ==== Proof.Join.lean ====
/- The ends of the three attentions: the logarithms of their sums, and the attentions joined. -/
module

public import proofs.«01_k».proof.Proof.Tile

@[expose] public section

set_option maxRecDepth 16384

noncomputable section

namespace Cert.Softmax

open Idealize.ShloMosaic

/-- The logarithm of the three attentions' sum of weights, from each one's. -/
def total (a b c : EReal) : EReal :=
  max (max a b) c + Ideal.log (Ideal.exp (a - max (max a b) c) + Ideal.exp (b - max (max a b) c) + Ideal.exp (c - max (max a b) c))

/-- One attention over `n` keys, normalized. -/
def mean (s u : ℕ → EReal) (n : ℕ) : EReal := Ideal.div (W s u n) (W s (fun _ => 1) n)

/-- Three attentions joined, each weighed by its share. -/
def joined (a oa b ob c oc : EReal) : EReal :=
  Ideal.exp (a - total a b c) * oa + Ideal.exp (b - total a b c) * ob + Ideal.exp (c - total a b c) * oc

end Cert.Softmax

namespace Cert.KernelIdeal.Gen

open Idealize.ShloMosaic Idealize.ShloMosaic.TcCoe

theorem named_log2e : Named.named (F := Ideal) (φ := .f32) κ "log2e" 0x3FB8AA3B#32 = Softmax.c2 :=
  IdealRules.named_const.ideal_named_scalar _ _ _ _ rfl
theorem named_ln2 : Named.named (F := Ideal) (φ := .f32) κ "ln2" 0x3F317218#32 = Softmax.ln2 :=
  IdealRules.named_const.ideal_named_scalar _ _ _ _ rfl

/-- An attention's logarithm of its sum of weights, in exponents of two. -/
def lse2 (m l : FVec Ideal S1x256 .f32) : FVec Ideal S1x256 .f32 :=
  addf m (mulf (log l) (broadcast S1x256 (Named.named κ "log2e" 0x3FB8AA3B#32)))

/-- The total's scale of each attention. -/
def scale (z mx l t : FVec Ideal S1x256 .f32) : FVec Ideal S1x256 .f32 := divf (exp2 (subf z mx)) (mulf l t)

/-- The three attentions of one tile of rows joined. -/
def joinVec (P C M : Acc) : FVec Ideal S1x256x128 .bf16 :=
  have zp := lse2 P.1 P.2.1
  have zc := lse2 C.1 C.2.1
  have zm := lse2 M.1 M.2.1
  have mx := maximumf (maximumf zp zc) zm
  have t := addf (addf (exp2 (subf zp mx)) (exp2 (subf zc mx))) (exp2 (subf zm mx))
  shapeCast S1x256x128 (truncf .bf16 (transpose S256x128 [1, 0] (addf (addf
    (mulf P.2.2 (broadcastTo S128x256 (scale zp mx P.2.1 t) broadcasts_S1x256_S128x256))
    (mulf C.2.2 (broadcastTo S128x256 (scale zc mx C.2.1 t) broadcasts_S1x256_S128x256)))
    (mulf M.2.2 (broadcastTo S128x256 (scale zm mx M.2.1 t) broadcasts_S1x256_S128x256))) transposes_S128x256_p1_0_S256x128)
    bitsLt_bf16_f32) shapeCasts_S256x128_S1x256x128

/-- The prompt's and the table row's logarithms, less the logarithm `w` of the number of their keys. -/
def lseVec (w : BitVec 32) (A : Acc) : FVec Ideal S1x1x1x256 .f32 :=
  shapeCast S1x1x1x256 (subf (mulf (lse2 A.1 A.2.1) (broadcast S1x256 (Named.named κ "ln2" 0x3F317218#32)))
    (broadcast S1x256 (Scalar.ofBits .f32 w))) shapeCasts_S1x256_S1x1x1x256

/-- The completion's logarithms, less the logarithm of the row's number of keys; the rows count from `b`. -/
def lseCausalVec (b : BitVec 32) (A : Acc) : FVec Ideal S1x1x1x256 .f32 :=
  shapeCast S1x1x1x256 (subf (mulf (lse2 A.1 A.2.1) (broadcast S1x256 (Named.named κ "ln2" 0x3F317218#32)))
    (log (sitofp .f32 (addi (iota .tc S1x256 32 [1] iota_S1x256_d1_w32) (broadcast S1x256 b))))) shapeCasts_S1x256_S1x1x1x256

section
variable {j : Fin 256} {s : ℕ → EReal} {u : Fin 128 → ℕ → EReal} {n : ℕ} {A : Acc}

theorem Inv.max (h : Inv j (fun k => s k * Softmax.c2) u n A) : A.1 (ix2 0 j) = Softmax.M s n * Softmax.c2 :=
  h.1.trans (Softmax.M_mul_c2 s n)
theorem Inv.sum (h : Inv j (fun k => s k * Softmax.c2) u n A) : A.2.1 (ix2 0 j) = Softmax.W s (fun _ => 1) n :=
  h.2.1.trans (Softmax.W2_mul_c2 s _ n)
theorem Inv.val (h : Inv j (fun k => s k * Softmax.c2) u n A) (d : Fin 128) : A.2.2 (ix2 d j) = Softmax.W s (u d) n :=
  (h.2.2 d).trans (Softmax.W2_mul_c2 s _ n)

theorem Inv.lse2 (h : Inv j (fun k => s k * Softmax.c2) u n A) : lse2 A.1 A.2.1 (ix2 0 j) = Softmax.lse s n * Softmax.c2 := by
  have e : Gen.lse2 A.1 A.2.1 (ix2 0 j) = A.1 (ix2 0 j)
      + Ideal.log (A.2.1 (ix2 0 j)) * Named.named (F := Ideal) (φ := .f32) κ "log2e" 0x3FB8AA3B#32 := rfl
  rw [e, h.max, h.sum, named_log2e, ← Softmax.add_mul_c2]; rfl

theorem Inv.lse (h : Inv j (fun k => s k * Softmax.c2) u n A) :
    Gen.lse2 A.1 A.2.1 (ix2 0 j) * Named.named (F := Ideal) (φ := .f32) κ "ln2" 0x3F317218#32 = Softmax.lse s n := by
  rw [h.lse2, named_ln2, mul_assoc, Softmax.c2_mul_ln2, mul_one]

theorem Inv.lseVec (h : Inv j (fun k => s k * Softmax.c2) u n A) (w : BitVec 32) :
    lseVec w A (ix4 0 0 0 j) = Softmax.lse s n - Ideal.ofBits .f32 w := by
  unfold Gen.lseVec; rw [← h.lse]
  generalize Gen.lse2 A.1 A.2.1 = z
  pointwise

theorem Inv.lseCausalVec (h : Inv j (fun k => s k * Softmax.c2) u n A) (b : ℕ) :
    lseCausalVec (BitVec.ofNat 32 b) A (ix4 0 0 0 j)
      = Softmax.lse s n - Ideal.log (FloatOps.sitofp (F := Ideal) .f32 (BitVec.ofNat 32 (b + j))) := by
  unfold Gen.lseCausalVec; rw [← h.lse]
  generalize Gen.lse2 A.1 A.2.1 = z
  pointwise
  rw [show IntOp.addi (BitVec.ofNat 32 j) (BitVec.ofNat 32 b) = BitVec.ofNat 32 (b + j) by
    unfold IntOp.addi; rw [← BitVec.ofNat_add, Nat.add_comm]]

theorem Inv.joinVec {sc sm : ℕ → EReal} {uc um : Fin 128 → ℕ → EReal} {nc nm : ℕ} {C M : Acc}
    (h : Inv j (fun k => s k * Softmax.c2) u n A) (hc : Inv j (fun k => sc k * Softmax.c2) uc nc C)
    (hm : Inv j (fun k => sm k * Softmax.c2) um nm M) (d : Fin 128) :
    joinVec A C M (ix3 0 j d) = Softmax.joined (Softmax.lse s n) (Softmax.mean s (u d) n)
      (Softmax.lse sc nc) (Softmax.mean sc (uc d) nc) (Softmax.lse sm nm) (Softmax.mean sm (um d) nm) := by
  have hp := h.lse2
  have hc' := hc.lse2
  have hm' := hm.lse2
  unfold Gen.joinVec scale
  dsimp only
  generalize Gen.lse2 A.1 A.2.1 = zp at *
  generalize Gen.lse2 C.1 C.2.1 = zc at *
  generalize Gen.lse2 M.1 M.2.1 = zm at *
  pointwise
  simp only [show ∀ x : EReal, FloatOps.exp2 (F := Ideal) (φ := .f32) x = Ideal.exp2 x from fun _ => rfl, hp, hc', hm',
    Softmax.max_mul_c2, Softmax.sub_mul_c2, Softmax.exp2_mul_c2, h.sum, h.val, hc.sum, hc.val, hm.sum, hm.val]
  exact Softmax.combine (Softmax.part_cases _ _ _) (Softmax.part_cases _ _ _) (Softmax.part_cases _ _ _)
end

end Cert.KernelIdeal.Gen

end
-- ==== Proof.Spec.lean ====
/- The attention's results as functions of the arguments' elements: each row's scores against the prompt, the
   completion and the row's table entry, each attention's logarithm of weights and weighted mean, and their join. -/
module

public import proofs.«01_k».proof.Proof.Attend
public import proofs.«01_k».proof.Proof.Join

@[expose] public section

noncomputable section

namespace Cert.Spec

open Idealize.ShloMosaic Finset

/-- The arguments, by element. The table `mid` names each batch row's entry. -/
structure Inputs where
  q : Fin 24 → Fin 1024 → Fin 28 → Fin 128 → EReal
  qs : Fin 24 → Fin 1024 → Fin 28 → EReal
  pk : Fin 28672 → Fin 4 → Fin 128 → EReal
  pv : Fin 28672 → Fin 4 → Fin 128 → EReal
  pks : Fin 28672 → Fin 4 → EReal
  pvs : Fin 28672 → Fin 4 → EReal
  k : Fin 24 → Fin 1024 → Fin 4 → Fin 128 → EReal
  v : Fin 24 → Fin 1024 → Fin 4 → Fin 128 → EReal
  ks : Fin 24 → Fin 1024 → Fin 4 → EReal
  vs : Fin 24 → Fin 1024 → Fin 4 → EReal
  tk : Fin 3 → Fin 384 → Fin 4 → Fin 128 → EReal
  tv : Fin 3 → Fin 384 → Fin 4 → Fin 128 → EReal
  tks : Fin 3 → Fin 384 → Fin 4 → EReal
  tvs : Fin 3 → Fin 384 → Fin 4 → EReal
  mid : Fin 24 → Fin 3

/-- The scores' factor. -/
def SCALE : EReal := Ideal.ofBits .f32 0x3DB504F3#32

/-- A finite family as a sequence. -/
def ext (n : ℕ) (f : Fin n → EReal) : ℕ → EReal := fun k => if h : k < n then f ⟨k, h⟩ else 0

theorem ext_val {n : ℕ} (f : Fin n → EReal) (p : Fin n) : ext n f p.val = f p := dif_pos p.isLt

/-- A query's scores against keys. -/
def score {n : ℕ} (q : Fin 128 → EReal) (qs : EReal) (k : Fin n → Fin 128 → EReal) (ks : Fin n → EReal) : ℕ → EReal :=
  ext n fun p => (∑ d, k p d * q d) * qs * ks p * SCALE

/-- The values, scaled. -/
def vals {n : ℕ} (v : Fin n → Fin 128 → EReal) (vs : Fin n → EReal) (d : Fin 128) : ℕ → EReal := ext n fun p => v p d * vs p

/-- A query head's key head. -/
def kv (h : Fin 28) : Fin 4 := ⟨h.val / 7, by have := h.isLt; omega⟩

variable (I : Inputs)

def sp (b : Fin 24) (s : Fin 1024) (h : Fin 28) : ℕ → EReal :=
  score (I.q b s h) (I.qs b s h) (fun p => I.pk p (kv h)) (fun p => I.pks p (kv h))
/-- The completion's scores before the mask. -/
def sc (b : Fin 24) (s : Fin 1024) (h : Fin 28) : ℕ → EReal :=
  score (I.q b s h) (I.qs b s h) (fun p => I.k b p (kv h)) (fun p => I.ks b p (kv h))
def sm (b : Fin 24) (s : Fin 1024) (h : Fin 28) : ℕ → EReal :=
  score (I.q b s h) (I.qs b s h) (fun p => I.tk (I.mid b) p (kv h)) (fun p => I.tks (I.mid b) p (kv h))
def up (h : Fin 28) (d : Fin 128) : ℕ → EReal := vals (fun p => I.pv p (kv h)) (fun p => I.pvs p (kv h)) d
def uc (b : Fin 24) (h : Fin 28) (d : Fin 128) : ℕ → EReal := vals (fun p => I.v b p (kv h)) (fun p => I.vs b p (kv h)) d
def um (b : Fin 24) (h : Fin 28) (d : Fin 128) : ℕ → EReal :=
  vals (fun p => I.tv (I.mid b) p (kv h)) (fun p => I.tvs (I.mid b) p (kv h)) d

/-- Each attention's logarithm of its sum of weights. -/
def lseP (b : Fin 24) (s : Fin 1024) (h : Fin 28) : EReal := Softmax.lse (sp I b s h) 28672
def lseC (b : Fin 24) (s : Fin 1024) (h : Fin 28) : EReal := Softmax.lse (KernelIdeal.Gen.causal s (sc I b s h)) 1024
def lseM (b : Fin 24) (s : Fin 1024) (h : Fin 28) : EReal := Softmax.lse (sm I b s h) 384

/-- The four results. -/
def out (b : Fin 24) (s : Fin 1024) (h : Fin 28) (d : Fin 128) : EReal :=
  Softmax.joined (lseP I b s h) (Softmax.mean (sp I b s h) (up I h d) 28672)
    (lseC I b s h) (Softmax.mean (KernelIdeal.Gen.causal s (sc I b s h)) (uc I b h d) 1024)
    (lseM I b s h) (Softmax.mean (sm I b s h) (um I b h d) 384)
def prompt (b : Fin 24) (s : Fin 1024) (h : Fin 28) : EReal := lseP I b s h - Ideal.ofBits .f32 0x41243805#32
def completion (b : Fin 24) (s : Fin 1024) (h : Fin 28) : EReal :=
  lseC I b s h - Ideal.log (FloatOps.sitofp (F := Ideal) .f32 (BitVec.ofNat 32 (s.val + 1)))
def mid (b : Fin 24) (s : Fin 1024) (h : Fin 28) : EReal := lseM I b s h - Ideal.ofBits .f32 0x40BE6BAA#32

end Cert.Spec

end
-- ==== Proof.RefOps.lean ====
/- The reference's operations that need a word each: the maximum over the keys, the rows that the table names, the mask
   and the count of keys; and a softmax's sums over the first `n` keys as sums over `Fin n`. -/
module

public import proofs.«01_k».proof.Proof.Gen.ReferenceIdeal.Read
public import proofs.«01_k».proof.Proof.Spec
public import Idealize.ShloMosaic.Lib.Pointwise
public import Idealize.ShloMosaic.Lib.WordCmp
public import Idealize.ShloMosaic.Lib.Routing.Ops

@[expose] public section

set_option maxRecDepth 16384

noncomputable section

namespace Cert.Softmax

open Idealize.ShloMosaic Finset

theorem M_fin (s : ℕ → EReal) (n : ℕ) : M s n = univ.sup fun p : Fin n => s p.val := by
  refine le_antisymm (Finset.sup_le fun k hk => ?_) (Finset.sup_le fun p _ => Finset.le_sup (f := s) (mem_range.2 p.isLt))
  exact Finset.le_sup (f := fun p : Fin n => s p.val) (mem_univ ⟨k, mem_range.1 hk⟩)

theorem W_fin (s u : ℕ → EReal) (n : ℕ) :
    W s u n = ∑ p : Fin n, Ideal.exp (s p.val - univ.sup fun p : Fin n => s p.val) * u p.val := by
  unfold W
  rw [M_fin]
  exact Finset.sum_range _

/-- A reference's attention over `n` keys, from its scores, its weights and its values. -/
theorem attention {n : ℕ} (s : ℕ → EReal) (u : ℕ → EReal) (x w v : Fin n → EReal)
    (hx : ∀ p, x p = s p.val) (hu : ∀ p, v p * w p = u p.val) :
    univ.sup x + Ideal.log (0 + ∑ p, Ideal.exp (x p - univ.sup x)) = lse s n
      ∧ Ideal.div (∑ p, Ideal.exp (x p - univ.sup x) * w p * v p) (0 + ∑ p, Ideal.exp (x p - univ.sup x)) = mean s u n := by
  obtain rfl : x = fun p => s p.val := funext hx
  have h1 : ∑ p : Fin n, Ideal.exp (s p.val - univ.sup fun p : Fin n => s p.val) = W s (fun _ => 1) n := by
    rw [W_fin]; exact sum_congr rfl fun p _ => (mul_one _).symm
  have h2 : ∑ p : Fin n, Ideal.exp (s p.val - univ.sup fun p : Fin n => s p.val) * w p * v p = W s u n := by
    rw [W_fin]; exact sum_congr rfl fun p _ => by rw [← hu, mul_assoc, mul_comm (w p)]
  constructor
  · rw [zero_add, h1]; unfold lse; rw [M_fin]
  · rw [zero_add, h1, h2]; rfl

/-- The order in which the three attentions are joined does not matter. -/
theorem total_swap (p c m : EReal) :
    max (max p m) c + Ideal.log (Ideal.exp (p - max (max p m) c) + Ideal.exp (m - max (max p m) c) + Ideal.exp (c - max (max p m) c))
      = total p c m := by
  unfold total
  rw [max_right_comm p m c, add_right_comm (Ideal.exp (p - _))]

theorem joined_swap (p op c oc m om : EReal) :
    Ideal.exp (p - total p c m) * op + Ideal.exp (m - total p c m) * om + Ideal.exp (c - total p c m) * oc = joined p op c oc m om :=
  add_right_comm _ _ _

end Cert.Softmax

namespace Cert.ReferenceIdeal.Read

open Cert.ReferenceIdeal Cert.ReferenceIdeal.Gen Idealize.ShloMosaic Idealize.ShloMosaic.TcCoe

/-- The maximum over the keys. -/
theorem max_keys {n : ℕ} (x : (⟨5, ![24, 4, 1024, 7, n]⟩ : Shape).Idx → EReal) (init : S_.Idx → EReal)
    (h' : (⟨5, ![24, 4, 1024, 7, n]⟩ : Shape).ReducesTo [4] S24x4x1024x7) (h : (⟨5, ![24, 4, 1024, 7, n]⟩ : Shape).Reduces [4] S24x4x1024x7)
    (hi : init (Shape.Idx.first h_S_) = ⊥) (b : Fin 24) (k : Fin 4) (s : Fin 1024) (g : Fin 7) :
    Host.reduce (FloatOps.maximumf (F := Ideal) (φ := .f32)) x init h' h_S_ (ix4 b k s g) = Finset.univ.sup fun p : Fin n => x (ix5 b k s g p) := by
  rw [Host.reduce_eq_fold_single (FloatOps.maximumf (F := Ideal) (φ := .f32)) x init h' h h_S_ (ix4 b k s g), hi]
  refine (Softmax.fold_max_eq_sup (T := n) _).trans (congrArg Finset.univ.sup (funext fun p => congrArg x (funext fun a => Fin.ext ?_)))
  fin_cases a <;> rfl

/-- The table's row that a batch row names. -/
theorem gather_rows (x : (S3x384x4x128 : Shape).Idx → EReal) (idx : IVec S24x1 32) (b : Fin 24) (p : Fin 384) (k : Fin 4) (d : Fin 128)
    (T : Fin 3) (hT : idx (ix2 b 0) = BitVec.ofNat 32 T.val) :
    Host.gather gather_S3x384x4x128_S24x1_S24x384x4x128_123_0_n_n_0_1_13844128 x idx (ix4 b p k d) = x (ix4 T p k d) := by
  unfold Host.gather
  refine congrArg x (funext fun a => Fin.ext ?_)
  set D := gather_S3x384x4x128_S24x1_S24x384x4x128_123_0_n_n_0_1_13844128 with hD
  have hN : ∀ a', a' ∉ D.operandBatchingDims := fun _ => List.not_mem_nil
  match a with
  | ⟨0, _⟩ =>
    show D.start (ix4 b p k d) idx 0 + D.batchCoord (ix4 b p k d) 0 + D.offCoord (ix4 b p k d) 0 = T.val
    have hm : (0 : Fin 4) ∈ D.startIndexMap := List.mem_singleton.2 rfl
    rw [D.batchCoord_eq_zero _ _ (hN 0), D.offCoord_eq_zero _ _ (fun h => ((D.mem_sKept 0).1 h).1 (List.mem_singleton.2 rfl))]
    simp only [Nat.add_zero]
    unfold GatherDims.start
    rw [dif_pos hm]
    have hsi : D.siIdx (ix4 b p k d) ⟨D.startIndexMap.idxOf 0, List.idxOf_lt_length_iff.2 hm⟩ = ix2 b (0 : Fin 1) := by
      funext b'
      apply Fin.ext
      match b' with
      | ⟨0, _⟩ => rfl
      | ⟨1, _⟩ => rfl
    have hl := T.isLt
    rw [hsi, hT, StableHlo.Predicate.toInt_ofNat_small _ (by omega)]
    show min ((T.val : Int)).toNat (3 - 1) = T.val
    omega
  | ⟨1, _⟩ =>
    show D.start (ix4 b p k d) idx 1 + D.batchCoord (ix4 b p k d) 1 + D.offCoord (ix4 b p k d) 1 = p.val
    rw [D.batchCoord_eq_zero _ _ (hN 1), Nat.add_zero]
    unfold GatherDims.start
    rw [dif_neg (by decide), Nat.zero_add]
    rfl
  | ⟨2, _⟩ =>
    show D.start (ix4 b p k d) idx 2 + D.batchCoord (ix4 b p k d) 2 + D.offCoord (ix4 b p k d) 2 = k.val
    rw [D.batchCoord_eq_zero _ _ (hN 2), Nat.add_zero]
    unfold GatherDims.start
    rw [dif_neg (by decide), Nat.zero_add]
    rfl
  | ⟨3, _⟩ =>
    show D.start (ix4 b p k d) idx 3 + D.batchCoord (ix4 b p k d) 3 + D.offCoord (ix4 b p k d) 3 = d.val
    rw [D.batchCoord_eq_zero _ _ (hN 3), Nat.add_zero]
    unfold GatherDims.start
    rw [dif_neg (by decide), Nat.zero_add]
    rfl

theorem gather_scales (x : (S3x384x4 : Shape).Idx → EReal) (idx : IVec S24x1 32) (b : Fin 24) (p : Fin 384) (k : Fin 4)
    (T : Fin 3) (hT : idx (ix2 b 0) = BitVec.ofNat 32 T.val) :
    Host.gather gather_S3x384x4_S24x1_S24x384x4_12_0_n_n_0_1_13844 x idx (ix3 b p k) = x (ix3 T p k) := by
  unfold Host.gather
  refine congrArg x (funext fun a => Fin.ext ?_)
  set D := gather_S3x384x4_S24x1_S24x384x4_12_0_n_n_0_1_13844 with hD
  have hN : ∀ a', a' ∉ D.operandBatchingDims := fun _ => List.not_mem_nil
  match a with
  | ⟨0, _⟩ =>
    show D.start (ix3 b p k) idx 0 + D.batchCoord (ix3 b p k) 0 + D.offCoord (ix3 b p k) 0 = T.val
    have hm : (0 : Fin 3) ∈ D.startIndexMap := List.mem_singleton.2 rfl
    rw [D.batchCoord_eq_zero _ _ (hN 0), D.offCoord_eq_zero _ _ (fun h => ((D.mem_sKept 0).1 h).1 (List.mem_singleton.2 rfl))]
    simp only [Nat.add_zero]
    unfold GatherDims.start
    rw [dif_pos hm]
    have hsi : D.siIdx (ix3 b p k) ⟨D.startIndexMap.idxOf 0, List.idxOf_lt_length_iff.2 hm⟩ = ix2 b (0 : Fin 1) := by
      funext b'
      apply Fin.ext
      match b' with
      | ⟨0, _⟩ => rfl
      | ⟨1, _⟩ => rfl
    have hl := T.isLt
    rw [hsi, hT, StableHlo.Predicate.toInt_ofNat_small _ (by omega)]
    show min ((T.val : Int)).toNat (3 - 1) = T.val
    omega
  | ⟨1, _⟩ =>
    show D.start (ix3 b p k) idx 1 + D.batchCoord (ix3 b p k) 1 + D.offCoord (ix3 b p k) 1 = p.val
    rw [D.batchCoord_eq_zero _ _ (hN 1), Nat.add_zero]
    unfold GatherDims.start
    rw [dif_neg (by decide), Nat.zero_add]
    rfl
  | ⟨2, _⟩ =>
    show D.start (ix3 b p k) idx 2 + D.batchCoord (ix3 b p k) 2 + D.offCoord (ix3 b p k) 2 = k.val
    rw [D.batchCoord_eq_zero _ _ (hN 2), Nat.add_zero]
    unfold GatherDims.start
    rw [dif_neg (by decide), Nat.zero_add]
    rfl

/-- A row's number is not negative, so it is taken as it is. -/
theorem wrapped (w : BitVec 32) (T : Fin 3) (h : w.toNat = T.val) :
    Scalar.select (IntOp.cmpi .slt w 0#32) (IntOp.addi w 3#32) w = BitVec.ofNat 32 T.val := by
  have e : w = BitVec.ofNat 32 T.val := BitVec.eq_of_toNat_eq (by rw [BitVec.toNat_ofNat, h]; have := T.isLt; omega)
  have f : ∀ t : Fin 3, Scalar.select (IntOp.cmpi .slt (BitVec.ofNat 32 t.val) 0#32) (IntOp.addi (BitVec.ofNat 32 t.val) 3#32) (BitVec.ofNat 32 t.val)
      = BitVec.ofNat 32 t.val := by decide
  rw [e]; exact f T

/-- The mask keeps the keys up to the row. -/
theorem masked (p s : Fin 1024) (a b : EReal) :
    Scalar.select (IntOp.cmpi .sle (BitVec.ofNat 32 p.val) (BitVec.ofNat 32 s.val)) a b = if p.val ≤ s.val then a else b := by
  have hp := p.isLt
  have hs := s.isLt
  unfold Scalar.select
  exact if_congr (WordCmp.cmpi_sle_ofNat_eq_one_iff (by omega) (by omega)) rfl rfl

/-- A row's number of keys. -/
theorem count (s : Fin 1024) : (Ideal.ofBits .f32 0x3F800000#32 : EReal) + FloatOps.sitofp (F := Ideal) .f32 (BitVec.ofNat 32 s.val)
    = FloatOps.sitofp (F := Ideal) .f32 (BitVec.ofNat 32 (s.val + 1)) := by
  have hs := s.isLt
  rw [Ideal.ofBits_one_f32]
  show (1 : EReal) + (((BitVec.ofNat 32 s.val).toInt : ℝ) : EReal) = (((BitVec.ofNat 32 (s.val + 1)).toInt : ℝ) : EReal)
  rw [StableHlo.Predicate.toInt_ofNat_small _ (by omega), StableHlo.Predicate.toInt_ofNat_small _ (by omega)]
  rw [show (1 : EReal) = ((1 : ℝ) : EReal) from rfl, ← EReal.coe_add]
  push_cast
  rw [add_comm]

end Cert.ReferenceIdeal.Read

end
-- ==== Proof.RefValues.lean ====
/- The reference's values before its last lines, read at an index: scores, logarithms of weights and weighted means. -/
module

public import proofs.«01_k».proof.Proof.RefOps

@[expose] public section

set_option maxRecDepth 16384

noncomputable section

namespace Cert.ReferenceIdeal.Read

open Cert.ReferenceIdeal Cert.ReferenceIdeal.Gen Idealize.ShloMosaic Idealize.ShloMosaic.TcCoe

/-- A key head's query head. -/
def head (k : Fin 4) (g : Fin 7) : Fin 28 := ⟨k.val * 7 + g.val, by have := k.isLt; have := g.isLt; omega⟩

theorem kv_head (k : Fin 4) (g : Fin 7) : Spec.kv (head k g) = k := Fin.ext (by
  have := g.isLt
  show (k.val * 7 + g.val) / 7 = k.val
  omega)

variable (I : Spec.Inputs) (w : (⟨S24, .i32⟩ : BufTy).Contents (Elt Ideal))

/-! The arguments and the widened arguments, as arrays. -/

def a1 : (⟨S24x1024x28, .f32⟩ : BufTy).Contents (Elt Ideal) := fun i => I.qs (i 0) (i 1) (i 2)
def a4 : (⟨S28672x4, .f32⟩ : BufTy).Contents (Elt Ideal) := fun i => I.pks (i 0) (i 1)
def a5 : (⟨S28672x4, .f32⟩ : BufTy).Contents (Elt Ideal) := fun i => I.pvs (i 0) (i 1)
def a8 : (⟨S24x1024x4, .f32⟩ : BufTy).Contents (Elt Ideal) := fun i => I.ks (i 0) (i 1) (i 2)
def a9 : (⟨S24x1024x4, .f32⟩ : BufTy).Contents (Elt Ideal) := fun i => I.vs (i 0) (i 1) (i 2)
def a12 : (⟨S3x384x4, .f32⟩ : BufTy).Contents (Elt Ideal) := fun i => I.tks (i 0) (i 1) (i 2)
def a13 : (⟨S3x384x4, .f32⟩ : BufTy).Contents (Elt Ideal) := fun i => I.tvs (i 0) (i 1) (i 2)
def b0 : (⟨S24x1024x28x128, .f32⟩ : BufTy).Contents (Elt Ideal) := fun i => I.q (i 0) (i 1) (i 2) (i 3)
def b1 : (⟨S28672x4x128, .f32⟩ : BufTy).Contents (Elt Ideal) := fun i => I.pk (i 0) (i 1) (i 2)
def b2 : (⟨S28672x4x128, .bf16⟩ : BufTy).Contents (Elt Ideal) := fun i => I.pv (i 0) (i 1) (i 2)
def b3 : (⟨S24x1024x4x128, .f32⟩ : BufTy).Contents (Elt Ideal) := fun i => I.k (i 0) (i 1) (i 2) (i 3)
def b4 : (⟨S24x1024x4x128, .bf16⟩ : BufTy).Contents (Elt Ideal) := fun i => I.v (i 0) (i 1) (i 2) (i 3)
def b5 : (⟨S3x384x4x128, .f32⟩ : BufTy).Contents (Elt Ideal) := fun i => I.tk (i 0) (i 1) (i 2) (i 3)
def b6 : (⟨S3x384x4x128, .bf16⟩ : BufTy).Contents (Elt Ideal) := fun i => I.tv (i 0) (i 1) (i 2) (i 3)

variable (b : Fin 24) (s : Fin 1024) (k : Fin 4) (g : Fin 7) (d : Fin 128)

theorem idx_v1 : idx_main_v1 (ix5 b s k g d) = ix4 b s (head k g) d := by
  have hb := b.isLt; have hs := s.isLt; have hk := k.isLt; have hg := g.isLt; have hd := d.isLt
  refine funext fun a => Fin.ext ?_
  match a with
  | ⟨0, _⟩ => show ((((b.val * 1024 + s.val) * 4 + k.val) * 7 + g.val) * 128 + d.val) / 3670016 = b.val; omega
  | ⟨1, _⟩ => show ((((b.val * 1024 + s.val) * 4 + k.val) * 7 + g.val) * 128 + d.val) / 3584 % 1024 = s.val; omega
  | ⟨2, _⟩ => show ((((b.val * 1024 + s.val) * 4 + k.val) * 7 + g.val) * 128 + d.val) / 128 % 28 = k.val * 7 + g.val; omega
  | ⟨3, _⟩ => show ((((b.val * 1024 + s.val) * 4 + k.val) * 7 + g.val) * 128 + d.val) % 128 = d.val; omega

theorem query : val_main_v1 (F := Ideal) (b0 I) (ix5 b s k g d) = I.q b s (head k g) d := by
  rw [val_main_v1_apply, idx_v1]
  rfl

theorem idx_v2 : idx_main_v2 (ix4 b s k g) = ix3 b s (head k g) := by
  have hb := b.isLt; have hs := s.isLt; have hk := k.isLt; have hg := g.isLt
  refine funext fun a => Fin.ext ?_
  match a with
  | ⟨0, _⟩ => show (((b.val * 1024 + s.val) * 4 + k.val) * 7 + g.val) / 28672 = b.val; omega
  | ⟨1, _⟩ => show (((b.val * 1024 + s.val) * 4 + k.val) * 7 + g.val) / 28 % 1024 = s.val; omega
  | ⟨2, _⟩ => show (((b.val * 1024 + s.val) * 4 + k.val) * 7 + g.val) % 28 = k.val * 7 + g.val; omega

theorem query_scale : val_main_v4 (F := Ideal) (a1 I) (ix5 b k s g 0) = I.qs b s (head k g) := by
  rw [val_main_v4_apply, val_main_v3_apply, val_main_v2_apply]
  refine (congrArg (a1 I) (a₂ := ix3 b s (head k g)) ((congrArg idx_main_v2 (a₂ := ix4 b s k g) (funext fun a => ?_)).trans (idx_v2 b s k g))).trans rfl
  fin_cases a <;> rfl

theorem idx_v31 : idx_main_v31 (ix4 b k s g) = ix5 b k s g 0 := by
  have hb := b.isLt; have hs := s.isLt; have hk := k.isLt; have hg := g.isLt
  refine funext fun a => Fin.ext ?_
  match a with
  | ⟨0, _⟩ => show (((b.val * 4 + k.val) * 1024 + s.val) * 7 + g.val) / 28672 = b.val; omega
  | ⟨1, _⟩ => show (((b.val * 4 + k.val) * 1024 + s.val) * 7 + g.val) / 7168 % 4 = k.val; omega
  | ⟨2, _⟩ => show (((b.val * 4 + k.val) * 1024 + s.val) * 7 + g.val) / 7 % 1024 = s.val; omega
  | ⟨3, _⟩ => show (((b.val * 4 + k.val) * 1024 + s.val) * 7 + g.val) / 1 % 7 = g.val; omega
  | ⟨4, _⟩ => rfl

/-! The table's rows. -/

variable (hw : ∀ b : Fin 24, (w (ix1 b)).toNat = (I.mid b).val)

include hw in
theorem row_v39 : val_main_v39 (F := Ideal) w (ix2 b 0) = BitVec.ofNat 32 (I.mid b).val := by
  rw [val_main_v39_apply, val_main_v38_apply, val_main_v35_apply, val_main_v37_apply, val_main_v34_apply, val_main_c_apply, val_main_v36_apply,
    val_main_c_2_apply, show idx_main_v39 (ix2 b (0 : Fin 1)) = ix1 b from funext fun a => by fin_cases a; rfl]
  exact wrapped _ _ (hw b)

include hw in
theorem row_v47 : val_main_v47 (F := Ideal) w (ix2 b 0) = BitVec.ofNat 32 (I.mid b).val := by
  rw [val_main_v47_apply, val_main_v46_apply, val_main_v43_apply, val_main_v45_apply, val_main_v42_apply, val_main_c_3_apply, val_main_v44_apply,
    val_main_c_4_apply, show idx_main_v47 (ix2 b (0 : Fin 1)) = ix1 b from funext fun a => by fin_cases a; rfl]
  exact wrapped _ _ (hw b)

include hw in
theorem row_v56 : val_main_v56 (F := Ideal) w (ix2 b 0) = BitVec.ofNat 32 (I.mid b).val := by
  rw [val_main_v56_apply, val_main_v55_apply, val_main_v52_apply, val_main_v54_apply, val_main_v51_apply, val_main_c_5_apply, val_main_v53_apply,
    val_main_c_6_apply, show idx_main_v56 (ix2 b (0 : Fin 1)) = ix1 b from funext fun a => by fin_cases a; rfl]
  exact wrapped _ _ (hw b)

include hw in
theorem row_v65 : val_main_v65 (F := Ideal) w (ix2 b 0) = BitVec.ofNat 32 (I.mid b).val := by
  rw [val_main_v65_apply, val_main_v64_apply, val_main_v61_apply, val_main_v63_apply, val_main_v60_apply, val_main_c_7_apply, val_main_v62_apply,
    val_main_c_8_apply, show idx_main_v65 (ix2 b (0 : Fin 1)) = ix1 b from funext fun a => by fin_cases a; rfl]
  exact wrapped _ _ (hw b)

theorem sp_head (p : Fin 28672) : Spec.sp I b s (head k g) p.val
    = (∑ d, I.pk p k d * I.q b s (head k g) d) * I.qs b s (head k g) * I.pks p k * Spec.SCALE :=
  by unfold Spec.sp Spec.score; rw [Spec.ext_val]; simp only [kv_head]
theorem sm_head (p : Fin 384) : Spec.sm I b s (head k g) p.val
    = (∑ d, I.tk (I.mid b) p k d * I.q b s (head k g) d) * I.qs b s (head k g) * I.tks (I.mid b) p k * Spec.SCALE :=
  by unfold Spec.sm Spec.score; rw [Spec.ext_val]; simp only [kv_head]
theorem sc_head (p : Fin 1024) : Spec.sc I b s (head k g) p.val
    = (∑ d, I.k b p k d * I.q b s (head k g) d) * I.qs b s (head k g) * I.ks b p k * Spec.SCALE :=
  by unfold Spec.sc Spec.score; rw [Spec.ext_val]; simp only [kv_head]
theorem up_head (p : Fin 28672) : I.pv p k d * I.pvs p k = Spec.up I (head k g) d p.val :=
  by unfold Spec.up Spec.vals; rw [Spec.ext_val]; simp only [kv_head]
theorem um_head (p : Fin 384) : I.tv (I.mid b) p k d * I.tvs (I.mid b) p k = Spec.um I b (head k g) d p.val :=
  by unfold Spec.um Spec.vals; rw [Spec.ext_val]; simp only [kv_head]
theorem uc_head (p : Fin 1024) : I.v b p k d * I.vs b p k = Spec.uc I b (head k g) d p.val :=
  by unfold Spec.uc Spec.vals; rw [Spec.ext_val]; simp only [kv_head]

/-! The scores. -/

theorem score_p (p : Fin 28672) : val_main_v16 (F := Ideal) (a1 I) (a4 I) (b0 I) (b1 I) (ix5 b k s g p) = Spec.sp I b s (head k g) p.val := by
  have e : val_main_v6 (F := Ideal) (b0 I) (b1 I) (ix5 b k s g p) = ∑ d, I.pk p k d * I.q b s (head k g) d := by
    rw [val_main_v6_apply, val_main_v5_apply]
    refine Finset.sum_congr rfl fun d _ => congrArg₂ (fun x y : EReal => x * y) rfl ?_
    exact (congrArg (val_main_v1 (F := Ideal) (b0 I)) (a₂ := ix5 b s k g d) (funext fun a => by fin_cases a <;> rfl)).trans (query I b s k g d)
  have q : val_main_v11 (F := Ideal) (a1 I) (ix5 b k s g p) = I.qs b s (head k g) := by
    rw [val_main_v11_apply]
    exact (congrArg (val_main_v4 (F := Ideal) (a1 I)) (a₂ := ix5 b k s g 0) (funext fun a => by fin_cases a <;> rfl)).trans (query_scale I b s k g)
  have c : val_main_v13 (F := Ideal) (a4 I) (ix5 b k s g p) = I.pks p k := by
    rw [val_main_v13_apply, val_main_v8_apply, val_main_v7_apply]
    rfl
  rw [val_main_v16_apply, val_main_v14_apply, val_main_v12_apply, e, q, c, val_main_v15_apply, val_main_cst_apply, sp_head]
  rfl

include hw in
theorem score_m (p : Fin 384) : val_main_v72 (F := Ideal) (a1 I) (a12 I) w (b0 I) (b5 I) (ix5 b k s g p) = Spec.sm I b s (head k g) p.val := by
  have e : val_main_v41 (F := Ideal) w (b0 I) (b5 I) (ix5 b k s g p) = ∑ d, I.tk (I.mid b) p k d * I.q b s (head k g) d := by
    rw [val_main_v41_apply]
    refine Finset.sum_congr rfl fun d _ => (mul_comm _ _).trans (congrArg₂ (fun x y : EReal => x * y) ?_ ?_)
    · refine (congrArg (val_main_v40 (F := Ideal) w (b5 I)) (a₂ := ix4 b p k d) (funext fun a => by fin_cases a <;> rfl)).trans ?_
      unfold val_main_v40
      exact (gather_rows _ _ b p k d (I.mid b) (row_v39 I w b hw)).trans rfl
    · exact (congrArg (val_main_v1 (F := Ideal) (b0 I)) (a₂ := ix5 b s k g d) (funext fun a => by fin_cases a <;> rfl)).trans (query I b s k g d)
  have q : val_main_v67 (F := Ideal) (a1 I) (ix5 b k s g p) = I.qs b s (head k g) := by
    rw [val_main_v67_apply]
    exact (congrArg (val_main_v4 (F := Ideal) (a1 I)) (a₂ := ix5 b k s g 0) (funext fun a => by fin_cases a <;> rfl)).trans (query_scale I b s k g)
  have c : val_main_v69 (F := Ideal) (a12 I) w (ix5 b k s g p) = I.tks (I.mid b) p k := by
    rw [val_main_v69_apply, val_main_v50_apply, val_main_v49_apply]
    refine (congrArg (val_main_v48 (F := Ideal) (a12 I) w) (a₂ := ix3 b p k) (funext fun a => by fin_cases a <;> rfl)).trans ?_
    unfold val_main_v48
    exact (gather_scales _ _ b p k (I.mid b) (row_v47 I w b hw)).trans rfl
  rw [val_main_v72_apply, val_main_v70_apply, val_main_v68_apply, e, q, c, val_main_v71_apply, val_main_cst_9_apply, sm_head]
  rfl

theorem score_c (p : Fin 1024) : val_main_v107 (F := Ideal) (a1 I) (a8 I) (b0 I) (b3 I) (ix5 b k s g p)
    = KernelIdeal.Gen.causal s (Spec.sc I b s (head k g)) p.val := by
  have e : val_main_v96 (F := Ideal) (b0 I) (b3 I) (ix5 b k s g p) = ∑ d, I.k b p k d * I.q b s (head k g) d := by
    rw [val_main_v96_apply]
    refine Finset.sum_congr rfl fun d _ => (mul_comm _ _).trans (congrArg₂ (fun x y : EReal => x * y) rfl ?_)
    exact (congrArg (val_main_v1 (F := Ideal) (b0 I)) (a₂ := ix5 b s k g d) (funext fun a => by fin_cases a <;> rfl)).trans (query I b s k g d)
  have q : val_main_v101 (F := Ideal) (a1 I) (ix5 b k s g p) = I.qs b s (head k g) := by
    rw [val_main_v101_apply]
    exact (congrArg (val_main_v4 (F := Ideal) (a1 I)) (a₂ := ix5 b k s g 0) (funext fun a => by fin_cases a <;> rfl)).trans (query_scale I b s k g)
  have c : val_main_v103 (F := Ideal) (a8 I) (ix5 b k s g p) = I.ks b p k := by
    rw [val_main_v103_apply, val_main_v98_apply, val_main_v97_apply]
    rfl
  have u : val_main_v106 (F := Ideal) (a1 I) (a8 I) (b0 I) (b3 I) (ix5 b k s g p) = Spec.sc I b s (head k g) p.val := by
    rw [val_main_v106_apply, val_main_v104_apply, val_main_v102_apply, e, q, c, val_main_v105_apply, val_main_cst_12_apply, sc_head]
    rfl
  have i : val_main_call0_v1 (F := Ideal) (ix5 b k s g p) = IntOp.cmpi .sle (BitVec.ofNat 32 p.val) (BitVec.ofNat 32 s.val) := by
    rw [val_main_call0_v1_apply, val_main_v95_apply, val_main_v94_apply, val_main_v92_apply, val_main_v93_apply, val_main_v90_apply, val_main_v91_apply,
      val_main_v89_apply, val_main_v89_apply]
    rfl
  rw [val_main_v107_apply, i, u, val_main_call0_v2_apply, val_main_call0_v0_apply, val_main_cst_13_apply]
  refine (masked p s _ _).trans ?_
  unfold KernelIdeal.Gen.causal
  exact if_congr Iff.rfl rfl KernelIdeal.Gen.ofBits_neg_inf

theorem max_p : val_main_v17 (F := Ideal) (a1 I) (a4 I) (b0 I) (b1 I) (ix4 b k s g) = Finset.univ.sup fun p => val_main_v16 (F := Ideal) (a1 I) (a4 I) (b0 I) (b1 I) (ix5 b k s g p) := by
  unfold val_main_v17
  exact max_keys _ _ _ (by decide) ((val_main_cst_0_apply _).trans KernelIdeal.Gen.ofBits_neg_inf) b k s g

theorem max1_p : val_main_v18 (F := Ideal) (a1 I) (a4 I) (b0 I) (b1 I) (ix5 b k s g 0) = Finset.univ.sup fun p => val_main_v16 (F := Ideal) (a1 I) (a4 I) (b0 I) (b1 I) (ix5 b k s g p) := by
  rw [val_main_v18_apply]
  exact (congrArg (val_main_v17 (F := Ideal) (a1 I) (a4 I) (b0 I) (b1 I)) (a₂ := ix4 b k s g) (funext fun a => by fin_cases a <;> rfl)).trans (max_p I b s k g)

theorem exp_p (p : Fin 28672) : val_main_v21 (F := Ideal) (a1 I) (a4 I) (b0 I) (b1 I) (ix5 b k s g p)
    = Ideal.exp (val_main_v16 (F := Ideal) (a1 I) (a4 I) (b0 I) (b1 I) (ix5 b k s g p) - Finset.univ.sup fun p => val_main_v16 (F := Ideal) (a1 I) (a4 I) (b0 I) (b1 I) (ix5 b k s g p)) := by
  rw [val_main_v21_apply, val_main_v20_apply, val_main_v19_apply]
  refine congrArg (fun x : EReal => Ideal.exp (val_main_v16 (F := Ideal) (a1 I) (a4 I) (b0 I) (b1 I) (ix5 b k s g p) - x)) ?_
  exact (congrArg (val_main_v18 (F := Ideal) (a1 I) (a4 I) (b0 I) (b1 I)) (a₂ := ix5 b k s g 0) (funext fun a => by fin_cases a <;> rfl)).trans (max1_p I b s k g)

theorem sum_p : val_main_v22 (F := Ideal) (a1 I) (a4 I) (b0 I) (b1 I) (ix4 b k s g)
    = 0 + ∑ p, Ideal.exp (val_main_v16 (F := Ideal) (a1 I) (a4 I) (b0 I) (b1 I) (ix5 b k s g p) - Finset.univ.sup fun p => val_main_v16 (F := Ideal) (a1 I) (a4 I) (b0 I) (b1 I) (ix5 b k s g p)) := by
  rw [val_main_v22_apply, val_main_cst_1_apply]
  refine congrArg₂ (fun x y : EReal => x + y) Ideal.ofBits_zero_f32 (Finset.sum_congr rfl fun p _ => ?_)
  exact (congrArg (val_main_v21 (F := Ideal) (a1 I) (a4 I) (b0 I) (b1 I)) (a₂ := ix5 b k s g p) (funext fun a => by fin_cases a <;> rfl)).trans (exp_p I b s k g p)

theorem lse_p : val_main_v33 (F := Ideal) (a1 I) (a4 I) (b0 I) (b1 I) (ix4 b k s g) = Spec.lseP I b s (head k g) := by
  rw [val_main_v33_apply, val_main_v31_apply, val_main_v32_apply, sum_p]
  have h : val_main_v18 (F := Ideal) (a1 I) (a4 I) (b0 I) (b1 I) (idx_main_v31 (ix4 b k s g)) = Finset.univ.sup fun p => val_main_v16 (F := Ideal) (a1 I) (a4 I) (b0 I) (b1 I) (ix5 b k s g p) :=
    (congrArg (val_main_v18 (F := Ideal) (a1 I) (a4 I) (b0 I) (b1 I)) (a₂ := ix5 b k s g 0) (idx_v31 b s k g)).trans (max1_p I b s k g)
  rw [h]
  have a := (Softmax.attention (n := 28672) (Spec.sp I b s (head k g)) (fun _ => 1) (fun p => val_main_v16 (F := Ideal) (a1 I) (a4 I) (b0 I) (b1 I) (ix5 b k s g p)) (fun _ => 1) (fun _ => 1)
    (fun p => score_p I b s k g p) (fun _ => one_mul (1 : EReal))).1
  unfold Spec.lseP
  rw [← a]
  generalize (Finset.univ.sup fun p => val_main_v16 (F := Ideal) (a1 I) (a4 I) (b0 I) (b1 I) (ix5 b k s g p)) = x
  generalize (∑ p, Ideal.exp (val_main_v16 (F := Ideal) (a1 I) (a4 I) (b0 I) (b1 I) (ix5 b k s g p) - x)) = y
  rfl

theorem mean_p : val_main_v30 (F := Ideal) (a1 I) (a4 I) (a5 I) (b0 I) (b1 I) (b2 I) (ix5 b k s g d) = Softmax.mean (Spec.sp I b s (head k g)) (Spec.up I (head k g) d) 28672 := by
  have vs : ∀ p, val_main_v23 (F := Ideal) (a5 I) (ix5 b k s g p) = I.pvs p k := fun p => by
    rw [val_main_v23_apply, val_main_v10_apply, val_main_v9_apply]
    rfl
  have ew : ∀ p, val_main_v25 (F := Ideal) (a1 I) (a4 I) (a5 I) (b0 I) (b1 I) (ix5 b k s g p) = Ideal.exp (val_main_v16 (F := Ideal) (a1 I) (a4 I) (b0 I) (b1 I) (ix5 b k s g p) - Finset.univ.sup fun p => val_main_v16 (F := Ideal) (a1 I) (a4 I) (b0 I) (b1 I) (ix5 b k s g p)) * I.pvs p k := fun p => by
    rw [val_main_v25_apply, val_main_v24_apply, exp_p, vs]
    rfl
  have t : val_main_v27 (F := Ideal) (a1 I) (a4 I) (a5 I) (b0 I) (b1 I) (b2 I) (ix5 b k s g d) = ∑ p, Ideal.exp (val_main_v16 (F := Ideal) (a1 I) (a4 I) (b0 I) (b1 I) (ix5 b k s g p) - Finset.univ.sup fun p => val_main_v16 (F := Ideal) (a1 I) (a4 I) (b0 I) (b1 I) (ix5 b k s g p)) * I.pvs p k * I.pv p k d := by
    rw [val_main_v27_apply, val_main_v26_apply]
    refine Finset.sum_congr rfl fun p _ => (mul_comm _ _).trans (congrArg₂ (fun x y : EReal => x * y) ?_ rfl)
    exact (congrArg (val_main_v25 (F := Ideal) (a1 I) (a4 I) (a5 I) (b0 I) (b1 I)) (a₂ := ix5 b k s g p) (funext fun a => by fin_cases a <;> rfl)).trans (ew p)
  have l : val_main_v29 (F := Ideal) (a1 I) (a4 I) (b0 I) (b1 I) (ix5 b k s g d)
      = 0 + ∑ p, Ideal.exp (val_main_v16 (F := Ideal) (a1 I) (a4 I) (b0 I) (b1 I) (ix5 b k s g p) - Finset.univ.sup fun p => val_main_v16 (F := Ideal) (a1 I) (a4 I) (b0 I) (b1 I) (ix5 b k s g p)) := by
    rw [val_main_v29_apply, val_main_v28_apply]
    exact (congrArg (val_main_v22 (F := Ideal) (a1 I) (a4 I) (b0 I) (b1 I)) (a₂ := ix4 b k s g) (funext fun a => by fin_cases a <;> rfl)).trans (sum_p I b s k g)
  rw [val_main_v30_apply, t, l]
  exact (Softmax.attention (n := 28672) (Spec.sp I b s (head k g)) (Spec.up I (head k g) d) _ (fun p => I.pvs p k) (fun p => I.pv p k d) (fun p => score_p I b s k g p) (fun p => up_head I k g d p)).2

theorem max_m : val_main_v73 (F := Ideal) (a1 I) (a12 I) w (b0 I) (b5 I) (ix4 b k s g) = Finset.univ.sup fun p => val_main_v72 (F := Ideal) (a1 I) (a12 I) w (b0 I) (b5 I) (ix5 b k s g p) := by
  unfold val_main_v73
  exact max_keys _ _ _ (by decide) ((val_main_cst_10_apply _).trans KernelIdeal.Gen.ofBits_neg_inf) b k s g

theorem max1_m : val_main_v74 (F := Ideal) (a1 I) (a12 I) w (b0 I) (b5 I) (ix5 b k s g 0) = Finset.univ.sup fun p => val_main_v72 (F := Ideal) (a1 I) (a12 I) w (b0 I) (b5 I) (ix5 b k s g p) := by
  rw [val_main_v74_apply]
  exact (congrArg (val_main_v73 (F := Ideal) (a1 I) (a12 I) w (b0 I) (b5 I)) (a₂ := ix4 b k s g) (funext fun a => by fin_cases a <;> rfl)).trans (max_m I w b s k g)

theorem exp_m (p : Fin 384) : val_main_v77 (F := Ideal) (a1 I) (a12 I) w (b0 I) (b5 I) (ix5 b k s g p)
    = Ideal.exp (val_main_v72 (F := Ideal) (a1 I) (a12 I) w (b0 I) (b5 I) (ix5 b k s g p) - Finset.univ.sup fun p => val_main_v72 (F := Ideal) (a1 I) (a12 I) w (b0 I) (b5 I) (ix5 b k s g p)) := by
  rw [val_main_v77_apply, val_main_v76_apply, val_main_v75_apply]
  refine congrArg (fun x : EReal => Ideal.exp (val_main_v72 (F := Ideal) (a1 I) (a12 I) w (b0 I) (b5 I) (ix5 b k s g p) - x)) ?_
  exact (congrArg (val_main_v74 (F := Ideal) (a1 I) (a12 I) w (b0 I) (b5 I)) (a₂ := ix5 b k s g 0) (funext fun a => by fin_cases a <;> rfl)).trans (max1_m I w b s k g)

theorem sum_m : val_main_v78 (F := Ideal) (a1 I) (a12 I) w (b0 I) (b5 I) (ix4 b k s g)
    = 0 + ∑ p, Ideal.exp (val_main_v72 (F := Ideal) (a1 I) (a12 I) w (b0 I) (b5 I) (ix5 b k s g p) - Finset.univ.sup fun p => val_main_v72 (F := Ideal) (a1 I) (a12 I) w (b0 I) (b5 I) (ix5 b k s g p)) := by
  rw [val_main_v78_apply, val_main_cst_11_apply]
  refine congrArg₂ (fun x y : EReal => x + y) Ideal.ofBits_zero_f32 (Finset.sum_congr rfl fun p _ => ?_)
  exact (congrArg (val_main_v77 (F := Ideal) (a1 I) (a12 I) w (b0 I) (b5 I)) (a₂ := ix5 b k s g p) (funext fun a => by fin_cases a <;> rfl)).trans (exp_m I w b s k g p)

include hw in
theorem lse_m : val_main_v88 (F := Ideal) (a1 I) (a12 I) w (b0 I) (b5 I) (ix4 b k s g) = Spec.lseM I b s (head k g) := by
  rw [val_main_v88_apply, val_main_v86_apply, val_main_v87_apply, sum_m]
  have h : val_main_v74 (F := Ideal) (a1 I) (a12 I) w (b0 I) (b5 I) (idx_main_v86 (ix4 b k s g)) = Finset.univ.sup fun p => val_main_v72 (F := Ideal) (a1 I) (a12 I) w (b0 I) (b5 I) (ix5 b k s g p) :=
    (congrArg (val_main_v74 (F := Ideal) (a1 I) (a12 I) w (b0 I) (b5 I)) (a₂ := ix5 b k s g 0) (idx_v31 b s k g)).trans (max1_m I w b s k g)
  rw [h]
  have a := (Softmax.attention (n := 384) (Spec.sm I b s (head k g)) (fun _ => 1) (fun p => val_main_v72 (F := Ideal) (a1 I) (a12 I) w (b0 I) (b5 I) (ix5 b k s g p)) (fun _ => 1) (fun _ => 1)
    (fun p => score_m I w b s k g hw p) (fun _ => one_mul (1 : EReal))).1
  unfold Spec.lseM
  rw [← a]
  generalize (Finset.univ.sup fun p => val_main_v72 (F := Ideal) (a1 I) (a12 I) w (b0 I) (b5 I) (ix5 b k s g p)) = x
  generalize (∑ p, Ideal.exp (val_main_v72 (F := Ideal) (a1 I) (a12 I) w (b0 I) (b5 I) (ix5 b k s g p) - x)) = y
  rfl

include hw in
theorem mean_m : val_main_v85 (F := Ideal) (a1 I) (a12 I) (a13 I) w (b0 I) (b5 I) (b6 I) (ix5 b k s g d) = Softmax.mean (Spec.sm I b s (head k g)) (Spec.um I b (head k g) d) 384 := by
  have vs : ∀ p, val_main_v79 (F := Ideal) (a13 I) w (ix5 b k s g p) = I.tvs (I.mid b) p k := fun p => by
    rw [val_main_v79_apply, val_main_v59_apply, val_main_v58_apply]
    refine (congrArg (val_main_v57 (F := Ideal) (a13 I) w) (a₂ := ix3 b p k) (funext fun a => by fin_cases a <;> rfl)).trans ?_
    unfold val_main_v57
    exact (gather_scales _ _ b p k (I.mid b) (row_v56 I w b hw)).trans rfl
  have ew : ∀ p, val_main_v81 (F := Ideal) (a1 I) (a12 I) (a13 I) w (b0 I) (b5 I) (ix5 b k s g p) = Ideal.exp (val_main_v72 (F := Ideal) (a1 I) (a12 I) w (b0 I) (b5 I) (ix5 b k s g p) - Finset.univ.sup fun p => val_main_v72 (F := Ideal) (a1 I) (a12 I) w (b0 I) (b5 I) (ix5 b k s g p)) * I.tvs (I.mid b) p k := fun p => by
    rw [val_main_v81_apply, val_main_v80_apply, exp_m, vs]
    rfl
  have t : val_main_v82 (F := Ideal) (a1 I) (a12 I) (a13 I) w (b0 I) (b5 I) (b6 I) (ix5 b k s g d) = ∑ p, Ideal.exp (val_main_v72 (F := Ideal) (a1 I) (a12 I) w (b0 I) (b5 I) (ix5 b k s g p) - Finset.univ.sup fun p => val_main_v72 (F := Ideal) (a1 I) (a12 I) w (b0 I) (b5 I) (ix5 b k s g p)) * I.tvs (I.mid b) p k * I.tv (I.mid b) p k d := by
    rw [val_main_v82_apply]
    refine Finset.sum_congr rfl fun p _ => congrArg₂ (fun x y : EReal => x * y) ?_ ?_
    · exact (congrArg (val_main_v81 (F := Ideal) (a1 I) (a12 I) (a13 I) w (b0 I) (b5 I)) (a₂ := ix5 b k s g p) (funext fun a => by fin_cases a <;> rfl)).trans (ew p)
    · refine (congrArg (val_main_v66 (F := Ideal) w (b6 I)) (a₂ := ix4 b p k d) (funext fun a => by fin_cases a <;> rfl)).trans ?_
      unfold val_main_v66
      exact (gather_rows _ _ b p k d (I.mid b) (row_v65 I w b hw)).trans rfl
  have l : val_main_v84 (F := Ideal) (a1 I) (a12 I) w (b0 I) (b5 I) (ix5 b k s g d)
      = 0 + ∑ p, Ideal.exp (val_main_v72 (F := Ideal) (a1 I) (a12 I) w (b0 I) (b5 I) (ix5 b k s g p) - Finset.univ.sup fun p => val_main_v72 (F := Ideal) (a1 I) (a12 I) w (b0 I) (b5 I) (ix5 b k s g p)) := by
    rw [val_main_v84_apply, val_main_v83_apply]
    exact (congrArg (val_main_v78 (F := Ideal) (a1 I) (a12 I) w (b0 I) (b5 I)) (a₂ := ix4 b k s g) (funext fun a => by fin_cases a <;> rfl)).trans (sum_m I w b s k g)
  rw [val_main_v85_apply, t, l]
  exact (Softmax.attention (n := 384) (Spec.sm I b s (head k g)) (Spec.um I b (head k g) d) _ (fun p => I.tvs (I.mid b) p k) (fun p => I.tv (I.mid b) p k d) (fun p => score_m I w b s k g hw p) (fun p => um_head I b k g d p)).2

theorem max_c : val_main_v108 (F := Ideal) (a1 I) (a8 I) (b0 I) (b3 I) (ix4 b k s g) = Finset.univ.sup fun p => val_main_v107 (F := Ideal) (a1 I) (a8 I) (b0 I) (b3 I) (ix5 b k s g p) := by
  unfold val_main_v108
  exact max_keys _ _ _ (by decide) ((val_main_cst_14_apply _).trans KernelIdeal.Gen.ofBits_neg_inf) b k s g

theorem max1_c : val_main_v109 (F := Ideal) (a1 I) (a8 I) (b0 I) (b3 I) (ix5 b k s g 0) = Finset.univ.sup fun p => val_main_v107 (F := Ideal) (a1 I) (a8 I) (b0 I) (b3 I) (ix5 b k s g p) := by
  rw [val_main_v109_apply]
  exact (congrArg (val_main_v108 (F := Ideal) (a1 I) (a8 I) (b0 I) (b3 I)) (a₂ := ix4 b k s g) (funext fun a => by fin_cases a <;> rfl)).trans (max_c I b s k g)

theorem exp_c (p : Fin 1024) : val_main_v112 (F := Ideal) (a1 I) (a8 I) (b0 I) (b3 I) (ix5 b k s g p)
    = Ideal.exp (val_main_v107 (F := Ideal) (a1 I) (a8 I) (b0 I) (b3 I) (ix5 b k s g p) - Finset.univ.sup fun p => val_main_v107 (F := Ideal) (a1 I) (a8 I) (b0 I) (b3 I) (ix5 b k s g p)) := by
  rw [val_main_v112_apply, val_main_v111_apply, val_main_v110_apply]
  refine congrArg (fun x : EReal => Ideal.exp (val_main_v107 (F := Ideal) (a1 I) (a8 I) (b0 I) (b3 I) (ix5 b k s g p) - x)) ?_
  exact (congrArg (val_main_v109 (F := Ideal) (a1 I) (a8 I) (b0 I) (b3 I)) (a₂ := ix5 b k s g 0) (funext fun a => by fin_cases a <;> rfl)).trans (max1_c I b s k g)

theorem sum_c : val_main_v113 (F := Ideal) (a1 I) (a8 I) (b0 I) (b3 I) (ix4 b k s g)
    = 0 + ∑ p, Ideal.exp (val_main_v107 (F := Ideal) (a1 I) (a8 I) (b0 I) (b3 I) (ix5 b k s g p) - Finset.univ.sup fun p => val_main_v107 (F := Ideal) (a1 I) (a8 I) (b0 I) (b3 I) (ix5 b k s g p)) := by
  rw [val_main_v113_apply, val_main_cst_15_apply]
  refine congrArg₂ (fun x y : EReal => x + y) Ideal.ofBits_zero_f32 (Finset.sum_congr rfl fun p _ => ?_)
  exact (congrArg (val_main_v112 (F := Ideal) (a1 I) (a8 I) (b0 I) (b3 I)) (a₂ := ix5 b k s g p) (funext fun a => by fin_cases a <;> rfl)).trans (exp_c I b s k g p)

theorem lse_c : val_main_v123 (F := Ideal) (a1 I) (a8 I) (b0 I) (b3 I) (ix4 b k s g) = Spec.lseC I b s (head k g) := by
  rw [val_main_v123_apply, val_main_v121_apply, val_main_v122_apply, sum_c]
  have h : val_main_v109 (F := Ideal) (a1 I) (a8 I) (b0 I) (b3 I) (idx_main_v121 (ix4 b k s g)) = Finset.univ.sup fun p => val_main_v107 (F := Ideal) (a1 I) (a8 I) (b0 I) (b3 I) (ix5 b k s g p) :=
    (congrArg (val_main_v109 (F := Ideal) (a1 I) (a8 I) (b0 I) (b3 I)) (a₂ := ix5 b k s g 0) (idx_v31 b s k g)).trans (max1_c I b s k g)
  rw [h]
  have a := (Softmax.attention (n := 1024) (KernelIdeal.Gen.causal s (Spec.sc I b s (head k g))) (fun _ => 1) (fun p => val_main_v107 (F := Ideal) (a1 I) (a8 I) (b0 I) (b3 I) (ix5 b k s g p)) (fun _ => 1) (fun _ => 1)
    (fun p => score_c I b s k g p) (fun _ => one_mul (1 : EReal))).1
  unfold Spec.lseC
  rw [← a]
  generalize (Finset.univ.sup fun p => val_main_v107 (F := Ideal) (a1 I) (a8 I) (b0 I) (b3 I) (ix5 b k s g p)) = x
  generalize (∑ p, Ideal.exp (val_main_v107 (F := Ideal) (a1 I) (a8 I) (b0 I) (b3 I) (ix5 b k s g p) - x)) = y
  rfl

theorem mean_c : val_main_v120 (F := Ideal) (a1 I) (a8 I) (a9 I) (b0 I) (b3 I) (b4 I) (ix5 b k s g d) = Softmax.mean (KernelIdeal.Gen.causal s (Spec.sc I b s (head k g))) (Spec.uc I b (head k g) d) 1024 := by
  have vs : ∀ p, val_main_v114 (F := Ideal) (a9 I) (ix5 b k s g p) = I.vs b p k := fun p => by
    rw [val_main_v114_apply, val_main_v100_apply, val_main_v99_apply]
    rfl
  have ew : ∀ p, val_main_v116 (F := Ideal) (a1 I) (a8 I) (a9 I) (b0 I) (b3 I) (ix5 b k s g p) = Ideal.exp (val_main_v107 (F := Ideal) (a1 I) (a8 I) (b0 I) (b3 I) (ix5 b k s g p) - Finset.univ.sup fun p => val_main_v107 (F := Ideal) (a1 I) (a8 I) (b0 I) (b3 I) (ix5 b k s g p)) * I.vs b p k := fun p => by
    rw [val_main_v116_apply, val_main_v115_apply, exp_c, vs]
    rfl
  have t : val_main_v117 (F := Ideal) (a1 I) (a8 I) (a9 I) (b0 I) (b3 I) (b4 I) (ix5 b k s g d) = ∑ p, Ideal.exp (val_main_v107 (F := Ideal) (a1 I) (a8 I) (b0 I) (b3 I) (ix5 b k s g p) - Finset.univ.sup fun p => val_main_v107 (F := Ideal) (a1 I) (a8 I) (b0 I) (b3 I) (ix5 b k s g p)) * I.vs b p k * I.v b p k d := by
    rw [val_main_v117_apply]
    refine Finset.sum_congr rfl fun p _ => congrArg₂ (fun x y : EReal => x * y) ?_ rfl
    exact (congrArg (val_main_v116 (F := Ideal) (a1 I) (a8 I) (a9 I) (b0 I) (b3 I)) (a₂ := ix5 b k s g p) (funext fun a => by fin_cases a <;> rfl)).trans (ew p)
  have l : val_main_v119 (F := Ideal) (a1 I) (a8 I) (b0 I) (b3 I) (ix5 b k s g d)
      = 0 + ∑ p, Ideal.exp (val_main_v107 (F := Ideal) (a1 I) (a8 I) (b0 I) (b3 I) (ix5 b k s g p) - Finset.univ.sup fun p => val_main_v107 (F := Ideal) (a1 I) (a8 I) (b0 I) (b3 I) (ix5 b k s g p)) := by
    rw [val_main_v119_apply, val_main_v118_apply]
    exact (congrArg (val_main_v113 (F := Ideal) (a1 I) (a8 I) (b0 I) (b3 I)) (a₂ := ix4 b k s g) (funext fun a => by fin_cases a <;> rfl)).trans (sum_c I b s k g)
  rw [val_main_v120_apply, t, l]
  exact (Softmax.attention (n := 1024) (KernelIdeal.Gen.causal s (Spec.sc I b s (head k g))) (Spec.uc I b (head k g) d) _ (fun p => I.vs b p k) (fun p => I.v b p k d) (fun p => score_c I b s k g p) (fun p => uc_head I b k g d p)).2

end Cert.ReferenceIdeal.Read

end
-- ==== Proof.RefRegion.lean ====
/- What the reference's first call leaves: the arguments it widens, unchanged in the idealized run. -/
module

public import proofs.«01_k».proof.Proof.Gen.ReferenceIdeal.Run
public import Idealize.ShloMosaic.Lib.Pipeline.ValueKit
public import Idealize.ShloMosaic.Lib.Pipeline.CanonAppend

@[expose] public section

set_option maxRecDepth 16384

noncomputable section

namespace Cert.ReferenceIdeal.Gen

open Idealize.ShloMosaic Idealize.ShloMosaic.TcCoe

variable (m : (ℓ : Loc nD τ sig) → Buf (Elt Ideal) ℓ) (c : Dev nD)

theorem left0 (t : Fin cfg0.N) (y : (S24x1024x28x128 : Shape).Idx) :
    out0_7 (iblk m c 0 t) (iblk m c 1 t) (iblk m c 2 t) (iblk m c 3 t) (iblk m c 4 t) (iblk m c 5 t) (iblk m c 6 t) y = iblk m c 0 t y := by
  unfold out0_7
  generalize iblk m c 0 t = X
  refine View.canon_append_of_pieces (Val := Elt Ideal) (e := .f32) X [] _ (List.forall_mem_singleton.2 fun x => ?_) y (cover0_7 (F := Ideal) (k0_pay3 (View.ld X r0_0)) y)
  rfl

theorem block0 (t : Fin cfg0.N) (y : (S24x1024x28x128 : Shape).Idx) :
    iblk m c 0 t y = m ((c.tc : Thread nD τ).loc main_arg0) ((win0_7.blk t).view.emb y) := by
  unfold iblk
  refine congrArg (m ((c.tc : Thread nD τ).loc main_arg0)) (a₁ := (((cfg0.win 0).blk t).view.emb y)) (funext fun a => Fin.ext ?_)
  fin_cases a <;> rfl

theorem region0 : (Value.reg_main_v0_0 m c : (S24x1024x28x128 : Shape).Idx → EReal) = m ((c.tc : Thread nD τ).loc main_arg0) := by
  unfold Value.reg_main_v0_0
  refine (dats m 0 c).arrAt_eq_of_covers 7 _ (of_decide_eq_true (by sl_kernel_rfl)) fun t hf y => ?_
  blk_simp
  rw [after0_7]
  exact (left0 m c t y).trans (block0 m c t y)

theorem left1 (t : Fin cfg0.N) (y : (S28672x4x128 : Shape).Idx) :
    out0_8 (iblk m c 0 t) (iblk m c 1 t) (iblk m c 2 t) (iblk m c 3 t) (iblk m c 4 t) (iblk m c 5 t) (iblk m c 6 t) y = iblk m c 1 t y := by
  unfold out0_8
  generalize iblk m c 1 t = X
  refine View.canon_append_of_pieces (Val := Elt Ideal) (e := .f32) X [] _ (List.forall_mem_singleton.2 fun x => ?_) y (cover0_8 (F := Ideal) (k0_pay4 (View.ld X r0_1)) y)
  rfl

theorem block1 (t : Fin cfg0.N) (y : (S28672x4x128 : Shape).Idx) :
    iblk m c 1 t y = m ((c.tc : Thread nD τ).loc main_arg2) ((win0_8.blk t).view.emb y) := by
  unfold iblk
  refine congrArg (m ((c.tc : Thread nD τ).loc main_arg2)) (a₁ := (((cfg0.win 1).blk t).view.emb y)) (funext fun a => Fin.ext ?_)
  fin_cases a <;> rfl

theorem region1 : (Value.reg_main_v0_1 m c : (S28672x4x128 : Shape).Idx → EReal) = m ((c.tc : Thread nD τ).loc main_arg2) := by
  unfold Value.reg_main_v0_1
  refine (dats m 0 c).arrAt_eq_of_covers 8 _ (of_decide_eq_true (by sl_kernel_rfl)) fun t hf y => ?_
  blk_simp
  rw [after0_8]
  exact (left1 m c t y).trans (block1 m c t y)

theorem left2 (t : Fin cfg0.N) (y : (S28672x4x128 : Shape).Idx) :
    out0_9 (iblk m c 0 t) (iblk m c 1 t) (iblk m c 2 t) (iblk m c 3 t) (iblk m c 4 t) (iblk m c 5 t) (iblk m c 6 t) y = iblk m c 2 t y := by
  unfold out0_9
  generalize iblk m c 2 t = X
  refine View.canon_append_of_pieces (Val := Elt Ideal) (e := .bf16) X [] _ (List.forall_mem_singleton.2 fun x => ?_) y (cover0_9 (F := Ideal) (k0_pay5 (View.ld X r0_1)) y)
  rfl

theorem block2 (t : Fin cfg0.N) (y : (S28672x4x128 : Shape).Idx) :
    iblk m c 2 t y = m ((c.tc : Thread nD τ).loc main_arg3) ((win0_9.blk t).view.emb y) := by
  unfold iblk
  refine congrArg (m ((c.tc : Thread nD τ).loc main_arg3)) (a₁ := (((cfg0.win 2).blk t).view.emb y)) (funext fun a => Fin.ext ?_)
  fin_cases a <;> rfl

theorem region2 : (Value.reg_main_v0_2 m c : (S28672x4x128 : Shape).Idx → EReal) = m ((c.tc : Thread nD τ).loc main_arg3) := by
  unfold Value.reg_main_v0_2
  refine (dats m 0 c).arrAt_eq_of_covers 9 _ (of_decide_eq_true (by sl_kernel_rfl)) fun t hf y => ?_
  blk_simp
  rw [after0_9]
  exact (left2 m c t y).trans (block2 m c t y)

theorem left3 (t : Fin cfg0.N) (y : (S24x1024x4x128 : Shape).Idx) :
    out0_10 (iblk m c 0 t) (iblk m c 1 t) (iblk m c 2 t) (iblk m c 3 t) (iblk m c 4 t) (iblk m c 5 t) (iblk m c 6 t) y = iblk m c 3 t y := by
  unfold out0_10
  generalize iblk m c 3 t = X
  refine View.canon_append_of_pieces (Val := Elt Ideal) (e := .f32) X [] _ (List.forall_mem_singleton.2 fun x => ?_) y (cover0_10 (F := Ideal) (k0_pay6 (View.ld X r0_2)) y)
  rfl

theorem block3 (t : Fin cfg0.N) (y : (S24x1024x4x128 : Shape).Idx) :
    iblk m c 3 t y = m ((c.tc : Thread nD τ).loc main_arg6) ((win0_10.blk t).view.emb y) := by
  unfold iblk
  refine congrArg (m ((c.tc : Thread nD τ).loc main_arg6)) (a₁ := (((cfg0.win 3).blk t).view.emb y)) (funext fun a => Fin.ext ?_)
  fin_cases a <;> rfl

theorem region3 : (Value.reg_main_v0_3 m c : (S24x1024x4x128 : Shape).Idx → EReal) = m ((c.tc : Thread nD τ).loc main_arg6) := by
  unfold Value.reg_main_v0_3
  refine (dats m 0 c).arrAt_eq_of_covers 10 _ (of_decide_eq_true (by sl_kernel_rfl)) fun t hf y => ?_
  blk_simp
  rw [after0_10]
  exact (left3 m c t y).trans (block3 m c t y)

theorem left4 (t : Fin cfg0.N) (y : (S24x1024x4x128 : Shape).Idx) :
    out0_11 (iblk m c 0 t) (iblk m c 1 t) (iblk m c 2 t) (iblk m c 3 t) (iblk m c 4 t) (iblk m c 5 t) (iblk m c 6 t) y = iblk m c 4 t y := by
  unfold out0_11
  generalize iblk m c 4 t = X
  refine View.canon_append_of_pieces (Val := Elt Ideal) (e := .bf16) X [] _ (List.forall_mem_singleton.2 fun x => ?_) y (cover0_11 (F := Ideal) (k0_pay7 (View.ld X r0_2)) y)
  rfl

theorem block4 (t : Fin cfg0.N) (y : (S24x1024x4x128 : Shape).Idx) :
    iblk m c 4 t y = m ((c.tc : Thread nD τ).loc main_arg7) ((win0_11.blk t).view.emb y) := by
  unfold iblk
  refine congrArg (m ((c.tc : Thread nD τ).loc main_arg7)) (a₁ := (((cfg0.win 4).blk t).view.emb y)) (funext fun a => Fin.ext ?_)
  fin_cases a <;> rfl

theorem region4 : (Value.reg_main_v0_4 m c : (S24x1024x4x128 : Shape).Idx → EReal) = m ((c.tc : Thread nD τ).loc main_arg7) := by
  unfold Value.reg_main_v0_4
  refine (dats m 0 c).arrAt_eq_of_covers 11 _ (of_decide_eq_true (by sl_kernel_rfl)) fun t hf y => ?_
  blk_simp
  rw [after0_11]
  exact (left4 m c t y).trans (block4 m c t y)

theorem left5 (t : Fin cfg0.N) (y : (S3x384x4x128 : Shape).Idx) :
    out0_12 (iblk m c 0 t) (iblk m c 1 t) (iblk m c 2 t) (iblk m c 3 t) (iblk m c 4 t) (iblk m c 5 t) (iblk m c 6 t) y = iblk m c 5 t y := by
  unfold out0_12
  generalize iblk m c 5 t = X
  refine View.canon_append_of_pieces (Val := Elt Ideal) (e := .f32) X [] _ (List.forall_mem_singleton.2 fun x => ?_) y (cover0_12 (F := Ideal) (k0_pay1 (View.ld X r0_3)) y)
  rfl

theorem block5 (t : Fin cfg0.N) (y : (S3x384x4x128 : Shape).Idx) :
    iblk m c 5 t y = m ((c.tc : Thread nD τ).loc main_arg10) ((win0_12.blk t).view.emb y) := by
  unfold iblk
  refine congrArg (m ((c.tc : Thread nD τ).loc main_arg10)) (a₁ := (((cfg0.win 5).blk t).view.emb y)) (funext fun a => Fin.ext ?_)
  fin_cases a <;> rfl

theorem region5 : (Value.reg_main_v0_5 m c : (S3x384x4x128 : Shape).Idx → EReal) = m ((c.tc : Thread nD τ).loc main_arg10) := by
  unfold Value.reg_main_v0_5
  refine (dats m 0 c).arrAt_eq_of_covers 12 _ (of_decide_eq_true (by sl_kernel_rfl)) fun t hf y => ?_
  blk_simp
  rw [after0_12]
  exact (left5 m c t y).trans (block5 m c t y)

theorem left6 (t : Fin cfg0.N) (y : (S3x384x4x128 : Shape).Idx) :
    out0_13 (iblk m c 0 t) (iblk m c 1 t) (iblk m c 2 t) (iblk m c 3 t) (iblk m c 4 t) (iblk m c 5 t) (iblk m c 6 t) y = iblk m c 6 t y := by
  unfold out0_13
  generalize iblk m c 6 t = X
  refine View.canon_append_of_pieces (Val := Elt Ideal) (e := .bf16) X [] _ (List.forall_mem_singleton.2 fun x => ?_) y (cover0_13 (F := Ideal) (k0_pay2 (View.ld X r0_3)) y)
  rfl

theorem block6 (t : Fin cfg0.N) (y : (S3x384x4x128 : Shape).Idx) :
    iblk m c 6 t y = m ((c.tc : Thread nD τ).loc main_arg11) ((win0_13.blk t).view.emb y) := by
  unfold iblk
  refine congrArg (m ((c.tc : Thread nD τ).loc main_arg11)) (a₁ := (((cfg0.win 6).blk t).view.emb y)) (funext fun a => Fin.ext ?_)
  fin_cases a <;> rfl

theorem region6 : (Value.reg_main_v0_6 m c : (S3x384x4x128 : Shape).Idx → EReal) = m ((c.tc : Thread nD τ).loc main_arg11) := by
  unfold Value.reg_main_v0_6
  refine (dats m 0 c).arrAt_eq_of_covers 13 _ (of_decide_eq_true (by sl_kernel_rfl)) fun t hf y => ?_
  blk_simp
  rw [after0_13]
  exact (left6 m c t y).trans (block6 m c t y)

end Cert.ReferenceIdeal.Gen

end
-- ==== Proof.Host.lean ====
/- The arrays that the kernel's call reads, as the host code leaves them: each element is an element of an argument. -/
module

public import proofs.«01_k».proof.Proof.Gen.KernelIdeal.Frame
public import Idealize.ShloMosaic.Lib.Pointwise
public import Idealize.ShloMosaic.Lib.StableHlo.Run
public import Idealize.ShloMosaic.Lib.Pipeline.ValueKit

@[expose] public section

set_option maxRecDepth 16384

noncomputable section

namespace Cert.KernelIdeal.Gen

open Idealize.ShloMosaic Idealize.ShloMosaic.TcCoe Idealize.ShloMosaic.StableHlo

variable (m : (ℓ : Loc nD τ sig) → Buf (Elt Ideal) ℓ) (c : Dev nD)

/-- Argument `b` as launched. -/
abbrev arg (b : Ref sig .tc) : Buf (Elt Ideal) ((c : Thread nD τ).loc b) := m ((c : Thread nD τ).loc b)

theorem V_v0 (b : Fin 24) (s : Fin 1024) (h : Fin 28) (d : Fin 128) (e : Fin 3584) (he : e.val = h.val * 128 + d.val) :
    V m c main_v0 (ix3 b s e) = arg m c main_arg0 (ix4 b s h d) := by
  have ev : V m c main_v0 = shapeCast S24x1024x3584 (arg m c main_arg0) shapeCasts_S24x1024x28x128_S24x1024x3584 := by
    show after hostOps0 (fun b => m (c, b)) (Proc.devRef .tc main_v0) = _
    unfold hostOps0
    after_results
    rfl
  refine (congrFun ev _).trans ?_
  exact shapeCast_apply (s := S24x1024x28x128) _ _ _ _ (by
    rw [Shape.rowMajor_val_four, Shape.rowMajor_val_three]
    show ((b.val * 1024 + s.val) * 28 + h.val) * 128 + d.val = (b.val * 1024 + s.val) * 3584 + e.val
    omega)

theorem V_v2 (b : Fin 24) (h : Fin 28) (s : Fin 1024) :
    V m c main_v2 (ix4 b h 0 s) = arg m c main_arg1 (ix3 b s h) := by
  have ev : V m c main_v2 = broadcastInDim S24x28x1x1024 ![0, 1, 3] bcast_S24x28x1024_S24x28x1x1024_0_1_3 (transpose S24x28x1024 [0, 2, 1] (arg m c main_arg1) transposes_S24x1024x28_S24x28x1024_0_2_1) := by
    show after hostOps0 (fun b => m (c, b)) (Proc.devRef .tc main_v2) = _
    unfold hostOps0
    after_results
  refine (congrFun ev _).trans ?_
  pointwise

theorem V_v3 (n : Fin 4) (p : Fin 28672) (d : Fin 128) :
    V m c main_v3 (ix3 n p d) = arg m c main_arg2 (ix3 p n d) := by
  have ev : V m c main_v3 = transpose S4x28672x128 [1, 0, 2] (arg m c main_arg2) transposes_S28672x4x128_S4x28672x128_1_0_2 := by
    show after hostOps0 (fun b => m (c, b)) (Proc.devRef .tc main_v3) = _
    unfold hostOps0
    after_results
  refine (congrFun ev _).trans ?_
  pointwise

theorem V_v6 (n : Fin 4) (p : Fin 28672) (l : Fin 128) :
    V m c main_v6 (ix3 n p l) = arg m c main_arg4 (ix2 p n) := by
  have ev : V m c main_v6 = broadcastInDim S4x28672x128 ![0, 1, 2] bcast_S4x28672x1_S4x28672x128_0_1_2 (broadcastInDim S4x28672x1 ![0, 1] bcast_S4x28672_S4x28672x1_0_1 (transpose S4x28672 [1, 0] (arg m c main_arg4) transposes_S28672x4_S4x28672_1_0)) := by
    show after hostOps0 (fun b => m (c, b)) (Proc.devRef .tc main_v6) = _
    unfold hostOps0
    after_results
  refine (congrFun ev _).trans ?_
  pointwise

theorem V_v7 (n : Fin 4) (d : Fin 128) (p : Fin 28672) :
    V m c main_v7 (ix3 n d p) = arg m c main_arg3 (ix3 p n d) := by
  have ev : V m c main_v7 = transpose S4x128x28672 [1, 2, 0] (arg m c main_arg3) transposes_S28672x4x128_S4x128x28672_1_2_0 := by
    show after hostOps0 (fun b => m (c, b)) (Proc.devRef .tc main_v7) = _
    unfold hostOps0
    after_results
  refine (congrFun ev _).trans ?_
  pointwise

theorem V_v9 (n : Fin 4) (p : Fin 28672) :
    V m c main_v9 (ix3 n 0 p) = arg m c main_arg5 (ix2 p n) := by
  have ev : V m c main_v9 = broadcastInDim S4x1x28672 ![0, 2] bcast_S4x28672_S4x1x28672_0_2 (transpose S4x28672 [1, 0] (arg m c main_arg5) transposes_S28672x4_S4x28672_1_0) := by
    show after hostOps0 (fun b => m (c, b)) (Proc.devRef .tc main_v9) = _
    unfold hostOps0
    after_results
  refine (congrFun ev _).trans ?_
  pointwise

theorem V_v10 (b : Fin 24) (n : Fin 4) (p : Fin 1024) (d : Fin 128) :
    V m c main_v10 (ix4 b n p d) = arg m c main_arg6 (ix4 b p n d) := by
  have ev : V m c main_v10 = transpose S24x4x1024x128 [0, 2, 1, 3] (arg m c main_arg6) transposes_S24x1024x4x128_S24x4x1024x128_0_2_1_3 := by
    show after hostOps0 (fun b => m (c, b)) (Proc.devRef .tc main_v10) = _
    unfold hostOps0
    after_results
  refine (congrFun ev _).trans ?_
  pointwise

theorem V_v13 (b : Fin 24) (n : Fin 4) (p : Fin 1024) (l : Fin 128) :
    V m c main_v13 (ix4 b n p l) = arg m c main_arg8 (ix3 b p n) := by
  have ev : V m c main_v13 = broadcastInDim S24x4x1024x128 ![0, 1, 2, 3] bcast_S24x4x1024x1_S24x4x1024x128_0_1_2_3 (broadcastInDim S24x4x1024x1 ![0, 1, 2] bcast_S24x4x1024_S24x4x1024x1_0_1_2 (transpose S24x4x1024 [0, 2, 1] (arg m c main_arg8) transposes_S24x1024x4_S24x4x1024_0_2_1)) := by
    show after hostOps0 (fun b => m (c, b)) (Proc.devRef .tc main_v13) = _
    unfold hostOps0
    after_results
  refine (congrFun ev _).trans ?_
  pointwise

theorem V_v14 (b : Fin 24) (n : Fin 4) (d : Fin 128) (p : Fin 1024) :
    V m c main_v14 (ix4 b n d p) = arg m c main_arg7 (ix4 b p n d) := by
  have ev : V m c main_v14 = transpose S24x4x128x1024 [0, 2, 3, 1] (arg m c main_arg7) transposes_S24x1024x4x128_S24x4x128x1024_0_2_3_1 := by
    show after hostOps0 (fun b => m (c, b)) (Proc.devRef .tc main_v14) = _
    unfold hostOps0
    after_results
  refine (congrFun ev _).trans ?_
  pointwise

theorem V_v16 (b : Fin 24) (n : Fin 4) (p : Fin 1024) :
    V m c main_v16 (ix4 b n 0 p) = arg m c main_arg9 (ix3 b p n) := by
  have ev : V m c main_v16 = broadcastInDim S24x4x1x1024 ![0, 1, 3] bcast_S24x4x1024_S24x4x1x1024_0_1_3 (transpose S24x4x1024 [0, 2, 1] (arg m c main_arg9) transposes_S24x1024x4_S24x4x1024_0_2_1) := by
    show after hostOps0 (fun b => m (c, b)) (Proc.devRef .tc main_v16) = _
    unfold hostOps0
    after_results
  refine (congrFun ev _).trans ?_
  pointwise

theorem V_v17 (b : Fin 3) (n : Fin 4) (p : Fin 384) (d : Fin 128) :
    V m c main_v17 (ix4 b n p d) = arg m c main_arg10 (ix4 b p n d) := by
  have ev : V m c main_v17 = transpose S3x4x384x128 [0, 2, 1, 3] (arg m c main_arg10) transposes_S3x384x4x128_S3x4x384x128_0_2_1_3 := by
    show after hostOps0 (fun b => m (c, b)) (Proc.devRef .tc main_v17) = _
    unfold hostOps0
    after_results
  refine (congrFun ev _).trans ?_
  pointwise

theorem V_v20 (b : Fin 3) (n : Fin 4) (p : Fin 384) (l : Fin 128) :
    V m c main_v20 (ix4 b n p l) = arg m c main_arg12 (ix3 b p n) := by
  have ev : V m c main_v20 = broadcastInDim S3x4x384x128 ![0, 1, 2, 3] bcast_S3x4x384x1_S3x4x384x128_0_1_2_3 (broadcastInDim S3x4x384x1 ![0, 1, 2] bcast_S3x4x384_S3x4x384x1_0_1_2 (transpose S3x4x384 [0, 2, 1] (arg m c main_arg12) transposes_S3x384x4_S3x4x384_0_2_1)) := by
    show after hostOps0 (fun b => m (c, b)) (Proc.devRef .tc main_v20) = _
    unfold hostOps0
    after_results
  refine (congrFun ev _).trans ?_
  pointwise

theorem V_v21 (b : Fin 3) (n : Fin 4) (d : Fin 128) (p : Fin 384) :
    V m c main_v21 (ix4 b n d p) = arg m c main_arg11 (ix4 b p n d) := by
  have ev : V m c main_v21 = transpose S3x4x128x384 [0, 2, 3, 1] (arg m c main_arg11) transposes_S3x384x4x128_S3x4x128x384_0_2_3_1 := by
    show after hostOps0 (fun b => m (c, b)) (Proc.devRef .tc main_v21) = _
    unfold hostOps0
    after_results
  refine (congrFun ev _).trans ?_
  pointwise

theorem V_v23 (b : Fin 3) (n : Fin 4) (p : Fin 384) :
    V m c main_v23 (ix4 b n 0 p) = arg m c main_arg13 (ix3 b p n) := by
  have ev : V m c main_v23 = broadcastInDim S3x4x1x384 ![0, 1, 3] bcast_S3x4x384_S3x4x1x384_0_1_3 (transpose S3x4x384 [0, 2, 1] (arg m c main_arg13) transposes_S3x384x4_S3x4x384_0_2_1) := by
    show after hostOps0 (fun b => m (c, b)) (Proc.devRef .tc main_v23) = _
    unfold hostOps0
    after_results
  refine (congrFun ev _).trans ?_
  pointwise

end Cert.KernelIdeal.Gen

end
-- ==== Proof.Blocks.lean ====
/- The blocks of the kernel's call at a grid point, as elements of the arguments. -/
module

public import proofs.«01_k».proof.Proof.Host
public import proofs.«01_k».proof.Proof.Table

@[expose] public section

set_option maxRecDepth 16384

noncomputable section

namespace Cert.KernelIdeal.Gen

open Idealize.ShloMosaic Idealize.ShloMosaic.TcCoe

/-- A grid point's key head, batch row and query head of the group, and the query head. -/
abbrev kvOf (t : Fin grid0.N) : Fin 4 := grid0.coords t 0
abbrev batchOf (t : Fin grid0.N) : Fin 24 := grid0.coords t 1
abbrev groupOf (t : Fin grid0.N) : Fin 7 := grid0.coords t 2
def headOf (t : Fin grid0.N) : Fin 28 := ⟨(kvOf t).val * 7 + (groupOf t).val, by have := (kvOf t).isLt; have := (groupOf t).isLt; omega⟩

theorem word0 (i : grid0.Coords) : (BitVec.ofNat 32 (i 0).val).toNat = (i 0).val := by
  have h : (i 0).val < 4 := (i 0).isLt
  rw [BitVec.toNat_ofNat]; exact Nat.mod_eq_of_lt (by omega)

theorem word1 (i : grid0.Coords) : (BitVec.ofNat 32 (i 1).val).toNat = (i 1).val := by
  have h : (i 1).val < 24 := (i 1).isLt
  rw [BitVec.toNat_ofNat]; exact Nat.mod_eq_of_lt (by omega)

theorem wordh (i : grid0.Coords) :
    (Scalar.addi (Scalar.muli (BitVec.ofNat 32 (i 0).val) 7#32) (BitVec.ofNat 32 (i 2).val)).toNat = (i 0).val * 7 + (i 2).val := by
  have h0 : (i 0).val < 4 := (i 0).isLt
  have h2 : (i 2).val < 7 := (i 2).isLt
  show (BitVec.ofNat 32 (i 0).val * 7#32 + BitVec.ofNat 32 (i 2).val).toNat = _
  simp only [BitVec.toNat_add, BitVec.toNat_mul, BitVec.toNat_ofNat]
  omega

theorem transform0 (i : grid0.Coords) : cc0_transform_0 i = ![(i 1).val, 0, (i 0).val * 7 + (i 2).val] := by
  funext a
  unfold cc0_transform_0
  fin_cases a
  · exact word1 i
  · exact rfl
  · exact wordh i

theorem transform1 (i : grid0.Coords) : cc0_transform_1 i = ![(i 0).val, 0, 0] := by
  funext a
  unfold cc0_transform_1
  fin_cases a
  · exact word0 i
  · exact rfl
  · exact rfl

theorem transform2 (i : grid0.Coords) : cc0_transform_2 i = ![(i 0).val, 0, 0] := by
  funext a
  unfold cc0_transform_2
  fin_cases a
  · exact word0 i
  · exact rfl
  · exact rfl

theorem transform3 (i : grid0.Coords) : cc0_transform_3 i = ![(i 0).val, 0, 0] := by
  funext a
  unfold cc0_transform_3
  fin_cases a
  · exact word0 i
  · exact rfl
  · exact rfl

theorem transform4 (i : grid0.Coords) : cc0_transform_4 i = ![(i 0).val, 0, 0] := by
  funext a
  unfold cc0_transform_4
  fin_cases a
  · exact word0 i
  · exact rfl
  · exact rfl

theorem transform5 (i : grid0.Coords) : cc0_transform_5 i = ![(i 1).val, (i 0).val * 7 + (i 2).val, 0, 0] := by
  funext a
  unfold cc0_transform_5
  fin_cases a
  · exact word1 i
  · exact wordh i
  · exact rfl
  · exact rfl

theorem transform6 (i : grid0.Coords) : cc0_transform_6 i = ![(i 1).val, (i 0).val, 0, 0] := by
  funext a
  unfold cc0_transform_6
  fin_cases a
  · exact word1 i
  · exact word0 i
  · exact rfl
  · exact rfl

theorem transform7 (i : grid0.Coords) : cc0_transform_7 i = ![(i 1).val, (i 0).val, 0, 0] := by
  funext a
  unfold cc0_transform_7
  fin_cases a
  · exact word1 i
  · exact word0 i
  · exact rfl
  · exact rfl

theorem transform8 (i : grid0.Coords) : cc0_transform_8 i = ![(i 1).val, (i 0).val, 0, 0] := by
  funext a
  unfold cc0_transform_8
  fin_cases a
  · exact word1 i
  · exact word0 i
  · exact rfl
  · exact rfl

theorem transform9 (i : grid0.Coords) : cc0_transform_9 i = ![(i 1).val, (i 0).val, 0, 0] := by
  funext a
  unfold cc0_transform_9
  fin_cases a
  · exact word1 i
  · exact word0 i
  · exact rfl
  · exact rfl

theorem transform14 (i : grid0.Coords) : cc0_transform_14 i = ![(i 1).val, 0, (i 0).val * 7 + (i 2).val] := by
  funext a
  unfold cc0_transform_14
  fin_cases a
  · exact word1 i
  · exact rfl
  · exact wordh i

theorem transform15 (i : grid0.Coords) : cc0_transform_15 i = ![(i 1).val, (i 0).val * 7 + (i 2).val, 0, 0] := by
  funext a
  unfold cc0_transform_15
  fin_cases a
  · exact word1 i
  · exact wordh i
  · exact rfl
  · exact rfl

theorem transform16 (i : grid0.Coords) : cc0_transform_16 i = ![(i 1).val, (i 0).val * 7 + (i 2).val, 0, 0] := by
  funext a
  unfold cc0_transform_16
  fin_cases a
  · exact word1 i
  · exact wordh i
  · exact rfl
  · exact rfl

theorem transform17 (i : grid0.Coords) : cc0_transform_17 i = ![(i 1).val, (i 0).val * 7 + (i 2).val, 0, 0] := by
  funext a
  unfold cc0_transform_17
  fin_cases a
  · exact word1 i
  · exact wordh i
  · exact rfl
  · exact rfl

section reads

variable (m : (ℓ : Loc nD τ sig) → Buf (Elt Ideal) ℓ) (hO : Ok m) (hT : ∀ b : Fin 24, (tbl m 0 (ix1 b) : BitVec 32).toNat < 3)
  (c : Dev nD) (t : Fin grid0.N)

/-- The middle segment of a batch row, by the table. -/
def midOf (b : Fin 24) : Fin 3 := ⟨(tbl m 0 (ix1 b) : BitVec 32).toNat, hT b⟩

theorem blk0 (s : Fin 1024) (d : Fin 128) : (iblk m hO c 0 t : Vec Ideal S1x1024x128 .fp8e4m3) (ix3 0 s d) = arg m c main_arg0 (ix4 (batchOf t) s (headOf t) d) := by
  refine (congrArg (V m c main_v0) (a₂ := ix3 (batchOf t) s ⟨(headOf t).val * 128 + d.val, by have := (headOf t).isLt; omega⟩) (funext fun a => Fin.ext ?_)).trans (V_v0 m c (batchOf t) s (headOf t) d _ rfl)
  have e : ∀ a, cc0_transform_0 (grid0.coords t) a = _ := fun a => congrFun (transform0 (grid0.coords t)) a
  fin_cases a
  · show cc0_transform_0 (grid0.coords t) 0 * 1 + 1 * 0 = _
    rw [e]
    show ((grid0.coords t 1).val) * 1 + 1 * 0 = (grid0.coords t 1).val
    exact Nat.mul_one _
  · show cc0_transform_0 (grid0.coords t) 1 * 1024 + 1 * s.val = _
    rw [e]
    show 0 * 1024 + 1 * s.val = s.val
    rw [Nat.zero_mul, Nat.zero_add, Nat.one_mul]
  · show cc0_transform_0 (grid0.coords t) 2 * 128 + 1 * d.val = _
    rw [e]
    show ((grid0.coords t 0).val * 7 + (grid0.coords t 2).val) * 128 + 1 * d.val = ((grid0.coords t 0).val * 7 + (grid0.coords t 2).val) * 128 + d.val
    rw [Nat.one_mul]

theorem blk1 (p : Fin 28672) (d : Fin 128) : (iblk m hO c 1 t : Vec Ideal S1x28672x128 .fp8e4m3) (ix3 0 p d) = arg m c main_arg2 (ix3 p (kvOf t) d) := by
  refine (congrArg (V m c main_v3) (a₂ := ix3 (kvOf t) p d) (funext fun a => Fin.ext ?_)).trans (V_v3 m c _ _ _)
  have e : ∀ a, cc0_transform_1 (grid0.coords t) a = _ := fun a => congrFun (transform1 (grid0.coords t)) a
  fin_cases a
  · show cc0_transform_1 (grid0.coords t) 0 * 1 + 1 * 0 = _
    rw [e]
    show ((grid0.coords t 0).val) * 1 + 1 * 0 = (grid0.coords t 0).val
    exact Nat.mul_one _
  · show cc0_transform_1 (grid0.coords t) 1 * 28672 + 1 * p.val = _
    rw [e]
    show 0 * 28672 + 1 * p.val = p.val
    rw [Nat.zero_mul, Nat.zero_add, Nat.one_mul]
  · show cc0_transform_1 (grid0.coords t) 2 * 128 + 1 * d.val = _
    rw [e]
    show 0 * 128 + 1 * d.val = d.val
    rw [Nat.zero_mul, Nat.zero_add, Nat.one_mul]

theorem blk2 (p : Fin 28672) (d : Fin 128) : (iblk m hO c 2 t : Vec Ideal S1x28672x128 .f32) (ix3 0 p d) = arg m c main_arg4 (ix2 p (kvOf t)) := by
  refine (congrArg (V m c main_v6) (a₂ := ix3 (kvOf t) p d) (funext fun a => Fin.ext ?_)).trans (V_v6 m c _ _ _)
  have e : ∀ a, cc0_transform_2 (grid0.coords t) a = _ := fun a => congrFun (transform2 (grid0.coords t)) a
  fin_cases a
  · show cc0_transform_2 (grid0.coords t) 0 * 1 + 1 * 0 = _
    rw [e]
    show ((grid0.coords t 0).val) * 1 + 1 * 0 = (grid0.coords t 0).val
    exact Nat.mul_one _
  · show cc0_transform_2 (grid0.coords t) 1 * 28672 + 1 * p.val = _
    rw [e]
    show 0 * 28672 + 1 * p.val = p.val
    rw [Nat.zero_mul, Nat.zero_add, Nat.one_mul]
  · show cc0_transform_2 (grid0.coords t) 2 * 128 + 1 * d.val = _
    rw [e]
    show 0 * 128 + 1 * d.val = d.val
    rw [Nat.zero_mul, Nat.zero_add, Nat.one_mul]

theorem blk3 (d : Fin 128) (p : Fin 28672) : (iblk m hO c 3 t : Vec Ideal S1x128x28672 .fp8e4m3) (ix3 0 d p) = arg m c main_arg3 (ix3 p (kvOf t) d) := by
  refine (congrArg (V m c main_v7) (a₂ := ix3 (kvOf t) d p) (funext fun a => Fin.ext ?_)).trans (V_v7 m c _ _ _)
  have e : ∀ a, cc0_transform_3 (grid0.coords t) a = _ := fun a => congrFun (transform3 (grid0.coords t)) a
  fin_cases a
  · show cc0_transform_3 (grid0.coords t) 0 * 1 + 1 * 0 = _
    rw [e]
    show ((grid0.coords t 0).val) * 1 + 1 * 0 = (grid0.coords t 0).val
    exact Nat.mul_one _
  · show cc0_transform_3 (grid0.coords t) 1 * 128 + 1 * d.val = _
    rw [e]
    show 0 * 128 + 1 * d.val = d.val
    rw [Nat.zero_mul, Nat.zero_add, Nat.one_mul]
  · show cc0_transform_3 (grid0.coords t) 2 * 28672 + 1 * p.val = _
    rw [e]
    show 0 * 28672 + 1 * p.val = p.val
    rw [Nat.zero_mul, Nat.zero_add, Nat.one_mul]

theorem blk4 (p : Fin 28672) : (iblk m hO c 4 t : Vec Ideal S1x1x28672 .f32) (ix3 0 0 p) = arg m c main_arg5 (ix2 p (kvOf t)) := by
  refine (congrArg (V m c main_v9) (a₂ := ix3 (kvOf t) 0 p) (funext fun a => Fin.ext ?_)).trans (V_v9 m c _ _)
  have e : ∀ a, cc0_transform_4 (grid0.coords t) a = _ := fun a => congrFun (transform4 (grid0.coords t)) a
  fin_cases a
  · show cc0_transform_4 (grid0.coords t) 0 * 1 + 1 * 0 = _
    rw [e]
    show ((grid0.coords t 0).val) * 1 + 1 * 0 = (grid0.coords t 0).val
    exact Nat.mul_one _
  · show cc0_transform_4 (grid0.coords t) 1 * 1 + 1 * 0 = _
    rw [e]
    rfl
  · show cc0_transform_4 (grid0.coords t) 2 * 28672 + 1 * p.val = _
    rw [e]
    show 0 * 28672 + 1 * p.val = p.val
    rw [Nat.zero_mul, Nat.zero_add, Nat.one_mul]

theorem blk5 (s : Fin 1024) : (iblk m hO c 5 t : Vec Ideal S1x1x1x1024 .f32) (ix4 0 0 0 s) = arg m c main_arg1 (ix3 (batchOf t) s (headOf t)) := by
  refine (congrArg (V m c main_v2) (a₂ := ix4 (batchOf t) (headOf t) 0 s) (funext fun a => Fin.ext ?_)).trans (V_v2 m c _ _ _)
  have e : ∀ a, cc0_transform_5 (grid0.coords t) a = _ := fun a => congrFun (transform5 (grid0.coords t)) a
  fin_cases a
  · show cc0_transform_5 (grid0.coords t) 0 * 1 + 1 * 0 = _
    rw [e]
    show ((grid0.coords t 1).val) * 1 + 1 * 0 = (grid0.coords t 1).val
    exact Nat.mul_one _
  · show cc0_transform_5 (grid0.coords t) 1 * 1 + 1 * 0 = _
    rw [e]
    show ((grid0.coords t 0).val * 7 + (grid0.coords t 2).val) * 1 + 1 * 0 = (grid0.coords t 0).val * 7 + (grid0.coords t 2).val
    exact Nat.mul_one _
  · show cc0_transform_5 (grid0.coords t) 2 * 1 + 1 * 0 = _
    rw [e]
    rfl
  · show cc0_transform_5 (grid0.coords t) 3 * 1024 + 1 * s.val = _
    rw [e]
    show 0 * 1024 + 1 * s.val = s.val
    rw [Nat.zero_mul, Nat.zero_add, Nat.one_mul]

theorem blk6 (p : Fin 1024) (d : Fin 128) : (iblk m hO c 6 t : Vec Ideal S1x1x1024x128 .fp8e4m3) (ix4 0 0 p d) = arg m c main_arg6 (ix4 (batchOf t) p (kvOf t) d) := by
  refine (congrArg (V m c main_v10) (a₂ := ix4 (batchOf t) (kvOf t) p d) (funext fun a => Fin.ext ?_)).trans (V_v10 m c _ _ _ _)
  have e : ∀ a, cc0_transform_6 (grid0.coords t) a = _ := fun a => congrFun (transform6 (grid0.coords t)) a
  fin_cases a
  · show cc0_transform_6 (grid0.coords t) 0 * 1 + 1 * 0 = _
    rw [e]
    show ((grid0.coords t 1).val) * 1 + 1 * 0 = (grid0.coords t 1).val
    exact Nat.mul_one _
  · show cc0_transform_6 (grid0.coords t) 1 * 1 + 1 * 0 = _
    rw [e]
    show ((grid0.coords t 0).val) * 1 + 1 * 0 = (grid0.coords t 0).val
    exact Nat.mul_one _
  · show cc0_transform_6 (grid0.coords t) 2 * 1024 + 1 * p.val = _
    rw [e]
    show 0 * 1024 + 1 * p.val = p.val
    rw [Nat.zero_mul, Nat.zero_add, Nat.one_mul]
  · show cc0_transform_6 (grid0.coords t) 3 * 128 + 1 * d.val = _
    rw [e]
    show 0 * 128 + 1 * d.val = d.val
    rw [Nat.zero_mul, Nat.zero_add, Nat.one_mul]

theorem blk7 (p : Fin 1024) (d : Fin 128) : (iblk m hO c 7 t : Vec Ideal S1x1x1024x128 .f32) (ix4 0 0 p d) = arg m c main_arg8 (ix3 (batchOf t) p (kvOf t)) := by
  refine (congrArg (V m c main_v13) (a₂ := ix4 (batchOf t) (kvOf t) p d) (funext fun a => Fin.ext ?_)).trans (V_v13 m c _ _ _ _)
  have e : ∀ a, cc0_transform_7 (grid0.coords t) a = _ := fun a => congrFun (transform7 (grid0.coords t)) a
  fin_cases a
  · show cc0_transform_7 (grid0.coords t) 0 * 1 + 1 * 0 = _
    rw [e]
    show ((grid0.coords t 1).val) * 1 + 1 * 0 = (grid0.coords t 1).val
    exact Nat.mul_one _
  · show cc0_transform_7 (grid0.coords t) 1 * 1 + 1 * 0 = _
    rw [e]
    show ((grid0.coords t 0).val) * 1 + 1 * 0 = (grid0.coords t 0).val
    exact Nat.mul_one _
  · show cc0_transform_7 (grid0.coords t) 2 * 1024 + 1 * p.val = _
    rw [e]
    show 0 * 1024 + 1 * p.val = p.val
    rw [Nat.zero_mul, Nat.zero_add, Nat.one_mul]
  · show cc0_transform_7 (grid0.coords t) 3 * 128 + 1 * d.val = _
    rw [e]
    show 0 * 128 + 1 * d.val = d.val
    rw [Nat.zero_mul, Nat.zero_add, Nat.one_mul]

theorem blk8 (d : Fin 128) (p : Fin 1024) : (iblk m hO c 8 t : Vec Ideal S1x1x128x1024 .fp8e4m3) (ix4 0 0 d p) = arg m c main_arg7 (ix4 (batchOf t) p (kvOf t) d) := by
  refine (congrArg (V m c main_v14) (a₂ := ix4 (batchOf t) (kvOf t) d p) (funext fun a => Fin.ext ?_)).trans (V_v14 m c _ _ _ _)
  have e : ∀ a, cc0_transform_8 (grid0.coords t) a = _ := fun a => congrFun (transform8 (grid0.coords t)) a
  fin_cases a
  · show cc0_transform_8 (grid0.coords t) 0 * 1 + 1 * 0 = _
    rw [e]
    show ((grid0.coords t 1).val) * 1 + 1 * 0 = (grid0.coords t 1).val
    exact Nat.mul_one _
  · show cc0_transform_8 (grid0.coords t) 1 * 1 + 1 * 0 = _
    rw [e]
    show ((grid0.coords t 0).val) * 1 + 1 * 0 = (grid0.coords t 0).val
    exact Nat.mul_one _
  · show cc0_transform_8 (grid0.coords t) 2 * 128 + 1 * d.val = _
    rw [e]
    show 0 * 128 + 1 * d.val = d.val
    rw [Nat.zero_mul, Nat.zero_add, Nat.one_mul]
  · show cc0_transform_8 (grid0.coords t) 3 * 1024 + 1 * p.val = _
    rw [e]
    show 0 * 1024 + 1 * p.val = p.val
    rw [Nat.zero_mul, Nat.zero_add, Nat.one_mul]

theorem blk9 (p : Fin 1024) : (iblk m hO c 9 t : Vec Ideal S1x1x1x1024 .f32) (ix4 0 0 0 p) = arg m c main_arg9 (ix3 (batchOf t) p (kvOf t)) := by
  refine (congrArg (V m c main_v16) (a₂ := ix4 (batchOf t) (kvOf t) 0 p) (funext fun a => Fin.ext ?_)).trans (V_v16 m c _ _ _)
  have e : ∀ a, cc0_transform_9 (grid0.coords t) a = _ := fun a => congrFun (transform9 (grid0.coords t)) a
  fin_cases a
  · show cc0_transform_9 (grid0.coords t) 0 * 1 + 1 * 0 = _
    rw [e]
    show ((grid0.coords t 1).val) * 1 + 1 * 0 = (grid0.coords t 1).val
    exact Nat.mul_one _
  · show cc0_transform_9 (grid0.coords t) 1 * 1 + 1 * 0 = _
    rw [e]
    show ((grid0.coords t 0).val) * 1 + 1 * 0 = (grid0.coords t 0).val
    exact Nat.mul_one _
  · show cc0_transform_9 (grid0.coords t) 2 * 1 + 1 * 0 = _
    rw [e]
    rfl
  · show cc0_transform_9 (grid0.coords t) 3 * 1024 + 1 * p.val = _
    rw [e]
    show 0 * 1024 + 1 * p.val = p.val
    rw [Nat.zero_mul, Nat.zero_add, Nat.one_mul]

theorem midOf_val (b : Fin 24) : (tbl m 0 (ix1 b) : BitVec 32).toNat = (midOf m hT b).val := rfl

theorem blk10 (p : Fin 384) (d : Fin 128) : (iblk m hO c 10 t : Vec Ideal S1x1x384x128 .fp8e4m3) (ix4 0 0 p d) = arg m c main_arg10 (ix4 (midOf m hT (batchOf t)) p (kvOf t) d) := by
  have hv := midOf_val m hT (batchOf t)
  generalize midOf m hT (batchOf t) = T at hv ⊢
  have e : ∀ a, cc0_transform_10 (Facts₀.k0_off1_inb) (Facts₀.numel1_S1) (tbl m) (grid0.coords t) a = ![T.val, (grid0.coords t 0).val, 0, 0] a := fun a => by rw [transform10, hv]
  refine (congrArg (V m c main_v17) (a₂ := ix4 T (kvOf t) p d) (funext fun a => Fin.ext ?_)).trans (V_v17 m c _ _ _ _)
  fin_cases a
  · show cc0_transform_10 (Facts₀.k0_off1_inb) (Facts₀.numel1_S1) (tbl m) (grid0.coords t) 0 * 1 + 1 * 0 = _
    rw [e]
    show (T.val) * 1 + 1 * 0 = T.val
    exact Nat.mul_one _
  · show cc0_transform_10 (Facts₀.k0_off1_inb) (Facts₀.numel1_S1) (tbl m) (grid0.coords t) 1 * 1 + 1 * 0 = _
    rw [e]
    show ((grid0.coords t 0).val) * 1 + 1 * 0 = (grid0.coords t 0).val
    exact Nat.mul_one _
  · show cc0_transform_10 (Facts₀.k0_off1_inb) (Facts₀.numel1_S1) (tbl m) (grid0.coords t) 2 * 384 + 1 * p.val = _
    rw [e]
    show 0 * 384 + 1 * p.val = p.val
    rw [Nat.zero_mul, Nat.zero_add, Nat.one_mul]
  · show cc0_transform_10 (Facts₀.k0_off1_inb) (Facts₀.numel1_S1) (tbl m) (grid0.coords t) 3 * 128 + 1 * d.val = _
    rw [e]
    show 0 * 128 + 1 * d.val = d.val
    rw [Nat.zero_mul, Nat.zero_add, Nat.one_mul]

theorem blk11 (p : Fin 384) (d : Fin 128) : (iblk m hO c 11 t : Vec Ideal S1x1x384x128 .f32) (ix4 0 0 p d) = arg m c main_arg12 (ix3 (midOf m hT (batchOf t)) p (kvOf t)) := by
  have hv := midOf_val m hT (batchOf t)
  generalize midOf m hT (batchOf t) = T at hv ⊢
  have e : ∀ a, cc0_transform_11 (Facts₀.k0_off1_inb) (Facts₀.numel1_S1) (tbl m) (grid0.coords t) a = ![T.val, (grid0.coords t 0).val, 0, 0] a := fun a => by rw [transform11, hv]
  refine (congrArg (V m c main_v20) (a₂ := ix4 T (kvOf t) p d) (funext fun a => Fin.ext ?_)).trans (V_v20 m c _ _ _ _)
  fin_cases a
  · show cc0_transform_11 (Facts₀.k0_off1_inb) (Facts₀.numel1_S1) (tbl m) (grid0.coords t) 0 * 1 + 1 * 0 = _
    rw [e]
    show (T.val) * 1 + 1 * 0 = T.val
    exact Nat.mul_one _
  · show cc0_transform_11 (Facts₀.k0_off1_inb) (Facts₀.numel1_S1) (tbl m) (grid0.coords t) 1 * 1 + 1 * 0 = _
    rw [e]
    show ((grid0.coords t 0).val) * 1 + 1 * 0 = (grid0.coords t 0).val
    exact Nat.mul_one _
  · show cc0_transform_11 (Facts₀.k0_off1_inb) (Facts₀.numel1_S1) (tbl m) (grid0.coords t) 2 * 384 + 1 * p.val = _
    rw [e]
    show 0 * 384 + 1 * p.val = p.val
    rw [Nat.zero_mul, Nat.zero_add, Nat.one_mul]
  · show cc0_transform_11 (Facts₀.k0_off1_inb) (Facts₀.numel1_S1) (tbl m) (grid0.coords t) 3 * 128 + 1 * d.val = _
    rw [e]
    show 0 * 128 + 1 * d.val = d.val
    rw [Nat.zero_mul, Nat.zero_add, Nat.one_mul]

theorem blk12 (d : Fin 128) (p : Fin 384) : (iblk m hO c 12 t : Vec Ideal S1x1x128x384 .fp8e4m3) (ix4 0 0 d p) = arg m c main_arg11 (ix4 (midOf m hT (batchOf t)) p (kvOf t) d) := by
  have hv := midOf_val m hT (batchOf t)
  generalize midOf m hT (batchOf t) = T at hv ⊢
  have e : ∀ a, cc0_transform_12 (Facts₀.k0_off1_inb) (Facts₀.numel1_S1) (tbl m) (grid0.coords t) a = ![T.val, (grid0.coords t 0).val, 0, 0] a := fun a => by rw [transform12, hv]
  refine (congrArg (V m c main_v21) (a₂ := ix4 T (kvOf t) d p) (funext fun a => Fin.ext ?_)).trans (V_v21 m c _ _ _ _)
  fin_cases a
  · show cc0_transform_12 (Facts₀.k0_off1_inb) (Facts₀.numel1_S1) (tbl m) (grid0.coords t) 0 * 1 + 1 * 0 = _
    rw [e]
    show (T.val) * 1 + 1 * 0 = T.val
    exact Nat.mul_one _
  · show cc0_transform_12 (Facts₀.k0_off1_inb) (Facts₀.numel1_S1) (tbl m) (grid0.coords t) 1 * 1 + 1 * 0 = _
    rw [e]
    show ((grid0.coords t 0).val) * 1 + 1 * 0 = (grid0.coords t 0).val
    exact Nat.mul_one _
  · show cc0_transform_12 (Facts₀.k0_off1_inb) (Facts₀.numel1_S1) (tbl m) (grid0.coords t) 2 * 128 + 1 * d.val = _
    rw [e]
    show 0 * 128 + 1 * d.val = d.val
    rw [Nat.zero_mul, Nat.zero_add, Nat.one_mul]
  · show cc0_transform_12 (Facts₀.k0_off1_inb) (Facts₀.numel1_S1) (tbl m) (grid0.coords t) 3 * 384 + 1 * p.val = _
    rw [e]
    show 0 * 384 + 1 * p.val = p.val
    rw [Nat.zero_mul, Nat.zero_add, Nat.one_mul]

theorem blk13 (p : Fin 384) : (iblk m hO c 13 t : Vec Ideal S1x1x1x384 .f32) (ix4 0 0 0 p) = arg m c main_arg13 (ix3 (midOf m hT (batchOf t)) p (kvOf t)) := by
  have hv := midOf_val m hT (batchOf t)
  generalize midOf m hT (batchOf t) = T at hv ⊢
  have e : ∀ a, cc0_transform_13 (Facts₀.k0_off1_inb) (Facts₀.numel1_S1) (tbl m) (grid0.coords t) a = ![T.val, (grid0.coords t 0).val, 0, 0] a := fun a => by rw [transform13, hv]
  refine (congrArg (V m c main_v23) (a₂ := ix4 T (kvOf t) 0 p) (funext fun a => Fin.ext ?_)).trans (V_v23 m c _ _ _)
  fin_cases a
  · show cc0_transform_13 (Facts₀.k0_off1_inb) (Facts₀.numel1_S1) (tbl m) (grid0.coords t) 0 * 1 + 1 * 0 = _
    rw [e]
    show (T.val) * 1 + 1 * 0 = T.val
    exact Nat.mul_one _
  · show cc0_transform_13 (Facts₀.k0_off1_inb) (Facts₀.numel1_S1) (tbl m) (grid0.coords t) 1 * 1 + 1 * 0 = _
    rw [e]
    show ((grid0.coords t 0).val) * 1 + 1 * 0 = (grid0.coords t 0).val
    exact Nat.mul_one _
  · show cc0_transform_13 (Facts₀.k0_off1_inb) (Facts₀.numel1_S1) (tbl m) (grid0.coords t) 2 * 1 + 1 * 0 = _
    rw [e]
    rfl
  · show cc0_transform_13 (Facts₀.k0_off1_inb) (Facts₀.numel1_S1) (tbl m) (grid0.coords t) 3 * 384 + 1 * p.val = _
    rw [e]
    show 0 * 384 + 1 * p.val = p.val
    rw [Nat.zero_mul, Nat.zero_add, Nat.one_mul]

end reads

end Cert.KernelIdeal.Gen

end
-- ==== Proof.Carry.lean ====
/- The loops of the kernel's body: each carries one row's attention over the tiles of its keys. -/
module

public import proofs.«01_k».proof.Proof.Attend
public import proofs.«01_k».proof.Proof.Gen.KernelIdeal.Loops

@[expose] public section

set_option maxRecDepth 16384

noncomputable section

namespace Cert.KernelIdeal.Gen

open Idealize.ShloMosaic Idealize.ShloMosaic.TcCoe

variable (𝒱 : Variants) (c : Dev nD) (bd : Option 𝒱.V) (i : grid0.Coords)
  (arg3 : Memref sig .tc .smem S24 .i32) (harg3 : arg3.IsWhole)
  (arg4 : Memref sig .tc .vmem S1x1024x128 .fp8e4m3) (harg4 : arg4.IsWhole)
  (arg5 : Memref sig .tc .vmem S1x28672x128 .fp8e4m3) (harg5 : arg5.IsWhole)
  (arg6 : Memref sig .tc .vmem S1x28672x128 .f32) (harg6 : arg6.IsWhole)
  (arg7 : Memref sig .tc .vmem S1x128x28672 .fp8e4m3) (harg7 : arg7.IsWhole)
  (arg8 : Memref sig .tc .vmem S1x1x28672 .f32) (harg8 : arg8.IsWhole)
  (arg9 : Memref sig .tc .vmem S1x1x1x1024 .f32) (harg9 : arg9.IsWhole)
  (arg10 : Memref sig .tc .vmem S1x1x1024x128 .fp8e4m3) (harg10 : arg10.IsWhole)
  (arg11 : Memref sig .tc .vmem S1x1x1024x128 .f32) (harg11 : arg11.IsWhole)
  (arg12 : Memref sig .tc .vmem S1x1x128x1024 .fp8e4m3) (harg12 : arg12.IsWhole)
  (arg13 : Memref sig .tc .vmem S1x1x1x1024 .f32) (harg13 : arg13.IsWhole)
  (arg14 : Memref sig .tc .vmem S1x1x384x128 .fp8e4m3) (harg14 : arg14.IsWhole)
  (arg15 : Memref sig .tc .vmem S1x1x384x128 .f32) (harg15 : arg15.IsWhole)
  (arg16 : Memref sig .tc .vmem S1x1x128x384 .fp8e4m3) (harg16 : arg16.IsWhole)
  (arg17 : Memref sig .tc .vmem S1x1x1x384 .f32) (harg17 : arg17.IsWhole)
  (arg18 : Memref sig .tc .vmem S1x1024x128 .bf16) (harg18 : arg18.IsWhole)
  (arg19 : Memref sig .tc .vmem S1x1x1x1024 .f32) (harg19 : arg19.IsWhole)
  (arg20 : Memref sig .tc .vmem S1x1x1x1024 .f32) (harg20 : arg20.IsWhole)
  (arg21 : Memref sig .tc .vmem S1x1x1x1024 .f32) (harg21 : arg21.IsWhole)
  (x1 : Vec Ideal S1x28672x128 .fp8e4m3) (x2 : Vec Ideal S1x28672x128 .f32) (x3 : Vec Ideal S1x128x28672 .fp8e4m3)
  (x4 : Vec Ideal S1x1x28672 .f32) (x6 : Vec Ideal S1x1x1024x128 .fp8e4m3) (x7 : Vec Ideal S1x1x1024x128 .f32)
  (x8 : Vec Ideal S1x1x128x1024 .fp8e4m3) (x9 : Vec Ideal S1x1x1x1024 .f32)
  {j : Fin 256} {x : ℕ → EReal} {u : Fin 128 → ℕ → EReal}

theorem bound512 {k : ℕ} (h : k < 56) : 512 * k + 512 ≤ 28672 := by omega
theorem bound256 {m : ℕ} (hm : m ≤ 4) {k : ℕ} (h : k < m) : 256 * k + 256 ≤ 1024 := by omega

theorem t1_inv (v0 : Vec Ideal S1x256x128 .fp8e4m3) (v2 : Vec Ideal S1x1x1x256 .f32)
    (H : AttP x1 x2 x3 x4 (fun d => (k0_pay16 v0) (ix2 j d)) ((k0_pay17 v2) (ix2 0 j)) x u) (k : ℕ) (hk : k ≤ k0_t1_loop.trips) :
    Inv j x u (512 * k) (st_k0_t1 (F := Ideal) 𝒱 c bd i
      arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21
      v0 v2 (harg5.unread x1) (harg6.unread x2) (harg7.unread x3) (harg8.unread x4) acc0 k) := by
  induction k with
  | zero => exact Inv_acc0 _ _ _
  | succ k ih =>
    have hk' : k < 56 := hk
    rw [st_k0_t1_succ (F := Ideal) (k := ⟨k, hk⟩)]
    unfold tripR_k0_t1 trip_k0_t1
    simp only [View.readAt_eq_ld, Memref.IsWhole.read_unread]
    exact prompt_tile H (bound512 hk') (k0_off2_eq ⟨k, hk⟩) (k0_off3_eq ⟨k, hk⟩) (k0_off4_eq ⟨k, hk⟩) _ _ _ _ (ih (Nat.le_of_lt hk))

theorem t2_inv (v112 v156 : FVec Ideal S1x256 .f32) (v167 : Vec Ideal S1x256x128 .fp8e4m3) (v169 : Vec Ideal S1x1x1x256 .f32)
    (H : AttP x1 x2 x3 x4 (fun d => (k0_pay58 v167) (ix2 j d)) ((k0_pay59 v169) (ix2 0 j)) x u) (k : ℕ) (hk : k ≤ k0_t2_loop.trips) :
    Inv j x u (512 * k) (st_k0_t2 (F := Ideal) 𝒱 c bd i
      arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21
      v112 v156 v167 v169 (harg5.unread x1) (harg6.unread x2) (harg7.unread x3) (harg8.unread x4) acc0 k) := by
  induction k with
  | zero => exact Inv_acc0 _ _ _
  | succ k ih =>
    have hk' : k < 56 := hk
    rw [st_k0_t2_succ (F := Ideal) (k := ⟨k, hk⟩)]
    unfold tripR_k0_t2 trip_k0_t2
    simp only [View.readAt_eq_ld, Memref.IsWhole.read_unread]
    exact prompt_tile H (bound512 hk') (k0_off8_eq ⟨k, hk⟩) (k0_off9_eq ⟨k, hk⟩) (k0_off10_eq ⟨k, hk⟩) _ _ _ _ (ih (Nat.le_of_lt hk))

theorem word_t3 : ∀ k : Fin k0_t3_loop.trips, Scalar.muli (Scf.iv k0_t3_loop.lb k0_t3_loop.st k) 256#32 = BitVec.ofNat 32 (256 * k) := by
  decide +kernel

/-- One trip is one tile's step. -/
theorem t3_trip (v112 v156 : FVec Ideal S1x256 .f32) (v167 : Vec Ideal S1x256x128 .fp8e4m3) (v169 : Vec Ideal S1x1x1x256 .f32) (X6 X7 X8 X9)
    (k : Fin k0_t3_loop.trips) (acc) :
    tripR_k0_t3 (F := Ideal) 𝒱 c bd i
        arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 v112 v156 v167 v169 X6 X7 X8 X9 k acc =
      step256 (masked (Scalar.muli (Scf.iv k0_t3_loop.lb k0_t3_loop.st k) 256#32) 256#32 (scores256 (k0_pay58 v167) (k0_pay59 v169)
          (shapeCast S256x128 (View.ld (arg10.view.read (Elt Ideal) X6)
            (Rect.unit (k0_off11 k) ![1, 1, 256, 128] (k0_off11_inb k))) shapeCasts_S1x1x256x128_S256x128)
          (shapeCast S256x128 (View.ld (arg11.view.read (Elt Ideal) X7)
            (Rect.unit (k0_off11 k) ![1, 1, 256, 128] (k0_off11_inb k))) shapeCasts_S1x1x256x128_S256x128)))
        (values broadcasts_S1x256_S128x256
          (shapeCast S128x256 (View.ld (arg12.view.read (Elt Ideal) X8)
            (Rect.unit (k0_off12 k) ![1, 1, 128, 256] (k0_off12_inb k))) shapeCasts_S1x1x128x256_S128x256)
          (shapeCast S1x256 (View.ld (arg13.view.read (Elt Ideal) X9)
            (Rect.unit (k0_off13 k) ![1, 1, 1, 256] (k0_off13_inb k))) shapeCasts_S1x1x1x256_S1x256)) acc := by
  unfold tripR_k0_t3 trip_k0_t3; sl_unfold_words; rfl

theorem t3_inv (v112 v156 : FVec Ideal S1x256 .f32) (v167 : Vec Ideal S1x256x128 .fp8e4m3) (v169 : Vec Ideal S1x1x1x256 .f32)
    (H : AttC x6 x7 x8 x9 (fun d => (k0_pay58 v167) (ix2 j d)) ((k0_pay59 v169) (ix2 0 j)) x u) (k : ℕ) (hk : k ≤ k0_t3_loop.trips) :
    Inv j (causal (256 + j) x) u (256 * k) (st_k0_t3 (F := Ideal) 𝒱 c bd i
      arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21
      v112 v156 v167 v169 (harg10.unread x6) (harg11.unread x7) (harg12.unread x8) (harg13.unread x9) acc0 k) := by
  induction k with
  | zero => exact Inv_acc0 _ _ _
  | succ k ih =>
    have hk' : k < 2 := hk
    rw [st_k0_t3_succ (F := Ideal) (k := ⟨k, hk⟩)]
    rw [t3_trip]
    have hb : 256 < 1024 := by decide
    have hm : 2 ≤ 4 := by decide
    simp only [View.readAt_eq_ld, Memref.IsWhole.read_unread]
    exact completion_tile hb H (bound256 hm hk') (k0_off11_eq ⟨k, hk⟩) (k0_off12_eq ⟨k, hk⟩) (k0_off13_eq ⟨k, hk⟩) _ _ _ _ (word_t3 ⟨k, hk⟩) rfl (ih (Nat.le_of_lt hk))

theorem t4_inv (v227 v231 : FVec Ideal S1x256 .f32) (v263 : IVec S1x256 32) (v267 : FVec Ideal S1x256 .f32) (v286 : Vec Ideal S1x256x128 .fp8e4m3)
    (v288 : Vec Ideal S1x1x1x256 .f32)
    (H : AttP x1 x2 x3 x4 (fun d => (k0_pay91 v286) (ix2 j d)) ((k0_pay92 v288) (ix2 0 j)) x u) (k : ℕ) (hk : k ≤ k0_t4_loop.trips) :
    Inv j x u (512 * k) (st_k0_t4 (F := Ideal) 𝒱 c bd i
      arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21
      v227 v231 v263 v267 v286 v288 (harg5.unread x1) (harg6.unread x2) (harg7.unread x3) (harg8.unread x4) acc0 k) := by
  induction k with
  | zero => exact Inv_acc0 _ _ _
  | succ k ih =>
    have hk' : k < 56 := hk
    rw [st_k0_t4_succ (F := Ideal) (k := ⟨k, hk⟩)]
    unfold tripR_k0_t4 trip_k0_t4
    simp only [View.readAt_eq_ld, Memref.IsWhole.read_unread]
    exact prompt_tile H (bound512 hk') (k0_off14_eq ⟨k, hk⟩) (k0_off15_eq ⟨k, hk⟩) (k0_off16_eq ⟨k, hk⟩) _ _ _ _ (ih (Nat.le_of_lt hk))

theorem word_t5 : ∀ k : Fin k0_t5_loop.trips, Scalar.muli (Scf.iv k0_t5_loop.lb k0_t5_loop.st k) 256#32 = BitVec.ofNat 32 (256 * k) := by
  decide +kernel

/-- One trip is one tile's step. -/
theorem t5_trip (v287 : FVec Ideal S256x128 .fp8e4m3) (v291 : FVec Ideal S1x256 .f32) (X6 X7 X8 X9)
    (k : Fin k0_t5_loop.trips) (acc) :
    tripR_k0_t5 (F := Ideal) 𝒱 c bd i
        arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 v287 v291 X6 X7 X8 X9 k acc =
      step256 (masked (Scalar.muli (Scf.iv k0_t5_loop.lb k0_t5_loop.st k) 256#32) 512#32 (scores256 (v287) (v291)
          (shapeCast S256x128 (View.ld (arg10.view.read (Elt Ideal) X6)
            (Rect.unit (k0_off17 k) ![1, 1, 256, 128] (k0_off17_inb k))) shapeCasts_S1x1x256x128_S256x128)
          (shapeCast S256x128 (View.ld (arg11.view.read (Elt Ideal) X7)
            (Rect.unit (k0_off17 k) ![1, 1, 256, 128] (k0_off17_inb k))) shapeCasts_S1x1x256x128_S256x128)))
        (values broadcasts_S1x256_S128x256
          (shapeCast S128x256 (View.ld (arg12.view.read (Elt Ideal) X8)
            (Rect.unit (k0_off18 k) ![1, 1, 128, 256] (k0_off18_inb k))) shapeCasts_S1x1x128x256_S128x256)
          (shapeCast S1x256 (View.ld (arg13.view.read (Elt Ideal) X9)
            (Rect.unit (k0_off19 k) ![1, 1, 1, 256] (k0_off19_inb k))) shapeCasts_S1x1x1x256_S1x256)) acc := by
  unfold tripR_k0_t5 trip_k0_t5; sl_unfold_words; rfl

theorem t5_inv (v287 : FVec Ideal S256x128 .fp8e4m3) (v291 : FVec Ideal S1x256 .f32)
    (H : AttC x6 x7 x8 x9 (fun d => (v287) (ix2 j d)) ((v291) (ix2 0 j)) x u) (k : ℕ) (hk : k ≤ k0_t5_loop.trips) :
    Inv j (causal (512 + j) x) u (256 * k) (st_k0_t5 (F := Ideal) 𝒱 c bd i
      arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21
      v287 v291 (harg10.unread x6) (harg11.unread x7) (harg12.unread x8) (harg13.unread x9) acc0 k) := by
  induction k with
  | zero => exact Inv_acc0 _ _ _
  | succ k ih =>
    have hk' : k < 3 := hk
    rw [st_k0_t5_succ (F := Ideal) (k := ⟨k, hk⟩)]
    rw [t5_trip]
    have hb : 512 < 1024 := by decide
    have hm : 3 ≤ 4 := by decide
    simp only [View.readAt_eq_ld, Memref.IsWhole.read_unread]
    exact completion_tile hb H (bound256 hm hk') (k0_off17_eq ⟨k, hk⟩) (k0_off18_eq ⟨k, hk⟩) (k0_off19_eq ⟨k, hk⟩) _ _ _ _ (word_t5 ⟨k, hk⟩) rfl (ih (Nat.le_of_lt hk))

theorem t6_inv (v406 : FVec Ideal S256x128 .fp8e4m3) (v408 : FVec Ideal S1x256 .f32) (κs : Ideal .f32)
    (H : AttP x1 x2 x3 x4 (fun d => (v406) (ix2 j d)) ((k0_pay127 v408 κs) (ix2 0 j)) x u) (k : ℕ) (hk : k ≤ k0_t6_loop.trips) :
    Inv j x u (512 * k) (st_k0_t6 (F := Ideal) 𝒱 c bd i
      arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21
      v406 v408 κs (harg5.unread x1) (harg6.unread x2) (harg7.unread x3) (harg8.unread x4) acc0 k) := by
  induction k with
  | zero => exact Inv_acc0 _ _ _
  | succ k ih =>
    have hk' : k < 56 := hk
    rw [st_k0_t6_succ (F := Ideal) (k := ⟨k, hk⟩)]
    unfold tripR_k0_t6 trip_k0_t6
    simp only [View.readAt_eq_ld, Memref.IsWhole.read_unread]
    exact prompt_tile H (bound512 hk') (k0_off20_eq ⟨k, hk⟩) (k0_off21_eq ⟨k, hk⟩) (k0_off22_eq ⟨k, hk⟩) _ _ _ _ (ih (Nat.le_of_lt hk))

theorem word_t7 : ∀ k : Fin k0_t7_loop.trips, Scalar.muli (Scf.iv k0_t7_loop.lb k0_t7_loop.st k) 256#32 = BitVec.ofNat 32 (256 * k) := by
  decide +kernel

/-- One trip is one tile's step. -/
theorem t7_trip (v406 : FVec Ideal S256x128 .fp8e4m3) (v408 : FVec Ideal S1x256 .f32) (κs : Ideal .f32) (X6 X7 X8 X9)
    (k : Fin k0_t7_loop.trips) (acc) :
    tripR_k0_t7 (F := Ideal) 𝒱 c bd i
        arg3 harg3 arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21 harg21 v406 v408 κs X6 X7 X8 X9 k acc =
      step256 (masked (Scalar.muli (Scf.iv k0_t7_loop.lb k0_t7_loop.st k) 256#32) 768#32 (scores256 (v406) (k0_pay127 v408 κs)
          (shapeCast S256x128 (View.ld (arg10.view.read (Elt Ideal) X6)
            (Rect.unit (k0_off23 k) ![1, 1, 256, 128] (k0_off23_inb k))) shapeCasts_S1x1x256x128_S256x128)
          (shapeCast S256x128 (View.ld (arg11.view.read (Elt Ideal) X7)
            (Rect.unit (k0_off23 k) ![1, 1, 256, 128] (k0_off23_inb k))) shapeCasts_S1x1x256x128_S256x128)))
        (values broadcasts_S1x256_S128x256
          (shapeCast S128x256 (View.ld (arg12.view.read (Elt Ideal) X8)
            (Rect.unit (k0_off24 k) ![1, 1, 128, 256] (k0_off24_inb k))) shapeCasts_S1x1x128x256_S128x256)
          (shapeCast S1x256 (View.ld (arg13.view.read (Elt Ideal) X9)
            (Rect.unit (k0_off25 k) ![1, 1, 1, 256] (k0_off25_inb k))) shapeCasts_S1x1x1x256_S1x256)) acc := by
  unfold tripR_k0_t7 trip_k0_t7; sl_unfold_words; rfl

theorem t7_inv (v406 : FVec Ideal S256x128 .fp8e4m3) (v408 : FVec Ideal S1x256 .f32) (κs : Ideal .f32)
    (H : AttC x6 x7 x8 x9 (fun d => (v406) (ix2 j d)) ((k0_pay127 v408 κs) (ix2 0 j)) x u) (k : ℕ) (hk : k ≤ k0_t7_loop.trips) :
    Inv j (causal (768 + j) x) u (256 * k) (st_k0_t7 (F := Ideal) 𝒱 c bd i
      arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21
      v406 v408 κs (harg10.unread x6) (harg11.unread x7) (harg12.unread x8) (harg13.unread x9) acc0 k) := by
  induction k with
  | zero => exact Inv_acc0 _ _ _
  | succ k ih =>
    have hk' : k < 4 := hk
    rw [st_k0_t7_succ (F := Ideal) (k := ⟨k, hk⟩)]
    rw [t7_trip]
    have hb : 768 < 1024 := by decide
    have hm : 4 ≤ 4 := by decide
    simp only [View.readAt_eq_ld, Memref.IsWhole.read_unread]
    exact completion_tile hb H (bound256 hm hk') (k0_off23_eq ⟨k, hk⟩) (k0_off24_eq ⟨k, hk⟩) (k0_off25_eq ⟨k, hk⟩) _ _ _ _ (word_t7 ⟨k, hk⟩) rfl (ih (Nat.le_of_lt hk))

end Cert.KernelIdeal.Gen

end
-- ==== Proof.Block.lean ====
/- One block of the kernel's outputs: the pieces the body stores are the joined attentions of its rows. -/
module

public import proofs.«01_k».proof.Proof.Carry
public import proofs.«01_k».proof.Proof.Join
public import proofs.«01_k».proof.Proof.Gen.KernelIdeal.Frame

@[expose] public section

set_option maxRecDepth 16384

noncomputable section

namespace Cert.KernelIdeal.Gen

open Idealize.ShloMosaic Idealize.ShloMosaic.TcCoe

/-- The 256 query rows of a block from `p`, and their scales. -/
abbrev ldq (p : ℕ) (h : ∀ a, ![0, p, 0] a + ![1, 256, 128] a ≤ S1x1024x128.size a) (x : Vec Ideal S1x1024x128 .fp8e4m3) :
    Vec Ideal S1x256x128 .fp8e4m3 := View.ld x (Rect.unit ![0, p, 0] ![1, 256, 128] h)
abbrev lds (p : ℕ) (h : ∀ a, ![0, 0, 0, p] a + ![1, 1, 1, 256] a ≤ S1x1x1x1024.size a) (x : Vec Ideal S1x1x1x1024 .f32) :
    Vec Ideal S1x1x1x256 .f32 := View.ld x (Rect.unit ![0, 0, 0, p] ![1, 1, 1, 256] h)

/-- Row `j` of the tile of rows `r`. -/
def row (r : Fin 4) (j : Fin 256) : Fin 1024 := ⟨256 * r + j, by omega⟩

/-- The first rows' completion: one tile. -/
def causalStep (q : FVec Ideal S256x128 .fp8e4m3) (qs : FVec Ideal S1x256 .f32) (x6 : Vec Ideal S1x1x1024x128 .fp8e4m3)
    (x7 : Vec Ideal S1x1x1024x128 .f32) (x8 : Vec Ideal S1x1x128x1024 .fp8e4m3) (x9 : Vec Ideal S1x1x1x1024 .f32) : Acc :=
  step256 (masked (Scalar.muli 0#32 256#32) 0#32
      (scores256 q qs (shapeCast S256x128 (View.ld x6 (Rect.unit k0_off5 ![1, 1, 256, 128] k0_off5_inb)) shapeCasts_S1x1x256x128_S256x128)
        (shapeCast S256x128 (View.ld x7 (Rect.unit k0_off5 ![1, 1, 256, 128] k0_off5_inb)) shapeCasts_S1x1x256x128_S256x128)))
      (values broadcasts_S1x256_S128x256
        (shapeCast S128x256 (View.ld x8 (Rect.unit k0_off6 ![1, 1, 128, 256] k0_off6_inb)) shapeCasts_S1x1x128x256_S128x256)
        (shapeCast S1x256 (View.ld x9 (Rect.unit k0_off7 ![1, 1, 1, 256] k0_off7_inb)) shapeCasts_S1x1x1x256_S1x256)) acc0

/-- The table row's attention: one tile. -/
def midStep (q : FVec Ideal S256x128 .fp8e4m3) (qs : FVec Ideal S1x256 .f32) (x10 : Vec Ideal S1x1x384x128 .fp8e4m3)
    (x11 : Vec Ideal S1x1x384x128 .f32) (x12 : Vec Ideal S1x1x128x384 .fp8e4m3) (x13 : Vec Ideal S1x1x1x384 .f32) : Acc :=
  step384 (scores384 q qs (shapeCast S384x128 (View.ld x10 (Rect.unit ![0, 0, 0, 0] ![1, 1, 384, 128] (by decide))) shapeCasts_S1x1x384x128_S384x128)
        (shapeCast S384x128 (View.ld x11 (Rect.unit ![0, 0, 0, 0] ![1, 1, 384, 128] (by decide))) shapeCasts_S1x1x384x128_S384x128))
      (values broadcasts_S1x384_S128x384
        (shapeCast S128x384 (View.ld x12 (Rect.unit ![0, 0, 0, 0] ![1, 1, 128, 384] (by decide))) shapeCasts_S1x1x128x384_S128x384)
        (shapeCast S1x384 (View.ld x13 (Rect.unit ![0, 0, 0, 0] ![1, 1, 1, 384] (by decide))) shapeCasts_S1x1x1x384_S1x384)) acc0

theorem causalStep_inv {j : Fin 256} {q : FVec Ideal S256x128 .fp8e4m3} {qs : FVec Ideal S1x256 .f32} {x : ℕ → EReal}
    {u : Fin 128 → ℕ → EReal} {x6 : Vec Ideal S1x1x1024x128 .fp8e4m3} {x7 : Vec Ideal S1x1x1024x128 .f32}
    {x8 : Vec Ideal S1x1x128x1024 .fp8e4m3} {x9 : Vec Ideal S1x1x1x1024 .f32}
    (H : AttC x6 x7 x8 x9 (fun d => q (ix2 j d)) (qs (ix2 0 j)) x u) :
    Inv j (causal (0 + j) x) u (0 + 256) (causalStep q qs x6 x7 x8 x9) :=
  completion_tile (n := 0) (b := 0) (by decide) H (by decide) k0_off5_eq k0_off6_eq k0_off7_eq _ _ _ _ (by decide) rfl (Inv_acc0 _ _ _)

theorem Att.congr {n : ℕ} {key ks : Fin n → Fin 128 → EReal} {val : Fin 128 → Fin n → EReal} {vs : Fin n → EReal}
    {q q' : Fin 128 → EReal} {qs qs' : EReal} {x : ℕ → EReal} {u : Fin 128 → ℕ → EReal} (H : Att n key ks val vs q qs x u)
    (hq : ∀ d, q' d = q d) (hqs : qs' = qs) : Att n key ks val vs q' qs' x u := by
  obtain rfl := hqs; obtain rfl : q' = q := funext hq; exact H

theorem Inv.to {j : Fin 256} {x : ℕ → EReal} {u : Fin 128 → ℕ → EReal} {n n' : ℕ} {A : Acc} (h : Inv j x u n A) (e : n = n') :
    Inv j x u n' A := e ▸ h

theorem ldq_apply (p : ℕ) (h) (x : Vec Ideal S1x1024x128 .fp8e4m3) (j : Fin 256) (d : Fin 128) (hp : p + j < 1024) :
    shapeCast S256x128 (ldq p h x) shapeCasts_S1x256x128_S256x128 (ix2 j d) = x (ix3 0 ⟨p + j, hp⟩ d) :=
  (ld3_apply _ _ _ _ _ hp (by omega)).trans (by simp only [Nat.zero_add])

theorem lds_apply (p : ℕ) (h) (x : Vec Ideal S1x1x1x1024 .f32) (j : Fin 256) (hp : p + j < 1024) :
    k0_pay17 (lds p h x) (ix2 0 j) = x (ix4 0 0 0 ⟨p + j, hp⟩) * Named.named (F := Ideal) (φ := .f32) κ "scale_log2e" 0x3E0293EE#32 :=
  congrArg (· * _) (ld4_apply _ _ shapeCasts_S1x1x1x256_S1x256 0 j (by decide) hp)

variable (c : Dev nD) (i : grid0.Coords) (arg4 : Memref sig .tc .vmem S1x1024x128 .fp8e4m3) (harg4 : arg4.IsWhole)
  (arg5 : Memref sig .tc .vmem S1x28672x128 .fp8e4m3) (harg5 : arg5.IsWhole) (arg6 : Memref sig .tc .vmem S1x28672x128 .f32)
  (harg6 : arg6.IsWhole) (arg7 : Memref sig .tc .vmem S1x128x28672 .fp8e4m3) (harg7 : arg7.IsWhole)
  (arg8 : Memref sig .tc .vmem S1x1x28672 .f32) (harg8 : arg8.IsWhole) (arg9 : Memref sig .tc .vmem S1x1x1x1024 .f32)
  (harg9 : arg9.IsWhole) (arg10 : Memref sig .tc .vmem S1x1x1024x128 .fp8e4m3) (harg10 : arg10.IsWhole)
  (arg11 : Memref sig .tc .vmem S1x1x1024x128 .f32) (harg11 : arg11.IsWhole)
  (arg12 : Memref sig .tc .vmem S1x1x128x1024 .fp8e4m3) (harg12 : arg12.IsWhole)
  (arg13 : Memref sig .tc .vmem S1x1x1x1024 .f32) (harg13 : arg13.IsWhole)
  (arg14 : Memref sig .tc .vmem S1x1x384x128 .fp8e4m3) (harg14 : arg14.IsWhole)
  (arg15 : Memref sig .tc .vmem S1x1x384x128 .f32) (harg15 : arg15.IsWhole)
  (arg16 : Memref sig .tc .vmem S1x1x128x384 .fp8e4m3) (harg16 : arg16.IsWhole) (arg17 : Memref sig .tc .vmem S1x1x1x384 .f32)
  (harg17 : arg17.IsWhole) (arg18 : Memref sig .tc .vmem S1x1024x128 .bf16) (harg18 : arg18.IsWhole)
  (arg19 : Memref sig .tc .vmem S1x1x1x1024 .f32) (harg19 : arg19.IsWhole) (arg20 : Memref sig .tc .vmem S1x1x1x1024 .f32)
  (harg20 : arg20.IsWhole) (arg21 : Memref sig .tc .vmem S1x1x1x1024 .f32) (harg21 : arg21.IsWhole)
  (x0 : Vec Ideal S1x1024x128 .fp8e4m3) (x1 : Vec Ideal S1x28672x128 .fp8e4m3) (x2 : Vec Ideal S1x28672x128 .f32)
  (x3 : Vec Ideal S1x128x28672 .fp8e4m3) (x4 : Vec Ideal S1x1x28672 .f32) (x5 : Vec Ideal S1x1x1x1024 .f32)
  (x6 : Vec Ideal S1x1x1024x128 .fp8e4m3) (x7 : Vec Ideal S1x1x1024x128 .f32) (x8 : Vec Ideal S1x1x128x1024 .fp8e4m3)
  (x9 : Vec Ideal S1x1x1x1024 .f32) (x10 : Vec Ideal S1x1x384x128 .fp8e4m3) (x11 : Vec Ideal S1x1x384x128 .f32)
  (x12 : Vec Ideal S1x1x128x384 .fp8e4m3) (x13 : Vec Ideal S1x1x1x384 .f32) (xt0 : TbBuf0 (F := Ideal) c tbM0_0)

theorem run_pieces : ∃ P C M : Fin 4 → Acc,
      (kernelRun0_A (F := Ideal) c i arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20
        harg20 arg21 harg21 x0 x1 x2 x3 x4 x5 x6 x7 x8 x9 x10 x11 x12 x13 xt0).1 =
        [⟨Rect.unit ![0, 768, 0] S1x256x128.size (by decide), joinVec (P 3) (C 3) (M 3)⟩,
        ⟨Rect.unit ![0, 512, 0] S1x256x128.size (by decide), joinVec (P 2) (C 2) (M 2)⟩,
        ⟨Rect.unit ![0, 256, 0] S1x256x128.size (by decide), joinVec (P 1) (C 1) (M 1)⟩,
        ⟨Rect.unit ![0, 0, 0] S1x256x128.size (by decide), joinVec (P 0) (C 0) (M 0)⟩] ∧
      (kernelRun0_A (F := Ideal) c i arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20
        harg20 arg21 harg21 x0 x1 x2 x3 x4 x5 x6 x7 x8 x9 x10 x11 x12 x13 xt0).2.1 =
        [⟨Rect.unit ![0, 0, 0, 768] S1x1x1x256.size (by decide), lseVec 0x41243805#32 (P 3)⟩,
        ⟨Rect.unit ![0, 0, 0, 512] S1x1x1x256.size (by decide), lseVec 0x41243805#32 (P 2)⟩,
        ⟨Rect.unit ![0, 0, 0, 256] S1x1x1x256.size (by decide), lseVec 0x41243805#32 (P 1)⟩,
        ⟨Rect.unit ![0, 0, 0, 0] S1x1x1x256.size (by decide), lseVec 0x41243805#32 (P 0)⟩] ∧
      (kernelRun0_A (F := Ideal) c i arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20
        harg20 arg21 harg21 x0 x1 x2 x3 x4 x5 x6 x7 x8 x9 x10 x11 x12 x13 xt0).2.2.1 =
        [⟨Rect.unit ![0, 0, 0, 768] S1x1x1x256.size (by decide), lseCausalVec (BitVec.ofNat 32 769) (C 3)⟩,
        ⟨Rect.unit ![0, 0, 0, 512] S1x1x1x256.size (by decide), lseCausalVec (BitVec.ofNat 32 513) (C 2)⟩,
        ⟨Rect.unit ![0, 0, 0, 256] S1x1x1x256.size (by decide), lseCausalVec (BitVec.ofNat 32 257) (C 1)⟩,
        ⟨Rect.unit ![0, 0, 0, 0] S1x1x1x256.size (by decide), lseCausalVec (BitVec.ofNat 32 1) (C 0)⟩] ∧
      (kernelRun0_A (F := Ideal) c i arg4 harg4 arg5 harg5 arg6 harg6 arg7 harg7 arg8 harg8 arg9 harg9 arg10 harg10 arg11
        harg11 arg12 harg12 arg13 harg13 arg14 harg14 arg15 harg15 arg16 harg16 arg17 harg17 arg18 harg18 arg19 harg19 arg20
        harg20 arg21 harg21 x0 x1 x2 x3 x4 x5 x6 x7 x8 x9 x10 x11 x12 x13 xt0).2.2.2.1 =
        [⟨Rect.unit ![0, 0, 0, 768] S1x1x1x256.size (by decide), lseVec 0x40BE6BAA#32 (M 3)⟩,
        ⟨Rect.unit ![0, 0, 0, 512] S1x1x1x256.size (by decide), lseVec 0x40BE6BAA#32 (M 2)⟩,
        ⟨Rect.unit ![0, 0, 0, 256] S1x1x1x256.size (by decide), lseVec 0x40BE6BAA#32 (M 1)⟩,
        ⟨Rect.unit ![0, 0, 0, 0] S1x1x1x256.size (by decide), lseVec 0x40BE6BAA#32 (M 0)⟩] ∧
      (∀ (r : Fin 4) (j : Fin 256) (x : ℕ → EReal) (u : Fin 128 → ℕ → EReal),
        AttP x1 x2 x3 x4 (fun d => x0 (ix3 0 (row r j) d)) (x5 (ix4 0 0 0 (row r j)) * Named.named (F := Ideal) (φ := .f32) κ "scale_log2e" 0x3E0293EE#32) x u → Inv j x u 28672 (P r)) ∧
      (∀ (r : Fin 4) (j : Fin 256) (x : ℕ → EReal) (u : Fin 128 → ℕ → EReal),
        AttC x6 x7 x8 x9 (fun d => x0 (ix3 0 (row r j) d)) (x5 (ix4 0 0 0 (row r j)) * Named.named (F := Ideal) (φ := .f32) κ "scale_log2e" 0x3E0293EE#32) x u →
          Inv j (causal (256 * r + j) x) u (256 * (r + 1)) (C r)) ∧
      (∀ (r : Fin 4) (j : Fin 256) (x : ℕ → EReal) (u : Fin 128 → ℕ → EReal),
        AttM x10 x11 x12 x13 (fun d => x0 (ix3 0 (row r j) d)) (x5 (ix4 0 0 0 (row r j)) * Named.named (F := Ideal) (φ := .f32) κ "scale_log2e" 0x3E0293EE#32) x u → Inv j x u 384 (M r)) := by
  refine ⟨![(st_k0_t1 (F := Ideal) Variants.none c none i tbM0_0 htbM0_0 arg4 harg4 arg5 harg5 arg6 harg6 arg7 harg7 arg8 harg8 arg9
        harg9 arg10 harg10 arg11 harg11 arg12 harg12 arg13 harg13 arg14 harg14 arg15 harg15 arg16 harg16 arg17 harg17 arg18
        harg18 arg19 harg19 arg20 harg20 arg21 harg21 (ldq 0 (by decide) (arg4.view.read (Elt Ideal) (harg4.unread x0))) (lds
        0 (by decide) (arg9.view.read (Elt Ideal) (harg9.unread x5))) (harg5.unread x1) (harg6.unread x2) (harg7.unread x3)
        (harg8.unread x4) acc0 k0_t1_loop.trips),
      (st_k0_t2 (F := Ideal) Variants.none c none i tbM0_0 htbM0_0 arg4 harg4 arg5 harg5 arg6 harg6 arg7 harg7 arg8 harg8 arg9
        harg9 arg10 harg10 arg11 harg11 arg12 harg12 arg13 harg13 arg14 harg14 arg15 harg15 arg16 harg16 arg17 harg17 arg18
        harg18 arg19 harg19 arg20 harg20 arg21 harg21 (lse2 (midStep (k0_pay16 (ldq 0 (by decide) (arg4.view.read (Elt Ideal)
        (harg4.unread x0)))) (k0_pay17 (lds 0 (by decide) (arg9.view.read (Elt Ideal) (harg9.unread x5)))) (arg14.view.read
        (Elt Ideal) (harg14.unread x10)) (arg15.view.read (Elt Ideal) (harg15.unread x11)) (arg16.view.read (Elt Ideal)
        (harg16.unread x12)) (arg17.view.read (Elt Ideal) (harg17.unread x13))).1 (midStep (k0_pay16 (ldq 0 (by decide)
        (arg4.view.read (Elt Ideal) (harg4.unread x0)))) (k0_pay17 (lds 0 (by decide) (arg9.view.read (Elt Ideal)
        (harg9.unread x5)))) (arg14.view.read (Elt Ideal) (harg14.unread x10)) (arg15.view.read (Elt Ideal) (harg15.unread
        x11)) (arg16.view.read (Elt Ideal) (harg16.unread x12)) (arg17.view.read (Elt Ideal) (harg17.unread x13))).2.1)
        (k0_pay55 (lse2 (causalStep (k0_pay16 (ldq 0 (by decide) (arg4.view.read (Elt Ideal) (harg4.unread x0)))) (k0_pay17
        (lds 0 (by decide) (arg9.view.read (Elt Ideal) (harg9.unread x5)))) (arg10.view.read (Elt Ideal) (harg10.unread x6))
        (arg11.view.read (Elt Ideal) (harg11.unread x7)) (arg12.view.read (Elt Ideal) (harg12.unread x8)) (arg13.view.read
        (Elt Ideal) (harg13.unread x9))).1 (causalStep (k0_pay16 (ldq 0 (by decide) (arg4.view.read (Elt Ideal) (harg4.unread
        x0)))) (k0_pay17 (lds 0 (by decide) (arg9.view.read (Elt Ideal) (harg9.unread x5)))) (arg10.view.read (Elt Ideal)
        (harg10.unread x6)) (arg11.view.read (Elt Ideal) (harg11.unread x7)) (arg12.view.read (Elt Ideal) (harg12.unread x8))
        (arg13.view.read (Elt Ideal) (harg13.unread x9))).2.1)) (ldq 256 (by decide) (arg4.view.read (Elt Ideal) (harg4.unread
        x0))) (lds 256 (by decide) (arg9.view.read (Elt Ideal) (harg9.unread x5))) (harg5.unread x1) (harg6.unread x2)
        (harg7.unread x3) (harg8.unread x4) acc0 k0_t2_loop.trips),
      (st_k0_t4 (F := Ideal) Variants.none c none i tbM0_0 htbM0_0 arg4 harg4 arg5 harg5 arg6 harg6 arg7 harg7 arg8 harg8 arg9
        harg9 arg10 harg10 arg11 harg11 arg12 harg12 arg13 harg13 arg14 harg14 arg15 harg15 arg16 harg16 arg17 harg17 arg18
        harg18 arg19 harg19 arg20 harg20 arg21 harg21 (lse2 (st_k0_t3 (F := Ideal) Variants.none c none i tbM0_0 htbM0_0 arg4
        harg4 arg5 harg5 arg6 harg6 arg7 harg7 arg8 harg8 arg9 harg9 arg10 harg10 arg11 harg11 arg12 harg12 arg13 harg13 arg14
        harg14 arg15 harg15 arg16 harg16 arg17 harg17 arg18 harg18 arg19 harg19 arg20 harg20 arg21 harg21 (lse2 (midStep
        (k0_pay16 (ldq 0 (by decide) (arg4.view.read (Elt Ideal) (harg4.unread x0)))) (k0_pay17 (lds 0 (by decide)
        (arg9.view.read (Elt Ideal) (harg9.unread x5)))) (arg14.view.read (Elt Ideal) (harg14.unread x10)) (arg15.view.read
        (Elt Ideal) (harg15.unread x11)) (arg16.view.read (Elt Ideal) (harg16.unread x12)) (arg17.view.read (Elt Ideal)
        (harg17.unread x13))).1 (midStep (k0_pay16 (ldq 0 (by decide) (arg4.view.read (Elt Ideal) (harg4.unread x0))))
        (k0_pay17 (lds 0 (by decide) (arg9.view.read (Elt Ideal) (harg9.unread x5)))) (arg14.view.read (Elt Ideal)
        (harg14.unread x10)) (arg15.view.read (Elt Ideal) (harg15.unread x11)) (arg16.view.read (Elt Ideal) (harg16.unread
        x12)) (arg17.view.read (Elt Ideal) (harg17.unread x13))).2.1) (k0_pay55 (lse2 (causalStep (k0_pay16 (ldq 0 (by decide)
        (arg4.view.read (Elt Ideal) (harg4.unread x0)))) (k0_pay17 (lds 0 (by decide) (arg9.view.read (Elt Ideal)
        (harg9.unread x5)))) (arg10.view.read (Elt Ideal) (harg10.unread x6)) (arg11.view.read (Elt Ideal) (harg11.unread x7))
        (arg12.view.read (Elt Ideal) (harg12.unread x8)) (arg13.view.read (Elt Ideal) (harg13.unread x9))).1 (causalStep
        (k0_pay16 (ldq 0 (by decide) (arg4.view.read (Elt Ideal) (harg4.unread x0)))) (k0_pay17 (lds 0 (by decide)
        (arg9.view.read (Elt Ideal) (harg9.unread x5)))) (arg10.view.read (Elt Ideal) (harg10.unread x6)) (arg11.view.read
        (Elt Ideal) (harg11.unread x7)) (arg12.view.read (Elt Ideal) (harg12.unread x8)) (arg13.view.read (Elt Ideal)
        (harg13.unread x9))).2.1)) (ldq 256 (by decide) (arg4.view.read (Elt Ideal) (harg4.unread x0))) (lds 256 (by decide)
        (arg9.view.read (Elt Ideal) (harg9.unread x5))) (harg10.unread x6) (harg11.unread x7) (harg12.unread x8)
        (harg13.unread x9) acc0 k0_t3_loop.trips).1 (st_k0_t3 (F := Ideal) Variants.none c none i tbM0_0 htbM0_0 arg4 harg4
        arg5 harg5 arg6 harg6 arg7 harg7 arg8 harg8 arg9 harg9 arg10 harg10 arg11 harg11 arg12 harg12 arg13 harg13 arg14
        harg14 arg15 harg15 arg16 harg16 arg17 harg17 arg18 harg18 arg19 harg19 arg20 harg20 arg21 harg21 (lse2 (midStep
        (k0_pay16 (ldq 0 (by decide) (arg4.view.read (Elt Ideal) (harg4.unread x0)))) (k0_pay17 (lds 0 (by decide)
        (arg9.view.read (Elt Ideal) (harg9.unread x5)))) (arg14.view.read (Elt Ideal) (harg14.unread x10)) (arg15.view.read
        (Elt Ideal) (harg15.unread x11)) (arg16.view.read (Elt Ideal) (harg16.unread x12)) (arg17.view.read (Elt Ideal)
        (harg17.unread x13))).1 (midStep (k0_pay16 (ldq 0 (by decide) (arg4.view.read (Elt Ideal) (harg4.unread x0))))
        (k0_pay17 (lds 0 (by decide) (arg9.view.read (Elt Ideal) (harg9.unread x5)))) (arg14.view.read (Elt Ideal)
        (harg14.unread x10)) (arg15.view.read (Elt Ideal) (harg15.unread x11)) (arg16.view.read (Elt Ideal) (harg16.unread
        x12)) (arg17.view.read (Elt Ideal) (harg17.unread x13))).2.1) (k0_pay55 (lse2 (causalStep (k0_pay16 (ldq 0 (by decide)
        (arg4.view.read (Elt Ideal) (harg4.unread x0)))) (k0_pay17 (lds 0 (by decide) (arg9.view.read (Elt Ideal)
        (harg9.unread x5)))) (arg10.view.read (Elt Ideal) (harg10.unread x6)) (arg11.view.read (Elt Ideal) (harg11.unread x7))
        (arg12.view.read (Elt Ideal) (harg12.unread x8)) (arg13.view.read (Elt Ideal) (harg13.unread x9))).1 (causalStep
        (k0_pay16 (ldq 0 (by decide) (arg4.view.read (Elt Ideal) (harg4.unread x0)))) (k0_pay17 (lds 0 (by decide)
        (arg9.view.read (Elt Ideal) (harg9.unread x5)))) (arg10.view.read (Elt Ideal) (harg10.unread x6)) (arg11.view.read
        (Elt Ideal) (harg11.unread x7)) (arg12.view.read (Elt Ideal) (harg12.unread x8)) (arg13.view.read (Elt Ideal)
        (harg13.unread x9))).2.1)) (ldq 256 (by decide) (arg4.view.read (Elt Ideal) (harg4.unread x0))) (lds 256 (by decide)
        (arg9.view.read (Elt Ideal) (harg9.unread x5))) (harg10.unread x6) (harg11.unread x7) (harg12.unread x8)
        (harg13.unread x9) acc0 k0_t3_loop.trips).2.1) (lse2 (midStep (k0_pay58 (ldq 256 (by decide) (arg4.view.read (Elt
        Ideal) (harg4.unread x0)))) (k0_pay59 (lds 256 (by decide) (arg9.view.read (Elt Ideal) (harg9.unread x5))))
        (arg14.view.read (Elt Ideal) (harg14.unread x10)) (arg15.view.read (Elt Ideal) (harg15.unread x11)) (arg16.view.read
        (Elt Ideal) (harg16.unread x12)) (arg17.view.read (Elt Ideal) (harg17.unread x13))).1 (midStep (k0_pay58 (ldq 256 (by
        decide) (arg4.view.read (Elt Ideal) (harg4.unread x0)))) (k0_pay59 (lds 256 (by decide) (arg9.view.read (Elt Ideal)
        (harg9.unread x5)))) (arg14.view.read (Elt Ideal) (harg14.unread x10)) (arg15.view.read (Elt Ideal) (harg15.unread
        x11)) (arg16.view.read (Elt Ideal) (harg16.unread x12)) (arg17.view.read (Elt Ideal) (harg17.unread x13))).2.1)
        k0_pay86 (k0_pay87 (st_k0_t2 (F := Ideal) Variants.none c none i tbM0_0 htbM0_0 arg4 harg4 arg5 harg5 arg6 harg6 arg7
        harg7 arg8 harg8 arg9 harg9 arg10 harg10 arg11 harg11 arg12 harg12 arg13 harg13 arg14 harg14 arg15 harg15 arg16 harg16
        arg17 harg17 arg18 harg18 arg19 harg19 arg20 harg20 arg21 harg21 (lse2 (midStep (k0_pay16 (ldq 0 (by decide)
        (arg4.view.read (Elt Ideal) (harg4.unread x0)))) (k0_pay17 (lds 0 (by decide) (arg9.view.read (Elt Ideal)
        (harg9.unread x5)))) (arg14.view.read (Elt Ideal) (harg14.unread x10)) (arg15.view.read (Elt Ideal) (harg15.unread
        x11)) (arg16.view.read (Elt Ideal) (harg16.unread x12)) (arg17.view.read (Elt Ideal) (harg17.unread x13))).1 (midStep
        (k0_pay16 (ldq 0 (by decide) (arg4.view.read (Elt Ideal) (harg4.unread x0)))) (k0_pay17 (lds 0 (by decide)
        (arg9.view.read (Elt Ideal) (harg9.unread x5)))) (arg14.view.read (Elt Ideal) (harg14.unread x10)) (arg15.view.read
        (Elt Ideal) (harg15.unread x11)) (arg16.view.read (Elt Ideal) (harg16.unread x12)) (arg17.view.read (Elt Ideal)
        (harg17.unread x13))).2.1) (k0_pay55 (lse2 (causalStep (k0_pay16 (ldq 0 (by decide) (arg4.view.read (Elt Ideal)
        (harg4.unread x0)))) (k0_pay17 (lds 0 (by decide) (arg9.view.read (Elt Ideal) (harg9.unread x5)))) (arg10.view.read
        (Elt Ideal) (harg10.unread x6)) (arg11.view.read (Elt Ideal) (harg11.unread x7)) (arg12.view.read (Elt Ideal)
        (harg12.unread x8)) (arg13.view.read (Elt Ideal) (harg13.unread x9))).1 (causalStep (k0_pay16 (ldq 0 (by decide)
        (arg4.view.read (Elt Ideal) (harg4.unread x0)))) (k0_pay17 (lds 0 (by decide) (arg9.view.read (Elt Ideal)
        (harg9.unread x5)))) (arg10.view.read (Elt Ideal) (harg10.unread x6)) (arg11.view.read (Elt Ideal) (harg11.unread x7))
        (arg12.view.read (Elt Ideal) (harg12.unread x8)) (arg13.view.read (Elt Ideal) (harg13.unread x9))).2.1)) (ldq 256 (by
        decide) (arg4.view.read (Elt Ideal) (harg4.unread x0))) (lds 256 (by decide) (arg9.view.read (Elt Ideal) (harg9.unread
        x5))) (harg5.unread x1) (harg6.unread x2) (harg7.unread x3) (harg8.unread x4) acc0 k0_t2_loop.trips).1 (st_k0_t2 (F :=
        Ideal) Variants.none c none i tbM0_0 htbM0_0 arg4 harg4 arg5 harg5 arg6 harg6 arg7 harg7 arg8 harg8 arg9 harg9 arg10
        harg10 arg11 harg11 arg12 harg12 arg13 harg13 arg14 harg14 arg15 harg15 arg16 harg16 arg17 harg17 arg18 harg18 arg19
        harg19 arg20 harg20 arg21 harg21 (lse2 (midStep (k0_pay16 (ldq 0 (by decide) (arg4.view.read (Elt Ideal) (harg4.unread
        x0)))) (k0_pay17 (lds 0 (by decide) (arg9.view.read (Elt Ideal) (harg9.unread x5)))) (arg14.view.read (Elt Ideal)
        (harg14.unread x10)) (arg15.view.read (Elt Ideal) (harg15.unread x11)) (arg16.view.read (Elt Ideal) (harg16.unread
        x12)) (arg17.view.read (Elt Ideal) (harg17.unread x13))).1 (midStep (k0_pay16 (ldq 0 (by decide) (arg4.view.read (Elt
        Ideal) (harg4.unread x0)))) (k0_pay17 (lds 0 (by decide) (arg9.view.read (Elt Ideal) (harg9.unread x5))))
        (arg14.view.read (Elt Ideal) (harg14.unread x10)) (arg15.view.read (Elt Ideal) (harg15.unread x11)) (arg16.view.read
        (Elt Ideal) (harg16.unread x12)) (arg17.view.read (Elt Ideal) (harg17.unread x13))).2.1) (k0_pay55 (lse2 (causalStep
        (k0_pay16 (ldq 0 (by decide) (arg4.view.read (Elt Ideal) (harg4.unread x0)))) (k0_pay17 (lds 0 (by decide)
        (arg9.view.read (Elt Ideal) (harg9.unread x5)))) (arg10.view.read (Elt Ideal) (harg10.unread x6)) (arg11.view.read
        (Elt Ideal) (harg11.unread x7)) (arg12.view.read (Elt Ideal) (harg12.unread x8)) (arg13.view.read (Elt Ideal)
        (harg13.unread x9))).1 (causalStep (k0_pay16 (ldq 0 (by decide) (arg4.view.read (Elt Ideal) (harg4.unread x0))))
        (k0_pay17 (lds 0 (by decide) (arg9.view.read (Elt Ideal) (harg9.unread x5)))) (arg10.view.read (Elt Ideal)
        (harg10.unread x6)) (arg11.view.read (Elt Ideal) (harg11.unread x7)) (arg12.view.read (Elt Ideal) (harg12.unread x8))
        (arg13.view.read (Elt Ideal) (harg13.unread x9))).2.1)) (ldq 256 (by decide) (arg4.view.read (Elt Ideal) (harg4.unread
        x0))) (lds 256 (by decide) (arg9.view.read (Elt Ideal) (harg9.unread x5))) (harg5.unread x1) (harg6.unread x2)
        (harg7.unread x3) (harg8.unread x4) acc0 k0_t2_loop.trips).2.1) (ldq 512 (by decide) (arg4.view.read (Elt Ideal)
        (harg4.unread x0))) (lds 512 (by decide) (arg9.view.read (Elt Ideal) (harg9.unread x5))) (harg5.unread x1)
        (harg6.unread x2) (harg7.unread x3) (harg8.unread x4) acc0 k0_t4_loop.trips),
      (st_k0_t6 (F := Ideal) Variants.none c none i tbM0_0 htbM0_0 arg4 harg4 arg5 harg5 arg6 harg6 arg7 harg7 arg8 harg8 arg9
        harg9 arg10 harg10 arg11 harg11 arg12 harg12 arg13 harg13 arg14 harg14 arg15 harg15 arg16 harg16 arg17 harg17 arg18
        harg18 arg19 harg19 arg20 harg20 arg21 harg21 (k0_pay125 (ldq 768 (by decide) (arg4.view.read (Elt Ideal)
        (harg4.unread x0)))) (k0_pay126 (lds 768 (by decide) (arg9.view.read (Elt Ideal) (harg9.unread x5)))) (Named.named κ
        "scale_log2e" 0x3E0293EE#32) (harg5.unread x1) (harg6.unread x2) (harg7.unread x3) (harg8.unread x4) acc0
        k0_t6_loop.trips)],
    ![(causalStep (k0_pay16 (ldq 0 (by decide) (arg4.view.read (Elt Ideal) (harg4.unread x0)))) (k0_pay17 (lds 0 (by decide)
        (arg9.view.read (Elt Ideal) (harg9.unread x5)))) (arg10.view.read (Elt Ideal) (harg10.unread x6)) (arg11.view.read
        (Elt Ideal) (harg11.unread x7)) (arg12.view.read (Elt Ideal) (harg12.unread x8)) (arg13.view.read (Elt Ideal)
        (harg13.unread x9))),
      (st_k0_t3 (F := Ideal) Variants.none c none i tbM0_0 htbM0_0 arg4 harg4 arg5 harg5 arg6 harg6 arg7 harg7 arg8 harg8 arg9
        harg9 arg10 harg10 arg11 harg11 arg12 harg12 arg13 harg13 arg14 harg14 arg15 harg15 arg16 harg16 arg17 harg17 arg18
        harg18 arg19 harg19 arg20 harg20 arg21 harg21 (lse2 (midStep (k0_pay16 (ldq 0 (by decide) (arg4.view.read (Elt Ideal)
        (harg4.unread x0)))) (k0_pay17 (lds 0 (by decide) (arg9.view.read (Elt Ideal) (harg9.unread x5)))) (arg14.view.read
        (Elt Ideal) (harg14.unread x10)) (arg15.view.read (Elt Ideal) (harg15.unread x11)) (arg16.view.read (Elt Ideal)
        (harg16.unread x12)) (arg17.view.read (Elt Ideal) (harg17.unread x13))).1 (midStep (k0_pay16 (ldq 0 (by decide)
        (arg4.view.read (Elt Ideal) (harg4.unread x0)))) (k0_pay17 (lds 0 (by decide) (arg9.view.read (Elt Ideal)
        (harg9.unread x5)))) (arg14.view.read (Elt Ideal) (harg14.unread x10)) (arg15.view.read (Elt Ideal) (harg15.unread
        x11)) (arg16.view.read (Elt Ideal) (harg16.unread x12)) (arg17.view.read (Elt Ideal) (harg17.unread x13))).2.1)
        (k0_pay55 (lse2 (causalStep (k0_pay16 (ldq 0 (by decide) (arg4.view.read (Elt Ideal) (harg4.unread x0)))) (k0_pay17
        (lds 0 (by decide) (arg9.view.read (Elt Ideal) (harg9.unread x5)))) (arg10.view.read (Elt Ideal) (harg10.unread x6))
        (arg11.view.read (Elt Ideal) (harg11.unread x7)) (arg12.view.read (Elt Ideal) (harg12.unread x8)) (arg13.view.read
        (Elt Ideal) (harg13.unread x9))).1 (causalStep (k0_pay16 (ldq 0 (by decide) (arg4.view.read (Elt Ideal) (harg4.unread
        x0)))) (k0_pay17 (lds 0 (by decide) (arg9.view.read (Elt Ideal) (harg9.unread x5)))) (arg10.view.read (Elt Ideal)
        (harg10.unread x6)) (arg11.view.read (Elt Ideal) (harg11.unread x7)) (arg12.view.read (Elt Ideal) (harg12.unread x8))
        (arg13.view.read (Elt Ideal) (harg13.unread x9))).2.1)) (ldq 256 (by decide) (arg4.view.read (Elt Ideal) (harg4.unread
        x0))) (lds 256 (by decide) (arg9.view.read (Elt Ideal) (harg9.unread x5))) (harg10.unread x6) (harg11.unread x7)
        (harg12.unread x8) (harg13.unread x9) acc0 k0_t3_loop.trips),
      (st_k0_t5 (F := Ideal) Variants.none c none i tbM0_0 htbM0_0 arg4 harg4 arg5 harg5 arg6 harg6 arg7 harg7 arg8 harg8 arg9
        harg9 arg10 harg10 arg11 harg11 arg12 harg12 arg13 harg13 arg14 harg14 arg15 harg15 arg16 harg16 arg17 harg17 arg18
        harg18 arg19 harg19 arg20 harg20 arg21 harg21 (k0_pay91 (ldq 512 (by decide) (arg4.view.read (Elt Ideal) (harg4.unread
        x0)))) (k0_pay92 (lds 512 (by decide) (arg9.view.read (Elt Ideal) (harg9.unread x5)))) (harg10.unread x6)
        (harg11.unread x7) (harg12.unread x8) (harg13.unread x9) acc0 k0_t5_loop.trips),
      (st_k0_t7 (F := Ideal) Variants.none c none i tbM0_0 htbM0_0 arg4 harg4 arg5 harg5 arg6 harg6 arg7 harg7 arg8 harg8 arg9
        harg9 arg10 harg10 arg11 harg11 arg12 harg12 arg13 harg13 arg14 harg14 arg15 harg15 arg16 harg16 arg17 harg17 arg18
        harg18 arg19 harg19 arg20 harg20 arg21 harg21 (k0_pay125 (ldq 768 (by decide) (arg4.view.read (Elt Ideal)
        (harg4.unread x0)))) (k0_pay126 (lds 768 (by decide) (arg9.view.read (Elt Ideal) (harg9.unread x5)))) (Named.named κ
        "scale_log2e" 0x3E0293EE#32) (harg10.unread x6) (harg11.unread x7) (harg12.unread x8) (harg13.unread x9) acc0
        k0_t7_loop.trips)],
    ![(midStep (k0_pay16 (ldq 0 (by decide) (arg4.view.read (Elt Ideal) (harg4.unread x0)))) (k0_pay17 (lds 0 (by decide)
        (arg9.view.read (Elt Ideal) (harg9.unread x5)))) (arg14.view.read (Elt Ideal) (harg14.unread x10)) (arg15.view.read
        (Elt Ideal) (harg15.unread x11)) (arg16.view.read (Elt Ideal) (harg16.unread x12)) (arg17.view.read (Elt Ideal)
        (harg17.unread x13))),
      (midStep (k0_pay58 (ldq 256 (by decide) (arg4.view.read (Elt Ideal) (harg4.unread x0)))) (k0_pay59 (lds 256 (by decide)
        (arg9.view.read (Elt Ideal) (harg9.unread x5)))) (arg14.view.read (Elt Ideal) (harg14.unread x10)) (arg15.view.read
        (Elt Ideal) (harg15.unread x11)) (arg16.view.read (Elt Ideal) (harg16.unread x12)) (arg17.view.read (Elt Ideal)
        (harg17.unread x13))),
      (midStep (k0_pay91 (ldq 512 (by decide) (arg4.view.read (Elt Ideal) (harg4.unread x0)))) (k0_pay92 (lds 512 (by decide)
        (arg9.view.read (Elt Ideal) (harg9.unread x5)))) (arg14.view.read (Elt Ideal) (harg14.unread x10)) (arg15.view.read
        (Elt Ideal) (harg15.unread x11)) (arg16.view.read (Elt Ideal) (harg16.unread x12)) (arg17.view.read (Elt Ideal)
        (harg17.unread x13))),
      (midStep (k0_pay125 (ldq 768 (by decide) (arg4.view.read (Elt Ideal) (harg4.unread x0)))) (k0_pay127 (k0_pay126 (lds 768
        (by decide) (arg9.view.read (Elt Ideal) (harg9.unread x5)))) (Named.named κ "scale_log2e" 0x3E0293EE#32))
        (arg14.view.read (Elt Ideal) (harg14.unread x10)) (arg15.view.read (Elt Ideal) (harg15.unread x11)) (arg16.view.read
        (Elt Ideal) (harg16.unread x12)) (arg17.view.read (Elt Ideal) (harg17.unread x13)))], ?_, ?_, ?_, ?_, ?_, ?_, ?_⟩
  iterate 4
    · unfold kernelRun0_A
      dsimp only
      sl_unfold_words
      rfl
  all_goals simp only [Memref.IsWhole.read_unread]
  all_goals intro r
  all_goals fin_cases r <;> intro j x u H
  · exact Inv.to (t1_inv (j := j) (v0 := ldq 0 (by decide) x0) (v2 := lds 0 (by decide) x5)
      (H := H.congr (fun d => ldq_apply 0 _ x0 j d _) (lds_apply 0 _ x5 j _)) (hk := le_rfl) ..) (by decide +kernel)
  · exact Inv.to (t2_inv (j := j) (v167 := ldq 256 (by decide) x0) (v169 := lds 256 (by decide) x5)
      (H := H.congr (fun d => ldq_apply 256 _ x0 j d _) (lds_apply 256 _ x5 j _)) (hk := le_rfl) ..) (by decide +kernel)
  · exact Inv.to (t4_inv (j := j) (v286 := ldq 512 (by decide) x0) (v288 := lds 512 (by decide) x5)
      (H := H.congr (fun d => ldq_apply 512 _ x0 j d _) (lds_apply 512 _ x5 j _)) (hk := le_rfl) ..) (by decide +kernel)
  · exact Inv.to (t6_inv (H := H.congr (fun d => ldq_apply 768 _ x0 j d _) (lds_apply 768 _ x5 j _)) (hk := le_rfl) ..) (by decide +kernel)
  · exact causalStep_inv (H.congr (fun d => ldq_apply 0 _ x0 j d _) (lds_apply 0 _ x5 j _))
  · exact Inv.to (t3_inv (j := j) (v167 := ldq 256 (by decide) x0) (v169 := lds 256 (by decide) x5)
      (H := H.congr (fun d => ldq_apply 256 _ x0 j d _) (lds_apply 256 _ x5 j _)) (hk := le_rfl) ..) (by decide +kernel)
  · exact Inv.to (t5_inv (H := H.congr (fun d => ldq_apply 512 _ x0 j d _) (lds_apply 512 _ x5 j _)) (hk := le_rfl) ..) (by decide +kernel)
  · exact Inv.to (t7_inv (H := H.congr (fun d => ldq_apply 768 _ x0 j d _) (lds_apply 768 _ x5 j _)) (hk := le_rfl) ..) (by decide +kernel)
  · exact mid_tile (H := H.congr (fun d => ldq_apply 0 _ x0 j d _) (lds_apply 0 _ x5 j _)) rfl _ _ _ _
  · exact mid_tile (H := H.congr (fun d => ldq_apply 256 _ x0 j d _) (lds_apply 256 _ x5 j _)) rfl _ _ _ _
  · exact mid_tile (H := H.congr (fun d => ldq_apply 512 _ x0 j d _) (lds_apply 512 _ x5 j _)) rfl _ _ _ _
  · exact mid_tile (H := H.congr (fun d => ldq_apply 768 _ x0 j d _) (lds_apply 768 _ x5 j _)) rfl _ _ _ _

end Cert.KernelIdeal.Gen

end
-- ==== Proof.Out.lean ====
/- One block of the kernel's outputs, element by element. -/
module

public import proofs.«01_k».proof.Proof.Block

@[expose] public section

set_option maxRecDepth 16384

noncomputable section

namespace Cert.KernelIdeal.Gen

open Idealize.ShloMosaic Idealize.ShloMosaic.TcCoe

theorem tile3 (f : Fin 4 → FVec Ideal S1x256x128 .bf16) (r k : Fin 4) (j : Fin 256) (d : Fin 128) :
    View.TileAt (Val := Elt Ideal) (e := .bf16) (S := S1x1024x128) (ix3 0 (row r j) d) ![0, 256 * k.val, 0] S1x256x128.size (f k)
      (f r (ix3 0 j d)) := by
  intro x hx
  have h1 : 256 * r.val + j.val = 256 * k.val + (x 1).val := hx 1
  have h2 : d.val = 0 + (x 2).val := hx 2
  have hl : (x 1).val < 256 := (x 1).isLt
  obtain rfl : k = r := Fin.ext (by omega)
  refine congrArg (f k) (funext fun a => Fin.ext ?_)
  fin_cases a
  · exact Nat.lt_one_iff.mp (x 0).isLt
  · show (x 1).val = j.val; omega
  · show (x 2).val = d.val; omega

theorem tile4 (f : Fin 4 → FVec Ideal S1x1x1x256 .f32) (r k : Fin 4) (j : Fin 256) :
    View.TileAt (Val := Elt Ideal) (e := .f32) (S := S1x1x1x1024) (ix4 0 0 0 (row r j)) ![0, 0, 0, 256 * k.val] S1x1x1x256.size (f k)
      (f r (ix4 0 0 0 j)) := by
  intro x hx
  have h1 : 256 * r.val + j.val = 256 * k.val + (x 3).val := hx 3
  have hl : (x 3).val < 256 := (x 3).isLt
  obtain rfl : k = r := Fin.ext (by omega)
  refine congrArg (f k) (funext fun a => Fin.ext ?_)
  fin_cases a
  · exact Nat.lt_one_iff.mp (x 0).isLt
  · exact Nat.lt_one_iff.mp (x 1).isLt
  · exact Nat.lt_one_iff.mp (x 2).isLt
  · show (x 3).val = j.val; omega

/-- Four stores of 256 rows each, read back at a row. -/
theorem canon3 (f : Fin 4 → FVec Ideal S1x256x128 .bf16) (i3 i2 i1 i0) (r : Fin 4) (j : Fin 256) (d : Fin 128) :
    View.canon (Val := Elt Ideal) (e := .bf16) (s := S1x1024x128) [⟨Rect.unit ![0, 768, 0] S1x256x128.size i3, f 3⟩, ⟨Rect.unit ![0, 512, 0] S1x256x128.size i2, f 2⟩,
      ⟨Rect.unit ![0, 256, 0] S1x256x128.size i1, f 1⟩, ⟨Rect.unit ![0, 0, 0] S1x256x128.size i0, f 0⟩] (ix3 0 (row r j) d)
      = f r (ix3 0 j d) := by
  refine View.canon_eq_of_allAt _ _ _ (View.cover_of_tiledL (Val := Elt Ideal) (e := .bf16) (s := S1x1024x128)
      [⟨Rect.unit ![0, 768, 0] S1x256x128.size i3, f 3⟩, ⟨Rect.unit ![0, 512, 0] S1x256x128.size i2, f 2⟩, ⟨Rect.unit ![0, 256, 0] S1x256x128.size i1, f 1⟩, ⟨Rect.unit ![0, 0, 0] S1x256x128.size i0, f 0⟩] S1x256x128.size (by rfl) (ix3 0 (row r j) d)) ?_
  exact View.allAt_cons_unit _ _ _ _ _ (tile3 f r 3 j d) (View.allAt_cons_unit _ _ _ _ _ (tile3 f r 2 j d)
    (View.allAt_cons_unit _ _ _ _ _ (tile3 f r 1 j d) (View.allAt_cons_unit _ _ _ _ _ (tile3 f r 0 j d) (View.allAt_nil _ _))))

theorem canon4 (f : Fin 4 → FVec Ideal S1x1x1x256 .f32) (i3 i2 i1 i0) (r : Fin 4) (j : Fin 256) :
    View.canon (Val := Elt Ideal) (e := .f32) (s := S1x1x1x1024) [⟨Rect.unit ![0, 0, 0, 768] S1x1x1x256.size i3, f 3⟩, ⟨Rect.unit ![0, 0, 0, 512] S1x1x1x256.size i2, f 2⟩,
      ⟨Rect.unit ![0, 0, 0, 256] S1x1x1x256.size i1, f 1⟩, ⟨Rect.unit ![0, 0, 0, 0] S1x1x1x256.size i0, f 0⟩] (ix4 0 0 0 (row r j))
      = f r (ix4 0 0 0 j) := by
  refine View.canon_eq_of_allAt _ _ _ (View.cover_of_tiledL (Val := Elt Ideal) (e := .f32) (s := S1x1x1x1024)
      [⟨Rect.unit ![0, 0, 0, 768] S1x1x1x256.size i3, f 3⟩, ⟨Rect.unit ![0, 0, 0, 512] S1x1x1x256.size i2, f 2⟩, ⟨Rect.unit ![0, 0, 0, 256] S1x1x1x256.size i1, f 1⟩, ⟨Rect.unit ![0, 0, 0, 0] S1x1x1x256.size i0, f 0⟩] S1x1x1x256.size (by rfl) (ix4 0 0 0 (row r j))) ?_
  exact View.allAt_cons_unit _ _ _ _ _ (tile4 f r 3 j) (View.allAt_cons_unit _ _ _ _ _ (tile4 f r 2 j)
    (View.allAt_cons_unit _ _ _ _ _ (tile4 f r 1 j) (View.allAt_cons_unit _ _ _ _ _ (tile4 f r 0 j) (View.allAt_nil _ _))))

theorem causal_mul (J : ℕ) (s : ℕ → EReal) : causal J (fun k => s k * Softmax.c2) = fun k => causal J s k * Softmax.c2 := by
  funext k
  unfold causal
  split
  · rfl
  · exact (EReal.bot_mul_coe_of_pos Softmax.log_two_pos).symm

/-- The keys after the row's add nothing. -/
theorem causal_pad (r : Fin 4) (j : Fin 256) (s u : ℕ → EReal) :
    Softmax.W (causal (256 * r + j) s) u (256 * (r + 1)) = Softmax.W (causal (256 * r + j) s) u 1024
      ∧ Softmax.M (causal (256 * r + j) s) (256 * (r + 1)) = Softmax.M (causal (256 * r + j) s) 1024 := by
  have h : ∀ k, 256 * (r.val + 1) ≤ k → causal (256 * r + j) s k = ⊥ := fun k hk => if_neg (by omega)
  obtain ⟨T, hT⟩ : ∃ T, 1024 = 256 * (r.val + 1) + T := ⟨1024 - 256 * (r.val + 1), by omega⟩
  rw [hT, Softmax.W_pad _ _ _ _ h, Softmax.M_pad _ _ _ h]
  exact ⟨rfl, rfl⟩

/-- A row's attentions: prompt, completion and table row, their scores in exponents of two. -/
structure Row (x1 : Vec Ideal S1x28672x128 .fp8e4m3) (x2 : Vec Ideal S1x28672x128 .f32) (x3 : Vec Ideal S1x128x28672 .fp8e4m3)
    (x4 : Vec Ideal S1x1x28672 .f32) (x6 : Vec Ideal S1x1x1024x128 .fp8e4m3) (x7 : Vec Ideal S1x1x1024x128 .f32)
    (x8 : Vec Ideal S1x1x128x1024 .fp8e4m3) (x9 : Vec Ideal S1x1x1x1024 .f32) (x10 : Vec Ideal S1x1x384x128 .fp8e4m3)
    (x11 : Vec Ideal S1x1x384x128 .f32) (x12 : Vec Ideal S1x1x128x384 .fp8e4m3) (x13 : Vec Ideal S1x1x1x384 .f32)
    (q : Fin 128 → EReal) (qs : EReal) (sp sc sm : ℕ → EReal) (up uc um : Fin 128 → ℕ → EReal) : Prop where
  p : AttP x1 x2 x3 x4 q qs (fun k => sp k * Softmax.c2) up
  c : AttC x6 x7 x8 x9 q qs (fun k => sc k * Softmax.c2) uc
  m : AttM x10 x11 x12 x13 q qs (fun k => sm k * Softmax.c2) um

variable (c : Dev nD) (i : grid0.Coords) (arg4 : Memref sig .tc .vmem S1x1024x128 .fp8e4m3) (harg4 : arg4.IsWhole)
  (arg5 : Memref sig .tc .vmem S1x28672x128 .fp8e4m3) (harg5 : arg5.IsWhole) (arg6 : Memref sig .tc .vmem S1x28672x128 .f32)
  (harg6 : arg6.IsWhole) (arg7 : Memref sig .tc .vmem S1x128x28672 .fp8e4m3) (harg7 : arg7.IsWhole)
  (arg8 : Memref sig .tc .vmem S1x1x28672 .f32) (harg8 : arg8.IsWhole) (arg9 : Memref sig .tc .vmem S1x1x1x1024 .f32)
  (harg9 : arg9.IsWhole) (arg10 : Memref sig .tc .vmem S1x1x1024x128 .fp8e4m3) (harg10 : arg10.IsWhole)
  (arg11 : Memref sig .tc .vmem S1x1x1024x128 .f32) (harg11 : arg11.IsWhole)
  (arg12 : Memref sig .tc .vmem S1x1x128x1024 .fp8e4m3) (harg12 : arg12.IsWhole)
  (arg13 : Memref sig .tc .vmem S1x1x1x1024 .f32) (harg13 : arg13.IsWhole)
  (arg14 : Memref sig .tc .vmem S1x1x384x128 .fp8e4m3) (harg14 : arg14.IsWhole)
  (arg15 : Memref sig .tc .vmem S1x1x384x128 .f32) (harg15 : arg15.IsWhole)
  (arg16 : Memref sig .tc .vmem S1x1x128x384 .fp8e4m3) (harg16 : arg16.IsWhole) (arg17 : Memref sig .tc .vmem S1x1x1x384 .f32)
  (harg17 : arg17.IsWhole) (arg18 : Memref sig .tc .vmem S1x1024x128 .bf16) (harg18 : arg18.IsWhole)
  (arg19 : Memref sig .tc .vmem S1x1x1x1024 .f32) (harg19 : arg19.IsWhole) (arg20 : Memref sig .tc .vmem S1x1x1x1024 .f32)
  (harg20 : arg20.IsWhole) (arg21 : Memref sig .tc .vmem S1x1x1x1024 .f32) (harg21 : arg21.IsWhole)
  (x0 : Vec Ideal S1x1024x128 .fp8e4m3) (x1 : Vec Ideal S1x28672x128 .fp8e4m3) (x2 : Vec Ideal S1x28672x128 .f32)
  (x3 : Vec Ideal S1x128x28672 .fp8e4m3) (x4 : Vec Ideal S1x1x28672 .f32) (x5 : Vec Ideal S1x1x1x1024 .f32)
  (x6 : Vec Ideal S1x1x1024x128 .fp8e4m3) (x7 : Vec Ideal S1x1x1024x128 .f32) (x8 : Vec Ideal S1x1x128x1024 .fp8e4m3)
  (x9 : Vec Ideal S1x1x1x1024 .f32) (x10 : Vec Ideal S1x1x384x128 .fp8e4m3) (x11 : Vec Ideal S1x1x384x128 .f32)
  (x12 : Vec Ideal S1x1x128x384 .fp8e4m3) (x13 : Vec Ideal S1x1x1x384 .f32) (xt0 : TbBuf0 (F := Ideal) c tbM0_0)

/-- The four outputs of a block at a row. -/
theorem out_row (r : Fin 4) (j : Fin 256) {sp sc sm : ℕ → EReal} {up uc um : Fin 128 → ℕ → EReal}
    (H : Row x1 x2 x3 x4 x6 x7 x8 x9 x10 x11 x12 x13 (fun d => x0 (ix3 0 (row r j) d))
      (x5 (ix4 0 0 0 (row r j)) * Named.named (F := Ideal) (φ := .f32) κ "scale_log2e" 0x3E0293EE#32) sp sc sm up uc um) :
    (∀ d, (out0_A_14 (F := Ideal) c i arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20
        arg21 harg21 x0 x1 x2 x3 x4 x5 x6 x7 x8 x9 x10 x11 x12 x13 xt0) (ix3 0 (row r j) d) =
        Softmax.joined (Softmax.lse sp 28672) (Softmax.mean sp (up d) 28672)
          (Softmax.lse (causal (256 * r + j) sc) 1024) (Softmax.mean (causal (256 * r + j) sc) (uc d) 1024)
          (Softmax.lse sm 384) (Softmax.mean sm (um d) 384)) ∧
    (out0_A_15 (F := Ideal) c i arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20
        arg21 harg21 x0 x1 x2 x3 x4 x5 x6 x7 x8 x9 x10 x11 x12 x13 xt0) (ix4 0 0 0 (row r j)) =
        Softmax.lse sp 28672 - Ideal.ofBits .f32 0x41243805#32 ∧
    (out0_A_16 (F := Ideal) c i arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20
        arg21 harg21 x0 x1 x2 x3 x4 x5 x6 x7 x8 x9 x10 x11 x12 x13 xt0) (ix4 0 0 0 (row r j)) =
        Softmax.lse (causal (256 * r + j) sc) 1024
          - Ideal.log (FloatOps.sitofp (F := Ideal) .f32 (BitVec.ofNat 32 (256 * r + j + 1))) ∧
    (out0_A_17 (F := Ideal) c i arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20
        arg21 harg21 x0 x1 x2 x3 x4 x5 x6 x7 x8 x9 x10 x11 x12 x13 xt0) (ix4 0 0 0 (row r j)) =
        Softmax.lse sm 384 - Ideal.ofBits .f32 0x40BE6BAA#32 := by
  obtain ⟨P, C, M, h14, h15, h16, h17, hP, hC, hM⟩ := run_pieces c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 xt0
  have p := hP r j _ _ H.p
  have m := hM r j _ _ H.m
  have c' := hC r j _ _ H.c
  rw [causal_mul] at c'
  have lse_pad : Softmax.lse (causal (256 * r + j) sc) (256 * (r + 1)) = Softmax.lse (causal (256 * r + j) sc) 1024 := by
    unfold Softmax.lse; rw [(causal_pad r j sc _).1, (causal_pad r j sc fun _ => 1).2]
  have mean_pad : ∀ d, Softmax.mean (causal (256 * r + j) sc) (uc d) (256 * (r + 1))
      = Softmax.mean (causal (256 * r + j) sc) (uc d) 1024 := fun d => by
    unfold Softmax.mean; rw [(causal_pad r j sc _).1, (causal_pad r j sc _).1]
  unfold out0_A_14 out0_A_15 out0_A_16 out0_A_17
  refine ⟨fun d => ?_, ?_, ?_, ?_⟩
  · rw [View.read_writes_junk_apply_eq_canon, h14, ← lse_pad, ← mean_pad]
    exact (canon3 (fun r => joinVec (P r) (C r) (M r)) _ _ _ _ r j d).trans (p.joinVec c' m d)
  · rw [View.read_writes_junk_apply_eq_canon, h15]
    exact (canon4 (fun r => lseVec _ (P r)) _ _ _ _ r j).trans (p.lseVec _)
  · rw [View.read_writes_junk_apply_eq_canon, h16, ← lse_pad]
    refine (canon4 (fun r => lseCausalVec (BitVec.ofNat 32 (256 * r + 1)) (C r)) _ _ _ _ r j).trans ((c'.lseCausalVec _).trans ?_)
    rw [Nat.add_right_comm]
  · rw [View.read_writes_junk_apply_eq_canon, h17]
    exact (canon4 (fun r => lseVec _ (M r)) _ _ _ _ r j).trans (m.lseVec _)

end Cert.KernelIdeal.Gen

end
-- ==== Proof.Rows.lean ====
/- The kernel's four outputs at a grid point, as the attention's results at the point's batch row and query head. -/
module

public import proofs.«01_k».proof.Proof.Blocks
public import proofs.«01_k».proof.Proof.Out
public import proofs.«01_k».proof.Proof.Spec

@[expose] public section

set_option maxRecDepth 16384

noncomputable section

namespace Cert.KernelIdeal.Gen

open Idealize.ShloMosaic Idealize.ShloMosaic.TcCoe

theorem named_scale : Named.named (F := Ideal) (φ := .f32) κ "scale_log2e" 0x3E0293EE#32 = Spec.SCALE * Softmax.c2 := by
  refine (IdealRules.named_const.ideal_named_scalar κ "scale_log2e" 0x3E0293EE#32
    (((11863283 / 134217728) * (Real.log 2)⁻¹ : ℝ) : EReal) rfl).trans ?_
  have h : Spec.SCALE = ((11863283 / 134217728 : ℝ) : EReal) := by
    unfold Spec.SCALE
    simp [Ideal.ofBits, Ideal.ieee, -EReal.coe_mul]; norm_num
  rw [h]
  exact EReal.coe_mul _ _

/-- The scale of scores and the change of base, moved past the keys' scale. -/
theorem scale_comm (x w q s c : EReal) : x * w * (q * (s * c)) = x * q * w * s * c := by
  simp only [mul_assoc, mul_left_comm, mul_comm]

theorem kv_headOf (t : Fin grid0.N) : Spec.kv (headOf t) = kvOf t := Fin.ext <| by
  have h : (groupOf t).val < 7 := (groupOf t).isLt
  show ((kvOf t).val * 7 + (groupOf t).val) / 7 = (kvOf t).val
  omega

section rows

variable (m : (ℓ : Loc nD τ sig) → Buf (Elt Ideal) ℓ) (hO : Ok m)
  (hT : ∀ b : Fin 24, (tbl m 0 (ix1 b) : BitVec 32).toNat < 3) (c : Dev nD)

/-- The arguments by element. -/
def inputs : Spec.Inputs where
  q b s h d := arg m c main_arg0 (ix4 b s h d)
  qs b s h := arg m c main_arg1 (ix3 b s h)
  pk p k d := arg m c main_arg2 (ix3 p k d)
  pv p k d := arg m c main_arg3 (ix3 p k d)
  pks p k := arg m c main_arg4 (ix2 p k)
  pvs p k := arg m c main_arg5 (ix2 p k)
  k b p k d := arg m c main_arg6 (ix4 b p k d)
  v b p k d := arg m c main_arg7 (ix4 b p k d)
  ks b p k := arg m c main_arg8 (ix3 b p k)
  vs b p k := arg m c main_arg9 (ix3 b p k)
  tk e p k d := arg m c main_arg10 (ix4 e p k d)
  tv e p k d := arg m c main_arg11 (ix4 e p k d)
  tks e p k := arg m c main_arg12 (ix3 e p k)
  tvs e p k := arg m c main_arg13 (ix3 e p k)
  mid b := midOf m hT b

theorem row_at (t : Fin grid0.N) (s : Fin 1024) :
    Row (iblk m hO c 1 t) (iblk m hO c 2 t) (iblk m hO c 3 t) (iblk m hO c 4 t) (iblk m hO c 6 t) (iblk m hO c 7 t)
      (iblk m hO c 8 t) (iblk m hO c 9 t) (iblk m hO c 10 t) (iblk m hO c 11 t) (iblk m hO c 12 t) (iblk m hO c 13 t)
      (fun d => (iblk m hO c 0 t : Vec Ideal S1x1024x128 .fp8e4m3) (ix3 0 s d))
      (HMul.hMul (α := EReal) (β := EReal) (γ := EReal) ((iblk m hO c 5 t : Vec Ideal S1x1x1x1024 .f32) (ix4 0 0 0 s))
        (Named.named (F := Ideal) (φ := .f32) κ "scale_log2e" 0x3E0293EE#32))
      (Spec.sp (inputs m hT c) (batchOf t) s (headOf t)) (Spec.sc (inputs m hT c) (batchOf t) s (headOf t))
      (Spec.sm (inputs m hT c) (batchOf t) s (headOf t))
      (Spec.up (inputs m hT c) (headOf t)) (Spec.uc (inputs m hT c) (batchOf t) (headOf t))
      (Spec.um (inputs m hT c) (batchOf t) (headOf t)) := by
  rw [named_scale, blk5]
  constructor
  · refine ⟨fun p => ⟨_, fun l => blk2 m hO c t p l, ?_⟩, fun d p => ?_⟩
    · simp only [blk0, blk1]
      rw [scale_comm]
      refine congrArg (· * Softmax.c2) ?_
      unfold Spec.sp Spec.score
      rw [Spec.ext_val, kv_headOf]
      rfl
    · refine (congrArg₂ (fun x y : EReal => x * y) (blk3 m hO c t d p) (blk4 m hO c t p)).trans ?_
      unfold Spec.up Spec.vals
      rw [Spec.ext_val, kv_headOf]
      rfl
  · refine ⟨fun p => ⟨_, fun l => blk7 m hO c t p l, ?_⟩, fun d p => ?_⟩
    · simp only [blk0, blk6]
      rw [scale_comm]
      refine congrArg (· * Softmax.c2) ?_
      unfold Spec.sc Spec.score
      rw [Spec.ext_val, kv_headOf]
      rfl
    · refine (congrArg₂ (fun x y : EReal => x * y) (blk8 m hO c t d p) (blk9 m hO c t p)).trans ?_
      unfold Spec.uc Spec.vals
      rw [Spec.ext_val, kv_headOf]
      rfl
  · refine ⟨fun p => ⟨_, fun l => blk11 m hO hT c t p l, ?_⟩, fun d p => ?_⟩
    · simp only [blk0, blk10 m hO hT]
      rw [scale_comm]
      refine congrArg (· * Softmax.c2) ?_
      unfold Spec.sm Spec.score
      rw [Spec.ext_val, kv_headOf]
      rfl
    · refine (congrArg₂ (fun x y : EReal => x * y) (blk12 m hO hT c t d p) (blk13 m hO hT c t p)).trans ?_
      unfold Spec.um Spec.vals
      rw [Spec.ext_val, kv_headOf]
      rfl

end rows

end Cert.KernelIdeal.Gen

end
-- ==== Proof.Value.lean ====
/- The kernel's four arrays after the run, as the attention's results. -/
module

public import proofs.«01_k».proof.Proof.Rows

@[expose] public section

set_option maxRecDepth 16384

noncomputable section

namespace Cert.KernelIdeal.Gen

open Idealize.ShloMosaic Idealize.ShloMosaic.TcCoe

variable (m : (ℓ : Loc nD τ sig) → Buf (Elt Ideal) ℓ) (hO : Ok m)
  (hT : ∀ b : Fin 24, (tbl m 0 (ix1 b) : BitVec 32).toNat < 3) (c : Dev nD)

/-- The four outputs of a grid point at a row. -/
theorem outs_at (t : Fin (cfgM m hO).N) (s : Fin 1024) :
    (∀ d, ((outsAt0 m hO c t).1 : Vec Ideal S1x1024x128 .bf16) (ix3 0 s d) = Spec.out (inputs m hT c) (batchOf t) s (headOf t) d) ∧
    ((outsAt0 m hO c t).2.1 : Vec Ideal S1x1x1x1024 .f32) (ix4 0 0 0 s) = Spec.prompt (inputs m hT c) (batchOf t) s (headOf t) ∧
    ((outsAt0 m hO c t).2.2.1 : Vec Ideal S1x1x1x1024 .f32) (ix4 0 0 0 s) = Spec.completion (inputs m hT c) (batchOf t) s (headOf t) ∧
    ((outsAt0 m hO c t).2.2.2 : Vec Ideal S1x1x1x1024 .f32) (ix4 0 0 0 s) = Spec.mid (inputs m hT c) (batchOf t) s (headOf t) := by
  obtain ⟨r, j, rfl⟩ : ∃ r j, s = row r j :=
    ⟨⟨s.val / 256, by have := s.isLt; omega⟩, ⟨s.val % 256, Nat.mod_lt _ (by norm_num)⟩, Fin.ext (Nat.div_add_mod _ _).symm⟩
  have o := out_row c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) r j
    (row_at m hO hT c t (row r j))
  unfold Spec.out Spec.prompt Spec.completion Spec.mid Spec.lseP Spec.lseC Spec.lseM outsAt0
  dsimp only
  exact o

/-- The first array: each row's heads side by side. -/
def G14 (I : Spec.Inputs) : (S24x1024x3584 : Shape).Idx → EReal := fun i =>
  Spec.out I (i 0) (i 1) ⟨(i 2).val / 128, by have : (i 2).val < 3584 := (i 2).isLt; omega⟩ ⟨(i 2).val % 128, Nat.mod_lt _ (by norm_num)⟩

theorem G14_at (I : Spec.Inputs) (b : Fin 24) (s : Fin 1024) (h : Fin 28) (d : Fin 128) (e : Fin 3584) (he : e.val = h.val * 128 + d.val) :
    G14 I (ix3 b s e) = Spec.out I b s h d := by
  have h1 : (⟨e.val / 128, by have := e.isLt; omega⟩ : Fin 28) = h := Fin.ext (by have := d.isLt; show e.val / 128 = h.val; omega)
  have h2 : (⟨e.val % 128, Nat.mod_lt _ (by norm_num)⟩ : Fin 128) = d := Fin.ext (by have := d.isLt; show e.val % 128 = d.val; omega)
  show Spec.out I b s ⟨e.val / 128, _⟩ ⟨e.val % 128, _⟩ = _
  rw [h1, h2]

/-- The arrays of logarithms, heads before rows. -/
def G4 (f : Fin 24 → Fin 1024 → Fin 28 → EReal) : (S24x28x1x1024 : Shape).Idx → EReal := fun i => f (i 0) (i 3) (i 1)

theorem array14 : (dats m hO 0 c).arrAt 14 (cfgM m hO).N = G14 (inputs m hT c) := by
  refine (dats m hO 0 c).arrAt_eq_of_covers 14 _ (of_decide_eq_true (by sl_kernel_rfl)) fun t hf y => ?_
  rw [after0_14]
  obtain ⟨a, s, d, rfl⟩ : ∃ (a : Fin 1) (s : Fin 1024) (d : Fin 128), y = ix3 a s d := ⟨_, _, _, eq_ix3 y⟩
  obtain rfl : a = 0 := Subsingleton.elim _ _
  refine ((outs_at m hO hT c t s).1 d).trans ?_
  refine (G14_at (inputs m hT c) (batchOf t) s (headOf t) d ⟨(headOf t).val * 128 + d.val, by have := (headOf t).isLt; omega⟩ rfl).symm.trans
    (congrArg (G14 (inputs m hT c)) (funext fun a => Fin.ext ?_))
  have e : ∀ a, cc0_transform_14 (grid0.coords t) a = _ := fun a => congrFun (transform14 (grid0.coords t)) a
  fin_cases a
  · show _ = cc0_transform_14 (grid0.coords t) 0 * 1 + 1 * 0
    rw [e]
    show (batchOf t).val = (batchOf t).val * 1 + 1 * 0
    exact (Nat.mul_one _).symm
  · show _ = cc0_transform_14 (grid0.coords t) 1 * 1024 + 1 * s.val
    rw [e]
    show s.val = 0 * 1024 + 1 * s.val
    rw [Nat.zero_mul, Nat.zero_add, Nat.one_mul]
  · show _ = cc0_transform_14 (grid0.coords t) 2 * 128 + 1 * d.val
    rw [e, Nat.one_mul]
    rfl

theorem array15 : (dats m hO 0 c).arrAt 15 (cfgM m hO).N = G4 (Spec.prompt (inputs m hT c)) := by
  refine (dats m hO 0 c).arrAt_eq_of_covers 15 _ (of_decide_eq_true (by sl_kernel_rfl)) fun t hf y => ?_
  rw [after0_15]
  obtain ⟨a, b, e, s, rfl⟩ : ∃ (a b e : Fin 1) (s : Fin 1024), y = ix4 a b e s := ⟨_, _, _, _, eq_ix4 y⟩
  obtain rfl : a = 0 := Subsingleton.elim _ _
  obtain rfl : b = 0 := Subsingleton.elim _ _
  obtain rfl : e = 0 := Subsingleton.elim _ _
  refine ((outs_at m hO hT c t s).2.1).trans
    (congrArg (G4 (Spec.prompt (inputs m hT c))) (a₁ := ix4 (batchOf t) (headOf t) 0 s) (funext fun a => Fin.ext ?_))
  have e : ∀ a, cc0_transform_15 (grid0.coords t) a = _ := fun a => congrFun (transform15 (grid0.coords t)) a
  fin_cases a
  · show _ = cc0_transform_15 (grid0.coords t) 0 * 1 + 1 * 0
    rw [e]
    show (batchOf t).val = (batchOf t).val * 1 + 1 * 0
    exact (Nat.mul_one _).symm
  · show _ = cc0_transform_15 (grid0.coords t) 1 * 1 + 1 * 0
    rw [e]
    show (headOf t).val = (headOf t).val * 1 + 1 * 0
    exact (Nat.mul_one _).symm
  · show _ = cc0_transform_15 (grid0.coords t) 2 * 1 + 1 * 0
    rw [e]
    rfl
  · show _ = cc0_transform_15 (grid0.coords t) 3 * 1024 + 1 * s.val
    rw [e]
    show s.val = 0 * 1024 + 1 * s.val
    rw [Nat.zero_mul, Nat.zero_add, Nat.one_mul]

theorem array16 : (dats m hO 0 c).arrAt 16 (cfgM m hO).N = G4 (Spec.completion (inputs m hT c)) := by
  refine (dats m hO 0 c).arrAt_eq_of_covers 16 _ (of_decide_eq_true (by sl_kernel_rfl)) fun t hf y => ?_
  rw [after0_16]
  obtain ⟨a, b, e, s, rfl⟩ : ∃ (a b e : Fin 1) (s : Fin 1024), y = ix4 a b e s := ⟨_, _, _, _, eq_ix4 y⟩
  obtain rfl : a = 0 := Subsingleton.elim _ _
  obtain rfl : b = 0 := Subsingleton.elim _ _
  obtain rfl : e = 0 := Subsingleton.elim _ _
  refine ((outs_at m hO hT c t s).2.2.1).trans
    (congrArg (G4 (Spec.completion (inputs m hT c))) (a₁ := ix4 (batchOf t) (headOf t) 0 s) (funext fun a => Fin.ext ?_))
  have e : ∀ a, cc0_transform_16 (grid0.coords t) a = _ := fun a => congrFun (transform16 (grid0.coords t)) a
  fin_cases a
  · show _ = cc0_transform_16 (grid0.coords t) 0 * 1 + 1 * 0
    rw [e]
    show (batchOf t).val = (batchOf t).val * 1 + 1 * 0
    exact (Nat.mul_one _).symm
  · show _ = cc0_transform_16 (grid0.coords t) 1 * 1 + 1 * 0
    rw [e]
    show (headOf t).val = (headOf t).val * 1 + 1 * 0
    exact (Nat.mul_one _).symm
  · show _ = cc0_transform_16 (grid0.coords t) 2 * 1 + 1 * 0
    rw [e]
    rfl
  · show _ = cc0_transform_16 (grid0.coords t) 3 * 1024 + 1 * s.val
    rw [e]
    show s.val = 0 * 1024 + 1 * s.val
    rw [Nat.zero_mul, Nat.zero_add, Nat.one_mul]

theorem array17 : (dats m hO 0 c).arrAt 17 (cfgM m hO).N = G4 (Spec.mid (inputs m hT c)) := by
  refine (dats m hO 0 c).arrAt_eq_of_covers 17 _ (of_decide_eq_true (by sl_kernel_rfl)) fun t hf y => ?_
  rw [after0_17]
  obtain ⟨a, b, e, s, rfl⟩ : ∃ (a b e : Fin 1) (s : Fin 1024), y = ix4 a b e s := ⟨_, _, _, _, eq_ix4 y⟩
  obtain rfl : a = 0 := Subsingleton.elim _ _
  obtain rfl : b = 0 := Subsingleton.elim _ _
  obtain rfl : e = 0 := Subsingleton.elim _ _
  refine ((outs_at m hO hT c t s).2.2.2).trans
    (congrArg (G4 (Spec.mid (inputs m hT c))) (a₁ := ix4 (batchOf t) (headOf t) 0 s) (funext fun a => Fin.ext ?_))
  have e : ∀ a, cc0_transform_17 (grid0.coords t) a = _ := fun a => congrFun (transform17 (grid0.coords t)) a
  fin_cases a
  · show _ = cc0_transform_17 (grid0.coords t) 0 * 1 + 1 * 0
    rw [e]
    show (batchOf t).val = (batchOf t).val * 1 + 1 * 0
    exact (Nat.mul_one _).symm
  · show _ = cc0_transform_17 (grid0.coords t) 1 * 1 + 1 * 0
    rw [e]
    show (headOf t).val = (headOf t).val * 1 + 1 * 0
    exact (Nat.mul_one _).symm
  · show _ = cc0_transform_17 (grid0.coords t) 2 * 1 + 1 * 0
    rw [e]
    rfl
  · show _ = cc0_transform_17 (grid0.coords t) 3 * 1024 + 1 * s.val
    rw [e]
    show s.val = 0 * 1024 + 1 * s.val
    rw [Nat.zero_mul, Nat.zero_add, Nat.one_mul]

end Cert.KernelIdeal.Gen

end
-- ==== Proof.Results.lean ====
/- The kernel's run: its four results are the attention's results. -/
module

public import proofs.«01_k».proof.Proof.Value
public import Idealize.ShloMosaic.Lib.StableHlo.Run
public import Idealize.ShloMosaic.Lib.Pointwise

@[expose] public section

set_option maxRecDepth 16384

noncomputable section

namespace Cert.KernelIdeal.Gen

open Idealize.ShloMosaic Idealize.ShloMosaic.TcCoe Idealize.ShloMosaic.StableHlo Idealize.SL.Sem

/-- A result of one number per batch row, row and head. -/
def R3 (f : Fin 24 → Fin 1024 → Fin 28 → EReal) : (S24x1024x28 : Shape).Idx → EReal := fun i => f (i 0) (i 1) (i 2)

/-- The lines after the call put a logarithm's rows before its heads. -/
theorem swap (f : Fin 24 → Fin 1024 → Fin 28 → EReal) :
    transpose S24x1024x28 [0, 2, 1] (shapeCast S24x28x1024 (s := S24x28x1x1024) (G4 f) shapeCasts_S24x28x1x1024_S24x28x1024)
      transposes_S24x28x1024_S24x1024x28_0_2_1 = R3 f := by
  funext i
  obtain ⟨b, s, h, rfl⟩ : ∃ (b : Fin 24) (s : Fin 1024) (h : Fin 28), i = ix3 b s h := ⟨_, _, _, eq_ix3 i⟩
  refine (transpose_apply [0, 2, 1] _ transposes_S24x28x1024_S24x1024x28_0_2_1 (ix3 b s h) (ix3 b h s) (fun a => by fin_cases a <;> rfl)).trans ?_
  refine (shapeCast_apply (s := S24x28x1x1024) (G4 f) shapeCasts_S24x28x1x1024_S24x28x1024 (ix3 b h s) (ix4 b h 0 s) ?_).trans rfl
  rw [Shape.rowMajor_val_three, Shape.rowMajor_val_four]
  show ((b.val * 28 + h.val) * 1 + 0) * 1024 + s.val = (b.val * 28 + h.val) * 1024 + s.val
  rw [Nat.mul_one, Nat.add_zero]

theorem tail26 (W : Valuation τ sig (Elt Ideal)) : after hostOps1 W (Proc.devRef .tc main_v26) =
    transpose S24x1024x28 [0, 2, 1] (shapeCast S24x28x1024 (s := S24x28x1x1024) (W (Proc.devRef .tc main_v24_1)) shapeCasts_S24x28x1x1024_S24x28x1024)
      transposes_S24x28x1024_S24x1024x28_0_2_1 := by
  unfold hostOps1
  after_results
  rfl

theorem tail28 (W : Valuation τ sig (Elt Ideal)) : after hostOps1 W (Proc.devRef .tc main_v28) =
    transpose S24x1024x28 [0, 2, 1] (shapeCast S24x28x1024 (s := S24x28x1x1024) (W (Proc.devRef .tc main_v24_2)) shapeCasts_S24x28x1x1024_S24x28x1024)
      transposes_S24x28x1024_S24x1024x28_0_2_1 := by
  unfold hostOps1
  after_results
  rfl

theorem tail30 (W : Valuation τ sig (Elt Ideal)) : after hostOps1 W (Proc.devRef .tc main_v30) =
    transpose S24x1024x28 [0, 2, 1] (shapeCast S24x28x1024 (s := S24x28x1x1024) (W (Proc.devRef .tc main_v24_3)) shapeCasts_S24x28x1x1024_S24x28x1024)
      transposes_S24x28x1024_S24x1024x28_0_2_1 := by
  unfold hostOps1
  after_results
  rfl

variable (m : (ℓ : Loc nD τ sig) → Buf (Elt Ideal) ℓ) (hO : Ok m)
  (hT : ∀ b : Fin 24, (tbl m 0 (ix1 b) : BitVec 32).toNat < 3) (c : Dev nD)

theorem res26 : Pipeline.afterTail pcfgs (fun _ => adm m hO) (dats m hO) 0 (V0 m) [hostOps1] c main_v26 = R3 (Spec.prompt (inputs m hT c)) := by
  unfold Pipeline.afterTail
  refine (tail26 _).trans ?_
  refine (congrArg (fun x => transpose S24x1024x28 [0, 2, 1] (shapeCast S24x28x1024 (s := S24x28x1x1024) x shapeCasts_S24x28x1x1024_S24x28x1024)
    transposes_S24x28x1024_S24x1024x28_0_2_1) (a₂ := G4 (Spec.prompt (inputs m hT c))) ?_).trans (swap _)
  exact (Pipeline.withArrays_arr spec0 (by decide) c (V0 m c) (fun w => (dats m hO 0 c).arrAt w (cfgM m hO).N) 15).trans (array15 m hO hT c)

theorem res28 : Pipeline.afterTail pcfgs (fun _ => adm m hO) (dats m hO) 0 (V0 m) [hostOps1] c main_v28 = R3 (Spec.completion (inputs m hT c)) := by
  unfold Pipeline.afterTail
  refine (tail28 _).trans ?_
  refine (congrArg (fun x => transpose S24x1024x28 [0, 2, 1] (shapeCast S24x28x1024 (s := S24x28x1x1024) x shapeCasts_S24x28x1x1024_S24x28x1024)
    transposes_S24x28x1024_S24x1024x28_0_2_1) (a₂ := G4 (Spec.completion (inputs m hT c))) ?_).trans (swap _)
  exact (Pipeline.withArrays_arr spec0 (by decide) c (V0 m c) (fun w => (dats m hO 0 c).arrAt w (cfgM m hO).N) 16).trans (array16 m hO hT c)

theorem res30 : Pipeline.afterTail pcfgs (fun _ => adm m hO) (dats m hO) 0 (V0 m) [hostOps1] c main_v30 = R3 (Spec.mid (inputs m hT c)) := by
  unfold Pipeline.afterTail
  refine (tail30 _).trans ?_
  refine (congrArg (fun x => transpose S24x1024x28 [0, 2, 1] (shapeCast S24x28x1024 (s := S24x28x1x1024) x shapeCasts_S24x28x1x1024_S24x28x1024)
    transposes_S24x28x1024_S24x1024x28_0_2_1) (a₂ := G4 (Spec.mid (inputs m hT c))) ?_).trans (swap _)
  exact (Pipeline.withArrays_arr spec0 (by decide) c (V0 m c) (fun w => (dats m hO 0 c).arrAt w (cfgM m hO).N) 17).trans (array17 m hO hT c)

include hO in
/-- The run. -/
theorem run (ρ : Dev nD → PrngReg) : θ_run defs (onTc (τ := τ) (main (F := Ideal))) ⟨m, fun _ => 0, ρ⟩ (fun r => ∀ c : Dev nD,
      r.2.mem ((c.tc : Thread nD τ).loc main_v24_0) = G14 (inputs m hT c)
      ∧ r.2.mem ((c.tc : Thread nD τ).loc main_v26) = R3 (Spec.prompt (inputs m hT c))
      ∧ r.2.mem ((c.tc : Thread nD τ).loc main_v28) = R3 (Spec.completion (inputs m hT c))
      ∧ r.2.mem ((c.tc : Thread nD τ).loc main_v30) = R3 (Spec.mid (inputs m hT c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 14).trans (array14 m hO hT c),
      ((h c).2 main_v26 (by decide : main_v26 ∈ Pipeline.restRefs sig spec0)).trans (res26 m hO hT c),
      ((h c).2 main_v28 (by decide : main_v28 ∈ Pipeline.restRefs sig spec0)).trans (res28 m hO hT c),
      ((h c).2 main_v30 (by decide : main_v30 ∈ Pipeline.restRefs sig spec0)).trans (res30 m hO hT c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c),
      ((h c).2 main_arg4 (by decide : main_arg4 ∈ Pipeline.restRefs sig spec0)).trans (W_main_arg4 m hO (dats m hO) c),
      ((h c).2 main_arg5 (by decide : main_arg5 ∈ Pipeline.restRefs sig spec0)).trans (W_main_arg5 m hO (dats m hO) c),
      ((h c).2 main_arg6 (by decide : main_arg6 ∈ Pipeline.restRefs sig spec0)).trans (W_main_arg6 m hO (dats m hO) c),
      ((h c).2 main_arg7 (by decide : main_arg7 ∈ Pipeline.restRefs sig spec0)).trans (W_main_arg7 m hO (dats m hO) c),
      ((h c).2 main_arg8 (by decide : main_arg8 ∈ Pipeline.restRefs sig spec0)).trans (W_main_arg8 m hO (dats m hO) c),
      ((h c).2 main_arg9 (by decide : main_arg9 ∈ Pipeline.restRefs sig spec0)).trans (W_main_arg9 m hO (dats m hO) c),
      ((h c).2 main_arg10 (by decide : main_arg10 ∈ Pipeline.restRefs sig spec0)).trans (W_main_arg10 m hO (dats m hO) c),
      ((h c).2 main_arg11 (by decide : main_arg11 ∈ Pipeline.restRefs sig spec0)).trans (W_main_arg11 m hO (dats m hO) c),
      ((h c).2 main_arg12 (by decide : main_arg12 ∈ Pipeline.restRefs sig spec0)).trans (W_main_arg12 m hO (dats m hO) c),
      ((h c).2 main_arg13 (by decide : main_arg13 ∈ Pipeline.restRefs sig spec0)).trans (W_main_arg13 m hO (dats m hO) c),
      ((h c).2 main_arg14 (by decide : main_arg14 ∈ Pipeline.restRefs sig spec0)).trans (W_main_arg14 m hO (dats m hO) c)⟩) (run_main m ρ hO)

end Cert.KernelIdeal.Gen

end
-- ==== Proof.RefResults.lean ====
/- The reference's four results, as the specification's functions of its arguments. -/
module

public import proofs.«01_k».proof.Proof.RefValues
public import proofs.«01_k».proof.Proof.RefRegion
public import proofs.«01_k».proof.Proof.Results

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable (I : Spec.Inputs) (w : (⟨S24, .i32⟩ : BufTy).Contents (Elt Ideal))
variable (b : Fin 24) (s : Fin 1024) (k : Fin 4) (g : Fin 7) (d : Fin 128)
variable (hw : ∀ b : Fin 24, (w (ix1 b)).toNat = (I.mid b).val)

/-! The three attentions joined. -/

include hw in
theorem total_at : val_main_v135 (F := Ideal) (a1 I) (a4 I) (a8 I) (a12 I) w (b0 I) (b1 I) (b3 I) (b5 I) (ix4 b k s g)
    = Softmax.total (Spec.lseP I b s (head k g)) (Spec.lseC I b s (head k g)) (Spec.lseM I b s (head k g)) := by
  rw [val_main_v135_apply, val_main_v134_apply, val_main_v133_apply, val_main_v130_apply, val_main_v132_apply, val_main_v131_apply,
    val_main_v127_apply, val_main_v126_apply, val_main_v129_apply, val_main_v128_apply, val_main_v125_apply, val_main_v124_apply,
    lse_p, lse_c, lse_m I w b s k g hw]
  generalize Spec.lseP I b s (head k g) = p
  generalize Spec.lseC I b s (head k g) = c
  generalize Spec.lseM I b s (head k g) = m
  exact Softmax.total_swap _ _ _

include hw in
theorem weight_p : val_main_v139 (F := Ideal) (a1 I) (a4 I) (a8 I) (a12 I) w (b0 I) (b1 I) (b3 I) (b5 I) (ix5 b k s g d)
    = Ideal.exp (Spec.lseP I b s (head k g) - Softmax.total (Spec.lseP I b s (head k g)) (Spec.lseC I b s (head k g)) (Spec.lseM I b s (head k g))) := by
  rw [val_main_v139_apply, val_main_v138_apply]
  refine (congrArg (val_main_v137 (F := Ideal) (a1 I) (a4 I) (a8 I) (a12 I) w (b0 I) (b1 I) (b3 I) (b5 I)) (a₂ := ix4 b k s g) (funext fun a => by fin_cases a <;> rfl)).trans ?_
  rw [val_main_v137_apply, val_main_v136_apply, total_at I w b s k g hw, lse_p]
  generalize Spec.lseP I b s (head k g) = p
  generalize Spec.lseC I b s (head k g) = c
  generalize Spec.lseM I b s (head k g) = m
  rfl

include hw in
theorem weight_m : val_main_v144 (F := Ideal) (a1 I) (a4 I) (a8 I) (a12 I) w (b0 I) (b1 I) (b3 I) (b5 I) (ix5 b k s g d)
    = Ideal.exp (Spec.lseM I b s (head k g) - Softmax.total (Spec.lseP I b s (head k g)) (Spec.lseC I b s (head k g)) (Spec.lseM I b s (head k g))) := by
  rw [val_main_v144_apply, val_main_v143_apply]
  refine (congrArg (val_main_v142 (F := Ideal) (a1 I) (a4 I) (a8 I) (a12 I) w (b0 I) (b1 I) (b3 I) (b5 I)) (a₂ := ix4 b k s g) (funext fun a => by fin_cases a <;> rfl)).trans ?_
  rw [val_main_v142_apply, val_main_v141_apply, total_at I w b s k g hw, lse_m I w b s k g hw]
  generalize Spec.lseP I b s (head k g) = p
  generalize Spec.lseC I b s (head k g) = c
  generalize Spec.lseM I b s (head k g) = m
  rfl

include hw in
theorem weight_c : val_main_v150 (F := Ideal) (a1 I) (a4 I) (a8 I) (a12 I) w (b0 I) (b1 I) (b3 I) (b5 I) (ix5 b k s g d)
    = Ideal.exp (Spec.lseC I b s (head k g) - Softmax.total (Spec.lseP I b s (head k g)) (Spec.lseC I b s (head k g)) (Spec.lseM I b s (head k g))) := by
  rw [val_main_v150_apply, val_main_v149_apply]
  refine (congrArg (val_main_v148 (F := Ideal) (a1 I) (a4 I) (a8 I) (a12 I) w (b0 I) (b1 I) (b3 I) (b5 I)) (a₂ := ix4 b k s g) (funext fun a => by fin_cases a <;> rfl)).trans ?_
  rw [val_main_v148_apply, val_main_v147_apply, total_at I w b s k g hw, lse_c]
  generalize Spec.lseP I b s (head k g) = p
  generalize Spec.lseC I b s (head k g) = c
  generalize Spec.lseM I b s (head k g) = m
  rfl

include hw in
theorem joined_at : val_main_v152 (F := Ideal) (a1 I) (a4 I) (a5 I) (a8 I) (a9 I) (a12 I) (a13 I) w (b0 I) (b1 I) (b2 I) (b3 I) (b4 I) (b5 I) (b6 I) (ix5 b k s g d) = Spec.out I b s (head k g) d := by
  rw [val_main_v152_apply, val_main_v146_apply, val_main_v140_apply, val_main_v145_apply, val_main_v151_apply, weight_p I w b s k g d hw,
    weight_m I w b s k g d hw, weight_c I w b s k g d hw, mean_p, mean_m I w b s k g d hw, mean_c]
  exact Softmax.joined_swap _ _ _ _ _ _

/-- A head's number as its key head's and its place among the key head's. -/
theorem head_split (h : Fin 28) : head ⟨h.val / 7, by have := h.isLt; omega⟩ ⟨h.val % 7, Nat.mod_lt _ (by norm_num)⟩ = h := Fin.ext (by
  show h.val / 7 * 7 + h.val % 7 = h.val
  omega)

theorem idx_v157 (h : Fin 28) : idx_main_v156 (idx_main_v157 (ix3 b s h)) = ix4 b ⟨h.val / 7, by have := h.isLt; omega⟩ s ⟨h.val % 7, Nat.mod_lt _ (by norm_num)⟩ := by
  have hb := b.isLt; have hs := s.isLt; have hh := h.isLt
  refine funext fun a => Fin.ext ?_
  match a with
  | ⟨0, _⟩ => show ((b.val * 1024 + s.val) * 28 + h.val) / 28672 = b.val; omega
  | ⟨1, _⟩ => show ((b.val * 1024 + s.val) * 28 + h.val) / 7 % 4 = h.val / 7; omega
  | ⟨2, _⟩ => show ((b.val * 1024 + s.val) * 28 + h.val) / 28 % 1024 = s.val; omega
  | ⟨3, _⟩ => show ((b.val * 1024 + s.val) * 28 + h.val) % 7 = h.val % 7; omega

theorem idx_v154 (e : Fin 3584) : idx_main_v153 (idx_main_v154 (ix3 b s e))
    = ix5 b ⟨e.val / 896, by have := e.isLt; omega⟩ s ⟨e.val / 128 % 7, Nat.mod_lt _ (by norm_num)⟩ ⟨e.val % 128, Nat.mod_lt _ (by norm_num)⟩ := by
  have hb := b.isLt; have hs := s.isLt; have he := e.isLt
  refine funext fun a => Fin.ext ?_
  match a with
  | ⟨0, _⟩ => show ((b.val * 1024 + s.val) * 3584 + e.val) / 3670016 = b.val; omega
  | ⟨1, _⟩ => show ((b.val * 1024 + s.val) * 3584 + e.val) / 896 % 4 = e.val / 896; omega
  | ⟨2, _⟩ => show ((b.val * 1024 + s.val) * 3584 + e.val) / 3584 % 1024 = s.val; omega
  | ⟨3, _⟩ => show ((b.val * 1024 + s.val) * 3584 + e.val) / 128 % 7 = e.val / 128 % 7; omega
  | ⟨4, _⟩ => show ((b.val * 1024 + s.val) * 3584 + e.val) % 128 = e.val % 128; omega

/-! The results. -/

include hw in
theorem result155 : val_main_v155 (F := Ideal) (a1 I) (a4 I) (a5 I) (a8 I) (a9 I) (a12 I) (a13 I) w (b0 I) (b1 I) (b2 I) (b3 I) (b4 I) (b5 I) (b6 I) = KernelIdeal.Gen.G14 I := by
  funext i
  obtain ⟨b, s, e, rfl⟩ : ∃ (b : Fin 24) (s : Fin 1024) (e : Fin 3584), i = ix3 b s e := ⟨_, _, _, eq_ix3 i⟩
  have he := e.isLt
  rw [val_main_v155_apply, val_main_v154_apply, val_main_v153_apply, idx_v154, joined_at I w _ _ _ _ _ hw]
  refine (KernelIdeal.Gen.G14_at I b s _ _ e ?_).symm
  show e.val = (e.val / 896 * 7 + e.val / 128 % 7) * 128 + e.val % 128
  omega

theorem result159 : val_main_v159 (F := Ideal) (a1 I) (a4 I) (b0 I) (b1 I) = KernelIdeal.Gen.R3 (Spec.prompt I) := by
  funext i
  obtain ⟨b, s, h, rfl⟩ : ∃ (b : Fin 24) (s : Fin 1024) (h : Fin 28), i = ix3 b s h := ⟨_, _, _, eq_ix3 i⟩
  rw [val_main_v159_apply, val_main_v157_apply, val_main_v156_apply, idx_v157, lse_p, head_split, val_main_v158_apply, val_main_cst_16_apply]
  show _ = Spec.lseP I b s h - Ideal.ofBits .f32 0x41243805#32
  generalize Spec.lseP I b s h = p
  rfl

theorem result168 : val_main_v168 (F := Ideal) (a1 I) (a8 I) (b0 I) (b3 I) = KernelIdeal.Gen.R3 (Spec.completion I) := by
  funext i
  obtain ⟨b, s, h, rfl⟩ : ∃ (b : Fin 24) (s : Fin 1024) (h : Fin 28), i = ix3 b s h := ⟨_, _, _, eq_ix3 i⟩
  have n : val_main_v164 (F := Ideal) (idx_main_v166 (idx_main_v167 (ix3 b s h))) = FloatOps.sitofp (F := Ideal) .f32 (BitVec.ofNat 32 (s.val + 1)) := by
    rw [val_main_v164_apply, val_main_v163_apply, val_main_cst_17_apply]
    exact count s
  rw [val_main_v168_apply, val_main_v161_apply, val_main_v160_apply, val_main_v167_apply, val_main_v166_apply, val_main_v165_apply, n]
  have l : val_main_v123 (F := Ideal) (a1 I) (a8 I) (b0 I) (b3 I) (idx_main_v160 (idx_main_v161 (ix3 b s h))) = Spec.lseC I b s h := (congrArg (val_main_v123 (F := Ideal) (a1 I) (a8 I) (b0 I) (b3 I)) (idx_v157 b s h)).trans
    ((lse_c I b s _ _).trans (congrArg (Spec.lseC I b s) (head_split h)))
  rw [l]
  show _ = Spec.lseC I b s h - Ideal.log (FloatOps.sitofp (F := Ideal) .f32 (BitVec.ofNat 32 (s.val + 1)))
  generalize Spec.lseC I b s h = p
  rfl

include hw in
theorem result172 : val_main_v172 (F := Ideal) (a1 I) (a12 I) w (b0 I) (b5 I) = KernelIdeal.Gen.R3 (Spec.mid I) := by
  funext i
  obtain ⟨b, s, h, rfl⟩ : ∃ (b : Fin 24) (s : Fin 1024) (h : Fin 28), i = ix3 b s h := ⟨_, _, _, eq_ix3 i⟩
  rw [val_main_v172_apply, val_main_v170_apply, val_main_v169_apply, val_main_v171_apply, val_main_cst_18_apply]
  have l : val_main_v88 (F := Ideal) (a1 I) (a12 I) w (b0 I) (b5 I) (idx_main_v169 (idx_main_v170 (ix3 b s h))) = Spec.lseM I b s h := (congrArg (val_main_v88 (F := Ideal) (a1 I) (a12 I) w (b0 I) (b5 I)) (idx_v157 b s h)).trans
    ((lse_m I w b s _ _ hw).trans (congrArg (Spec.lseM I b s) (head_split h)))
  rw [l]
  show _ = Spec.lseM I b s h - Ideal.ofBits .f32 0x40BE6BAA#32
  generalize Spec.lseM I b s h = p
  rfl

/-- The reference's arguments are the specification's inputs. -/
structure Holds (m : (ℓ : Loc nD τ sig) → Buf (Elt Ideal) ℓ) (c : Dev nD) : Prop where
  h0 : (m ((c.tc : Thread nD τ).loc main_arg0) : (S24x1024x28x128 : Shape).Idx → EReal) = b0 I
  h1 : (m ((c.tc : Thread nD τ).loc main_arg1) : (S24x1024x28 : Shape).Idx → EReal) = a1 I
  h2 : (m ((c.tc : Thread nD τ).loc main_arg2) : (S28672x4x128 : Shape).Idx → EReal) = b1 I
  h3 : (m ((c.tc : Thread nD τ).loc main_arg3) : (S28672x4x128 : Shape).Idx → EReal) = b2 I
  h4 : (m ((c.tc : Thread nD τ).loc main_arg4) : (S28672x4 : Shape).Idx → EReal) = a4 I
  h5 : (m ((c.tc : Thread nD τ).loc main_arg5) : (S28672x4 : Shape).Idx → EReal) = a5 I
  h6 : (m ((c.tc : Thread nD τ).loc main_arg6) : (S24x1024x4x128 : Shape).Idx → EReal) = b3 I
  h7 : (m ((c.tc : Thread nD τ).loc main_arg7) : (S24x1024x4x128 : Shape).Idx → EReal) = b4 I
  h8 : (m ((c.tc : Thread nD τ).loc main_arg8) : (S24x1024x4 : Shape).Idx → EReal) = a8 I
  h9 : (m ((c.tc : Thread nD τ).loc main_arg9) : (S24x1024x4 : Shape).Idx → EReal) = a9 I
  h10 : (m ((c.tc : Thread nD τ).loc main_arg10) : (S3x384x4x128 : Shape).Idx → EReal) = b5 I
  h11 : (m ((c.tc : Thread nD τ).loc main_arg11) : (S3x384x4x128 : Shape).Idx → EReal) = b6 I
  h12 : (m ((c.tc : Thread nD τ).loc main_arg12) : (S3x384x4 : Shape).Idx → EReal) = a12 I
  h13 : (m ((c.tc : Thread nD τ).loc main_arg13) : (S3x384x4 : Shape).Idx → EReal) = a13 I
  h14 : ∀ b : Fin 24, (m ((c.tc : Thread nD τ).loc main_arg14) (ix1 b) : BitVec 32).toNat = (I.mid b).val

variable {I} {m : (ℓ : Loc nD τ sig) → Buf (Elt Ideal) ℓ} {c : Dev nD} (h : Holds I m c)

include h

theorem wide0 : Value.exitV m c (Proc.devRef .tc main_v0_0) = b0 I := (Value.exit_main_v0_0 m c).trans ((region0 m c).trans h.h0)
theorem wide1 : Value.exitV m c (Proc.devRef .tc main_v0_1) = b1 I := (Value.exit_main_v0_1 m c).trans ((region1 m c).trans h.h2)
theorem wide2 : Value.exitV m c (Proc.devRef .tc main_v0_2) = b2 I := (Value.exit_main_v0_2 m c).trans ((region2 m c).trans h.h3)
theorem wide3 : Value.exitV m c (Proc.devRef .tc main_v0_3) = b3 I := (Value.exit_main_v0_3 m c).trans ((region3 m c).trans h.h6)
theorem wide4 : Value.exitV m c (Proc.devRef .tc main_v0_4) = b4 I := (Value.exit_main_v0_4 m c).trans ((region4 m c).trans h.h7)
theorem wide5 : Value.exitV m c (Proc.devRef .tc main_v0_5) = b5 I := (Value.exit_main_v0_5 m c).trans ((region5 m c).trans h.h10)
theorem wide6 : Value.exitV m c (Proc.devRef .tc main_v0_6) = b6 I := (Value.exit_main_v0_6 m c).trans ((region6 m c).trans h.h11)
theorem plain1 : Value.exitV m c (Proc.devRef .tc main_arg1) = a1 I := (Value.exit_main_arg1 m c).trans h.h1
theorem plain4 : Value.exitV m c (Proc.devRef .tc main_arg4) = a4 I := (Value.exit_main_arg4 m c).trans h.h4
theorem plain5 : Value.exitV m c (Proc.devRef .tc main_arg5) = a5 I := (Value.exit_main_arg5 m c).trans h.h5
theorem plain8 : Value.exitV m c (Proc.devRef .tc main_arg8) = a8 I := (Value.exit_main_arg8 m c).trans h.h8
theorem plain9 : Value.exitV m c (Proc.devRef .tc main_arg9) = a9 I := (Value.exit_main_arg9 m c).trans h.h9
theorem plain12 : Value.exitV m c (Proc.devRef .tc main_arg12) = a12 I := (Value.exit_main_arg12 m c).trans h.h12
theorem plain13 : Value.exitV m c (Proc.devRef .tc main_arg13) = a13 I := (Value.exit_main_arg13 m c).trans h.h13

theorem value155 : val_main_v155 (F := Ideal) (Value.exitV m c (Proc.devRef .tc main_arg1)) (Value.exitV m c (Proc.devRef .tc main_arg4)) (Value.exitV m c (Proc.devRef .tc main_arg5)) (Value.exitV m c (Proc.devRef .tc main_arg8)) (Value.exitV m c (Proc.devRef .tc main_arg9)) (Value.exitV m c (Proc.devRef .tc main_arg12)) (Value.exitV m c (Proc.devRef .tc main_arg13)) (Value.exitV m c (Proc.devRef .tc main_arg14)) (Value.exitV m c (Proc.devRef .tc main_v0_0)) (Value.exitV m c (Proc.devRef .tc main_v0_1)) (Value.exitV m c (Proc.devRef .tc main_v0_2)) (Value.exitV m c (Proc.devRef .tc main_v0_3)) (Value.exitV m c (Proc.devRef .tc main_v0_4)) (Value.exitV m c (Proc.devRef .tc main_v0_5)) (Value.exitV m c (Proc.devRef .tc main_v0_6)) = KernelIdeal.Gen.G14 I := by
  rw [plain1 h, plain4 h, plain5 h, plain8 h, plain9 h, plain12 h, plain13 h, Value.exit_main_arg14 m c, wide0 h, wide1 h, wide2 h, wide3 h, wide4 h, wide5 h, wide6 h]
  exact result155 I _ h.h14

theorem value159 : val_main_v159 (F := Ideal) (Value.exitV m c (Proc.devRef .tc main_arg1)) (Value.exitV m c (Proc.devRef .tc main_arg4)) (Value.exitV m c (Proc.devRef .tc main_v0_0)) (Value.exitV m c (Proc.devRef .tc main_v0_1)) = KernelIdeal.Gen.R3 (Spec.prompt I) := by
  rw [plain1 h, plain4 h, wide0 h, wide1 h]
  exact result159 I

theorem value168 : val_main_v168 (F := Ideal) (Value.exitV m c (Proc.devRef .tc main_arg1)) (Value.exitV m c (Proc.devRef .tc main_arg8)) (Value.exitV m c (Proc.devRef .tc main_v0_0)) (Value.exitV m c (Proc.devRef .tc main_v0_3)) = KernelIdeal.Gen.R3 (Spec.completion I) := by
  rw [plain1 h, plain8 h, wide0 h, wide3 h]
  exact result168 I

theorem value172 : val_main_v172 (F := Ideal) (Value.exitV m c (Proc.devRef .tc main_arg1)) (Value.exitV m c (Proc.devRef .tc main_arg12)) (Value.exitV m c (Proc.devRef .tc main_arg14)) (Value.exitV m c (Proc.devRef .tc main_v0_0)) (Value.exitV m c (Proc.devRef .tc main_v0_5)) = KernelIdeal.Gen.R3 (Spec.mid I) := by
  rw [plain1 h, plain12 h, Value.exit_main_arg14 m c, wide0 h, wide5 h]
  exact result172 I _ h.h14

omit h in
/-- The reference's results and its arguments after its run. -/
theorem run (m : (ℓ : Loc nD τ sig) → Buf (Elt Ideal) ℓ) (I : Dev nD → Spec.Inputs) (h : ∀ c, Holds (I c) m c) (ρ : Dev nD → PrngReg) :
    θ_run defs (onTc (τ := τ) (main (F := Ideal))) ⟨m, fun _ => 0, ρ⟩ (fun r => ∀ c : Dev nD,
      r.2.mem ((c.tc : Thread nD τ).loc main_v155) = KernelIdeal.Gen.G14 (I c)
      ∧ r.2.mem ((c.tc : Thread nD τ).loc main_v159) = KernelIdeal.Gen.R3 (Spec.prompt (I c))
      ∧ r.2.mem ((c.tc : Thread nD τ).loc main_v168) = KernelIdeal.Gen.R3 (Spec.completion (I c))
      ∧ r.2.mem ((c.tc : Thread nD τ).loc main_v172) = KernelIdeal.Gen.R3 (Spec.mid (I c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ e c => ⟨(e c).1.trans ((val_main_v155_eq (Value.exitV m c)).trans (value155 (h c))),
    (e c).2.1.trans ((val_main_v159_eq (Value.exitV m c)).trans (value159 (h c))),
    (e c).2.2.1.trans ((val_main_v168_eq (Value.exitV m c)).trans (value168 (h c))),
    (e c).2.2.2.1.trans ((val_main_v172_eq (Value.exitV m c)).trans (value172 (h c))),
    (e c).2.2.2.2⟩) (Value.run m ρ)

end Cert.ReferenceIdeal.Read

end
-- ==== Proof.Algebraic.lean ====
/- The kernel's results and the reference's are the same functions of their arguments. -/
module

public import proofs.«01_k».proof.Proof.RefResults
public import proofs.«01_k».proof.Proof.Table
public import proofs.«01_k».proof.Defs

@[expose] public section

set_option maxRecDepth 16384

noncomputable section

namespace Cert.Proof

open Idealize.ShloMosaic Idealize.ShloMosaic.TcCoe Idealize.SL.Sem

/-- The reference's arguments, equal to the kernel's, are the kernel's inputs. -/
theorem holds (m : (ℓ : Loc KernelIdeal.nD KernelIdeal.τ KernelIdeal.sig) → Buf (Elt Ideal) ℓ)
    (hT : ∀ b : Fin 24, (KernelIdeal.Gen.tbl m 0 (ix1 b) : BitVec 32).toNat < 3)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (h9 : m' ((c.tc : Thread ReferenceIdeal.nD ReferenceIdeal.τ).loc ReferenceIdeal.main_arg9) = m ((c.tc : Thread KernelIdeal.nD KernelIdeal.τ).loc KernelIdeal.main_arg9))
    (h10 : m' ((c.tc : Thread ReferenceIdeal.nD ReferenceIdeal.τ).loc ReferenceIdeal.main_arg10) = m ((c.tc : Thread KernelIdeal.nD KernelIdeal.τ).loc KernelIdeal.main_arg10))
    (h11 : m' ((c.tc : Thread ReferenceIdeal.nD ReferenceIdeal.τ).loc ReferenceIdeal.main_arg11) = m ((c.tc : Thread KernelIdeal.nD KernelIdeal.τ).loc KernelIdeal.main_arg11))
    (h12 : m' ((c.tc : Thread ReferenceIdeal.nD ReferenceIdeal.τ).loc ReferenceIdeal.main_arg12) = m ((c.tc : Thread KernelIdeal.nD KernelIdeal.τ).loc KernelIdeal.main_arg12))
    (h13 : m' ((c.tc : Thread ReferenceIdeal.nD ReferenceIdeal.τ).loc ReferenceIdeal.main_arg13) = m ((c.tc : Thread KernelIdeal.nD KernelIdeal.τ).loc KernelIdeal.main_arg13))
    (h14 : m' ((c.tc : Thread ReferenceIdeal.nD ReferenceIdeal.τ).loc ReferenceIdeal.main_arg14) = m ((c.tc : Thread KernelIdeal.nD KernelIdeal.τ).loc KernelIdeal.main_arg14)) :
    ReferenceIdeal.Read.Holds (KernelIdeal.Gen.inputs m hT c) m' c where
  h0 := h0.trans (funext fun i => congrArg (KernelIdeal.Gen.arg m c KernelIdeal.main_arg0) (eq_ix4 i))
  h1 := h1.trans (funext fun i => congrArg (KernelIdeal.Gen.arg m c KernelIdeal.main_arg1) (eq_ix3 i))
  h2 := h2.trans (funext fun i => congrArg (KernelIdeal.Gen.arg m c KernelIdeal.main_arg2) (eq_ix3 i))
  h3 := h3.trans (funext fun i => congrArg (KernelIdeal.Gen.arg m c KernelIdeal.main_arg3) (eq_ix3 i))
  h4 := h4.trans (funext fun i => congrArg (KernelIdeal.Gen.arg m c KernelIdeal.main_arg4) (eq_ix2 i))
  h5 := h5.trans (funext fun i => congrArg (KernelIdeal.Gen.arg m c KernelIdeal.main_arg5) (eq_ix2 i))
  h6 := h6.trans (funext fun i => congrArg (KernelIdeal.Gen.arg m c KernelIdeal.main_arg6) (eq_ix4 i))
  h7 := h7.trans (funext fun i => congrArg (KernelIdeal.Gen.arg m c KernelIdeal.main_arg7) (eq_ix4 i))
  h8 := h8.trans (funext fun i => congrArg (KernelIdeal.Gen.arg m c KernelIdeal.main_arg8) (eq_ix3 i))
  h9 := h9.trans (funext fun i => congrArg (KernelIdeal.Gen.arg m c KernelIdeal.main_arg9) (eq_ix3 i))
  h10 := h10.trans (funext fun i => congrArg (KernelIdeal.Gen.arg m c KernelIdeal.main_arg10) (eq_ix4 i))
  h11 := h11.trans (funext fun i => congrArg (KernelIdeal.Gen.arg m c KernelIdeal.main_arg11) (eq_ix4 i))
  h12 := h12.trans (funext fun i => congrArg (KernelIdeal.Gen.arg m c KernelIdeal.main_arg12) (eq_ix3 i))
  h13 := h13.trans (funext fun i => congrArg (KernelIdeal.Gen.arg m c KernelIdeal.main_arg13) (eq_ix3 i))
  h14 b := by
    rw [h14]
    obtain rfl : c = 0 := Subsingleton.elim _ _
    rfl

/-- The kernel's four results are the reference's. -/
theorem algebraic : Cert.algebraic_KernelIdeal_ReferenceIdeal (hKernelIdeal := Cert.KernelIdeal.Gen.facts)
    (hReferenceIdeal := Cert.ReferenceIdeal.Gen.facts) (hPre_mid_in_range := Cert.Pre_mid_in_range.Gen.facts) := by
  intro m g m' g' hp e
  have hT := KernelIdeal.Gen.tbl_lt m hp
  refine ⟨_, _, _, _, KernelIdeal.Gen.run m (KernelIdeal.Gen.ok_of_pre m hp) hT g, ReferenceIdeal.Read.run m' (KernelIdeal.Gen.inputs m hT) (fun c => ?_) g'⟩
  obtain ⟨h0, h1, h2, h3, h4, h5, h6, h7, h8, h9, h10, h11, h12, h13, h14⟩ := e c
  exact holds m hT m' c h0 h1 h2 h3 h4 h5 h6 h7 h8 h9 h10 h11 h12 h13 h14

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Read
public import proofs.«01_k».proof.Proof.Gen.Pre_mid_in_range
public import proofs.«01_k».proof.Proof.Table
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_mid_in_range.Gen.facts,
    fun m ρ h => Cert.Kernel.Gen.frame m ρ (Cert.Kernel.Gen.ok_of_pre m h),
    fun m ρ h => Cert.KernelIdeal.Gen.frame m ρ (Cert.KernelIdeal.Gen.ok_of_pre m h),
    fun m ρ _ => Cert.ReferenceIdeal.Gen.frame m ρ,
    ⟨IdealRules.named_const.statement Cert.KernelIdeal.κ "scale_log2e" .f32 0x3E0293EE#32 (((11863283 / 134217728) * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩,
    algebraic⟩

end Cert.Proof

end
